-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_on_sample_rows_pre_decays [hKernelIdeal : Cert.KernelIdeal.Facts] [hReferenceIdeal : Cert.ReferenceIdeal.Facts] [hPre_decays : Cert.Pre_decays.Facts] [hOn_sample_rows : Cert.On_sample_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 8, 512]⟩ : Shape).Idx, (Cert.On_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨4, ![128, 4, 128, 128]⟩ : Shape).Idx, (Cert.On_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 8, 512]⟩ : Shape).Idx, (Cert.On_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v67) i = v0 c i)
          ∧ (∀ i : (⟨4, ![128, 4, 128, 128]⟩ : Shape).Idx, (Cert.On_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v48) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)) (v8 : (c : Dev Cert.Kernel2Ideal.nD) → Buf (Elt Ideal) ((c.tc : Thread Cert.Kernel2Ideal.nD Cert.Kernel2Ideal.τ).loc Cert.Kernel2Ideal.main_v5_8)) (v9 : (c : Dev Cert.Kernel2Ideal.nD) → Buf (Elt Ideal) ((c.tc : Thread Cert.Kernel2Ideal.nD Cert.Kernel2Ideal.τ).loc Cert.Kernel2Ideal.main_v5_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_v5_8) = v8 c
          ∧ r.2.mem ((c.tc : Thread Cert.Kernel2Ideal.nD Cert.Kernel2Ideal.τ).loc Cert.Kernel2Ideal.main_v5_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_v63) = v5 c
          ∧ r.2.mem ((c.tc : Thread Cert.Reference2Ideal.nD Cert.Reference2Ideal.τ).loc Cert.Reference2Ideal.main_v64) = v6 c
          ∧ r.2.mem ((c.tc : Thread Cert.Reference2Ideal.nD Cert.Reference2Ideal.τ).loc Cert.Reference2Ideal.main_v65) = v7 c
          ∧ r.2.mem ((c.tc : Thread Cert.Reference2Ideal.nD Cert.Reference2Ideal.τ).loc Cert.Reference2Ideal.main_v66) = v8 c
          ∧ r.2.mem ((c.tc : Thread Cert.Reference2Ideal.nD Cert.Reference2Ideal.τ).loc Cert.Reference2Ideal.main_v67) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_on_token_rows [hKernel3Ideal : Cert.Kernel3Ideal.Facts] [hReference3Ideal : Cert.Reference3Ideal.Facts] [hOn_token_rows : Cert.On_token_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)) (v7 : (c : Dev Cert.Kernel3Ideal.nD) → Buf (Elt Ideal) ((c.tc : Thread Cert.Kernel3Ideal.nD Cert.Kernel3Ideal.τ).loc Cert.Kernel3Ideal.main_v4_7)) (v8 : (c : Dev Cert.Kernel3Ideal.nD) → Buf (Elt Ideal) ((c.tc : Thread Cert.Kernel3Ideal.nD Cert.Kernel3Ideal.τ).loc Cert.Kernel3Ideal.main_v4_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Kernel3Ideal.nD Cert.Kernel3Ideal.τ).loc Cert.Kernel3Ideal.main_v4_0) i = v0 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 i = 1#1 → r.2.mem ((c.tc : Thread Cert.Kernel3Ideal.nD Cert.Kernel3Ideal.τ).loc Cert.Kernel3Ideal.main_v4_1) i = v1 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 i = 1#1 → r.2.mem ((c.tc : Thread Cert.Kernel3Ideal.nD Cert.Kernel3Ideal.τ).loc Cert.Kernel3Ideal.main_v4_2) i = v2 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.1 i = 1#1 → r.2.mem ((c.tc : Thread Cert.Kernel3Ideal.nD Cert.Kernel3Ideal.τ).loc Cert.Kernel3Ideal.main_v4_3) i = v3 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.1 i = 1#1 → r.2.mem ((c.tc : Thread Cert.Kernel3Ideal.nD Cert.Kernel3Ideal.τ).loc Cert.Kernel3Ideal.main_v4_4) i = v4 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.1 i = 1#1 → r.2.mem ((c.tc : Thread Cert.Kernel3Ideal.nD Cert.Kernel3Ideal.τ).loc Cert.Kernel3Ideal.main_v4_5) i = v5 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.1 i = 1#1 → r.2.mem ((c.tc : Thread Cert.Kernel3Ideal.nD Cert.Kernel3Ideal.τ).loc Cert.Kernel3Ideal.main_v4_6) i = v6 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.2.1 i = 1#1 → r.2.mem ((c.tc : Thread Cert.Kernel3Ideal.nD Cert.Kernel3Ideal.τ).loc Cert.Kernel3Ideal.main_v4_7) i = v7 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.2.2 i = 1#1 → r.2.mem ((c.tc : Thread Cert.Kernel3Ideal.nD Cert.Kernel3Ideal.τ).loc Cert.Kernel3Ideal.main_v4_8) i = v8 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Reference3Ideal.nD Cert.Reference3Ideal.τ).loc Cert.Reference3Ideal.main_v59) i = v0 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 i = 1#1 → r.2.mem ((c.tc : Thread Cert.Reference3Ideal.nD Cert.Reference3Ideal.τ).loc Cert.Reference3Ideal.main_v61) i = v1 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 i = 1#1 → r.2.mem ((c.tc : Thread Cert.Reference3Ideal.nD Cert.Reference3Ideal.τ).loc Cert.Reference3Ideal.main_v63) i = v2 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.1 i = 1#1 → r.2.mem ((c.tc : Thread Cert.Reference3Ideal.nD Cert.Reference3Ideal.τ).loc Cert.Reference3Ideal.main_v65) i = v3 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.1 i = 1#1 → r.2.mem ((c.tc : Thread Cert.Reference3Ideal.nD Cert.Reference3Ideal.τ).loc Cert.Reference3Ideal.main_v67) i = v4 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.1 i = 1#1 → r.2.mem ((c.tc : Thread Cert.Reference3Ideal.nD Cert.Reference3Ideal.τ).loc Cert.Reference3Ideal.main_v69) i = v5 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.1 i = 1#1 → r.2.mem ((c.tc : Thread Cert.Reference3Ideal.nD Cert.Reference3Ideal.τ).loc Cert.Reference3Ideal.main_v71) i = v6 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.2.1 i = 1#1 → r.2.mem ((c.tc : Thread Cert.Reference3Ideal.nD Cert.Reference3Ideal.τ).loc Cert.Reference3Ideal.main_v73) i = v7 c i)
          ∧ (∀ i : (⟨2, ![1024, 512]⟩ : Shape).Idx, (Cert.On_token_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2.2.2.2.2.2 i = 1#1 → r.2.mem ((c.tc : Thread Cert.Reference3Ideal.nD Cert.Reference3Ideal.τ).loc Cert.Reference3Ideal.main_v75) i = v8 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_on_mixed_rows [hKernel5Ideal : Cert.Kernel5Ideal.Facts] [hReference5Ideal : Cert.Reference5Ideal.Facts] [hOn_mixed_rows : Cert.On_mixed_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![1024, 1024]⟩ : Shape).Idx, (Cert.On_mixed_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Kernel5Ideal.nD Cert.Kernel5Ideal.τ).loc Cert.Kernel5Ideal.main_v7) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![1024, 1024]⟩ : Shape).Idx, (Cert.On_mixed_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Reference5Ideal.nD Cert.Reference5Ideal.τ).loc Cert.Reference5Ideal.main_v23) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_decays : Cert.Pre_decays.Facts) (hPre_finite : Cert.Pre_finite.Facts) (hOn_sample_rows : Cert.On_sample_rows.Facts) (hOn_token_rows : Cert.On_token_rows.Facts) (hOn_mixed_rows : Cert.On_mixed_rows.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_on_sample_rows_pre_decays (hKernelIdeal := hKernelIdeal) (hReferenceIdeal := hReferenceIdeal) (hPre_decays := hPre_decays) (hOn_sample_rows := hOn_sample_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_token_rows (hKernel3Ideal := hKernel3Ideal) (hReference3Ideal := hReference3Ideal) (hOn_token_rows := hOn_token_rows)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_mixed_rows (hKernel5Ideal := hKernel5Ideal) (hReference5Ideal := hReference5Ideal) (hOn_mixed_rows := hOn_mixed_rows)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_mixed_rows.lean ====
abbrev S128x8x512 : Shape := ⟨3, ![128, 8, 512]⟩
abbrev S128x4x1024 : Shape := ⟨3, ![128, 4, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S128x8x512 .f32) (main_arg1 : FVec F S128x8x512 .f32) (main_arg2 : FVec F S128x8x512 .f32) (main_arg3 : FVec F S128x4x1024 .f32) (main_arg4 : FVec F S1x1024x1024 .f32) (main_arg5 : FVec F S1x1024 .f32) : IVec S1024x1024 1 :=
  let main_v0 : IVec S1024x1024 32 := iotaInDim S1024x1024 32 0
  let main_c : IVec S_ 32 := constantI S_ 32 7#32
  let main_v1 : IVec S1024x1024 32 := broadcastInDim S1024x1024 ![] bcast_S_S1024x1024 main_c
  let main_v2 : IVec S1024x1024 32 := andi main_v0 main_v1
  let main_c_0 : IVec S_ 32 := constantI S_ 32 4#32
  let main_v3 : IVec S1024x1024 32 := broadcastInDim S1024x1024 ![] bcast_S_S1024x1024 main_c_0
  let main_v4 : IVec S1024x1024 1 := cmpi .slt main_v2 main_v3
  main_v4
-- ==== On_sample_rows.lean ====
abbrev S128x8x512 : Shape := ⟨3, ![128, 8, 512]⟩
abbrev S128x4x128x128 : Shape := ⟨4, ![128, 4, 128, 128]⟩
abbrev S1x128 : Shape := ⟨2, ![1, 128]⟩
abbrev S_ : Shape := ⟨0, ![]⟩

class Facts : Prop where
  bcast_S_S128x8x512 : S_.BroadcastsInDim S128x8x512 (![] : Fin 0 → Fin S128x8x512.rank)
  bcast_S_S128x4x128x128 : S_.BroadcastsInDim S128x4x128x128 (![] : Fin 0 → Fin S128x4x128x128.rank)

variable [Facts]

def fn {F : FTy → Type} [FloatOps F] (main_arg0 : FVec F S128x8x512 .f32) (main_arg1 : FVec F S128x8x512 .f32) (main_arg2 : FVec F S128x8x512 .f32) (main_arg3 : FVec F S128x8x512 .f32) (main_arg4 : FVec F S128x8x512 .f32) (main_arg5 : FVec F S128x4x128x128 .f32) (main_arg6 : FVec F S1x128 .f32) : IVec S128x8x512 1 × IVec S128x4x128x128 1 :=
  let main_v0 : IVec S128x8x512 32 := iotaInDim S128x8x512 32 1
  let main_c : IVec S_ 32 := constantI S_ 32 4#32
  let main_v1 : IVec S128x8x512 32 := broadcastInDim S128x8x512 ![] bcast_S_S128x8x512 main_c
  let main_v2 : IVec S128x8x512 1 := cmpi .slt main_v0 main_v1
  let main_v3 : IVec S128x4x128x128 32 := iotaInDim S128x4x128x128 32 0
  let main_c_0 : IVec S_ 32 := constantI S_ 32 128#32
  let main_v4 : IVec S128x4x128x128 32 := broadcastInDim S128x4x128x128 ![] bcast_S_S128x4x128x128 main_c_0
  let main_v5 : IVec S128x4x128x128 1 := cmpi .slt main_v3 main_v4
  (main_v2, main_v5)
-- ==== On_token_rows.lean ====
abbrev S128x4x1024 : Shape := ⟨3, ![128, 4, 1024]⟩
abbrev S1x1024 : Shape := ⟨2, ![1, 1024]⟩
abbrev S1x1024x4096 : Shape := ⟨3, ![1, 1024, 4096]⟩
abbrev S2x512 : Shape := ⟨2, ![2, 512]⟩
abbrev S1024x512 : Shape := ⟨2, ![1024, 512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S128x4x1024 .f32) (main_arg1 : FVec F S1x1024 .f32) (main_arg2 : FVec F S1x1024x4096 .f32) (main_arg3 : FVec F S2x512 .f32) : IVec S1024x512 1 × IVec S1024x512 1 × IVec S1024x512 1 × IVec S1024x512 1 × IVec S1024x512 1 × IVec S1024x512 1 × IVec S1024x512 1 × IVec S1024x512 1 × IVec S1024x512 1 :=
  let main_v0 : IVec S1024x512 32 := iotaInDim S1024x512 32 0
  let main_c : IVec S_ 32 := constantI S_ 32 7#32
  let main_v1 : IVec S1024x512 32 := broadcastInDim S1024x512 ![] bcast_S_S1024x512 main_c
  let main_v2 : IVec S1024x512 32 := andi main_v0 main_v1
  let main_c_0 : IVec S_ 32 := constantI S_ 32 4#32
  let main_v3 : IVec S1024x512 32 := broadcastInDim S1024x512 ![] bcast_S_S1024x512 main_c_0
  let main_v4 : IVec S1024x512 1 := cmpi .slt main_v2 main_v3
  (main_v4, main_v4, main_v4, main_v4, main_v4, main_v4, main_v4, main_v4, main_v4)
-- ==== Pre_decays.lean ====
abbrev S128x8x512 : Shape := ⟨3, ![128, 8, 512]⟩
abbrev S128x4x128x128 : Shape := ⟨4, ![128, 4, 128, 128]⟩
abbrev S1x128 : Shape := ⟨2, ![1, 128]⟩
abbrev S_ : Shape := ⟨0, ![]⟩

class Facts : Prop where
  bcast_S_S128x8x512 : S_.BroadcastsInDim S128x8x512 (![] : Fin 0 → Fin S128x8x512.rank)

variable [Facts]

def fn {F : FTy → Type} [FloatOps F] (main_arg0 : FVec F S128x8x512 .f32) (main_arg1 : FVec F S128x8x512 .f32) (main_arg2 : FVec F S128x8x512 .f32) (main_arg3 : FVec F S128x8x512 .f32) (main_arg4 : FVec F S128x8x512 .f32) (main_arg5 : FVec F S128x4x128x128 .f32) (main_arg6 : FVec F S1x128 .f32) : IVec S128x8x512 1 :=
  let main_cst : FVec F S_ .f32 := constant S_ .f32 0x00000000#32
  let main_v0 : FVec F S128x8x512 .f32 := broadcastInDim S128x8x512 ![] bcast_S_S128x8x512 main_cst
  let main_v1 : IVec S128x8x512 1 := cmpf .ole main_arg1 main_v0
  main_v1
-- ==== Pre_finite.lean ====
abbrev S4x512x4096 : Shape := ⟨3, ![4, 512, 4096]⟩
abbrev S4x4096x512 : Shape := ⟨3, ![4, 4096, 512]⟩
abbrev S_ : Shape := ⟨0, ![]⟩

class Facts : Prop where
  bcast_S_S4x512x4096 : S_.BroadcastsInDim S4x512x4096 (![] : Fin 0 → Fin S4x512x4096.rank)
  transposes_S4x4096x512_S4x512x4096_0_2_1 : S4x4096x512.Transposes [0, 2, 1] S4x512x4096

variable [Facts]

def fn {F : FTy → Type} [FloatOps F] (main_arg0 : FVec F S4x512x4096 .f32) (main_arg1 : FVec F S4x4096x512 .f32) : IVec S4x512x4096 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_v3 : FVec F S4x512x4096 .f32 := (transpose S4x512x4096 [0, 2, 1] · transposes_S4x4096x512_S4x512x4096_0_2_1) main_arg1
  let main_v4 : FVec F S4x512x4096 .f32 := Host.absf main_v3
  let main_cst_0 : FVec F S_ .f32 := constant S_ .f32 0x7F800000#32
  let main_v5 : FVec F S4x512x4096 .f32 := broadcastInDim S4x512x4096 ![] bcast_S_S4x512x4096 main_cst_0
  let main_v6 : IVec S4x512x4096 1 := cmpf .olt main_v4 main_v5
  let main_v7 : IVec S4x512x4096 1 := andi main_v2 main_v6
  main_v7
-- ==== Kernel.lean ====
abbrev S128x8x512 : Shape := ⟨3, ![128, 8, 512]⟩
abbrev S128x4x128x128 : Shape := ⟨4, ![128, 4, 128, 128]⟩
abbrev S1x128 : Shape := ⟨2, ![1, 128]⟩
abbrev S32x8x128 : Shape := ⟨3, ![32, 8, 128]⟩
abbrev S32x1x128x128 : Shape := ⟨4, ![32, 1, 128, 128]⟩
abbrev S8x1 : Shape := ⟨2, ![8, 1]⟩
abbrev S1x1x128 : Shape := ⟨3, ![1, 1, 128]⟩
abbrev S1x8x128 : Shape := ⟨3, ![1, 8, 128]⟩
abbrev S8x128 : Shape := ⟨2, ![8, 128]⟩
abbrev S1x1x128x128 : Shape := ⟨4, ![1, 1, 128, 128]⟩
abbrev S128x128 : Shape := ⟨2, ![128, 128]⟩
abbrev S8 : Shape := ⟨1, ![8]⟩

abbrev nBuf : Space → Nat
  | .hbm => 9
  | .vmem => 18
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .f32⟩
  | .hbm, ⟨5, _⟩ => ⟨S128x4x128x128, .f32⟩
  | .hbm, ⟨6, _⟩ => ⟨S1x128, .f32⟩
  | .hbm, ⟨7, _⟩ => ⟨S128x8x512, .f32⟩
  | .hbm, ⟨8, _⟩ => ⟨S128x4x128x128, .f32⟩
  | .local _ .vmem, ⟨0, _⟩ => ⟨S32x8x128, .f32⟩
  | .local _ .vmem, ⟨1, _⟩ => ⟨S32x8x128, .f32⟩
  | .local _ .vmem, ⟨2, _⟩ => ⟨S32x8x128, .f32⟩
  | .local _ .vmem, ⟨3, _⟩ => ⟨S32x8x128, .f32⟩
  | .local _ .vmem, ⟨4, _⟩ => ⟨S32x8x128, .f32⟩
  | .local _ .vmem, ⟨5, _⟩ => ⟨S32x8x128, .f32⟩
  | .local _ .vmem, ⟨6, _⟩ => ⟨S32x8x128, .f32⟩
  | .local _ .vmem, ⟨7, _⟩ => ⟨S32x8x128, .f32⟩
  | .local _ .vmem, ⟨8, _⟩ => ⟨S32x8x128, .f32⟩
  | .local _ .vmem, ⟨9, _⟩ => ⟨S32x8x128, .f32⟩
  | .local _ .vmem, ⟨10, _⟩ => ⟨S32x1x128x128, .f32⟩
  | .local _ .vmem, ⟨11, _⟩ => ⟨S32x1x128x128, .f32⟩
  | .local _ .vmem, ⟨12, _⟩ => ⟨S1x128, .f32⟩
  | .local _ .vmem, ⟨13, _⟩ => ⟨S32x8x128, .f32⟩
  | .local _ .vmem, ⟨14, _⟩ => ⟨S32x8x128, .f32⟩
  | .local _ .vmem, ⟨15, _⟩ => ⟨S32x1x128x128, .f32⟩
  | .local _ .vmem, ⟨16, _⟩ => ⟨S32x1x128x128, .f32⟩
  | .local _ .vmem, ⟨17, _⟩ => ⟨S32x8x128, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S128x8x512 : Shape := ⟨3, ![128, 8, 512]⟩
abbrev S128x4x128x128 : Shape := ⟨4, ![128, 4, 128, 128]⟩
abbrev S1x128 : Shape := ⟨2, ![1, 128]⟩
abbrev S128x4x512 : Shape := ⟨3, ![128, 4, 512]⟩
abbrev S128x4x4x128 : Shape := ⟨4, ![128, 4, 4, 128]⟩
abbrev S_ : Shape := ⟨0, ![]⟩
abbrev S4x4 : Shape := ⟨2, ![4, 4]⟩
abbrev S4x4x1 : Shape := ⟨3, ![4, 4, 1]⟩
abbrev S128x4x4x1x128 : Shape := ⟨5, ![128, 4, 4, 1, 128]⟩
abbrev S128x4x1x4x128 : Shape := ⟨5, ![128, 4, 1, 4, 128]⟩
abbrev S128x4x4x4x128 : Shape := ⟨5, ![128, 4, 4, 4, 128]⟩
abbrev S128x4x4x4 : Shape := ⟨4, ![128, 4, 4, 4]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S128 : Shape := ⟨1, ![128]⟩
abbrev S1x1x1x128 : Shape := ⟨4, ![1, 1, 1, 128]⟩

abbrev nBuf : Space → Nat
  | .hbm => 96
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .f32⟩
  | .hbm, ⟨5, _⟩ => ⟨S128x4x128x128, .f32⟩
  | .hbm, ⟨6, _⟩ => ⟨S1x128, .f32⟩
  | .hbm, ⟨7, _⟩ => ⟨S128x4x512, .f32⟩
  | .hbm, ⟨8, _⟩ => ⟨S128x4x4x128, .f32⟩
  | .hbm, ⟨9, _⟩ => ⟨S128x4x4x128, .f32⟩
  | .hbm, ⟨10, _⟩ => ⟨S128x4x512, .f32⟩
  | .hbm, ⟨11, _⟩ => ⟨S128x4x4x128, .f32⟩
  | .hbm, ⟨12, _⟩ => ⟨S128x4x4x128, .f32⟩
  | .hbm, ⟨13, _⟩ => ⟨S128x4x512, .f32⟩
  | .hbm, ⟨14, _⟩ => ⟨S128x4x4x128, .f32⟩
  | .hbm, ⟨15, _⟩ => ⟨S128x4x4x128, .f32⟩
  | .hbm, ⟨16, _⟩ => ⟨S128x4x512, .f32⟩
  | .hbm, ⟨17, _⟩ => ⟨S128x4x4x128, .f32⟩
  | .hbm, ⟨18, _⟩ => ⟨S128x4x4x128, .f32⟩
  | .hbm, ⟨19, _⟩ => ⟨S128x4x512, .f32⟩
  | .hbm, ⟨20, _⟩ => ⟨S128x4x4x128, .f32⟩
  | .hbm, ⟨21, _⟩ => ⟨S128x4x4x128, .f32⟩
  | .hbm, ⟨22, _⟩ => ⟨S_, .f32⟩
  | .hbm, ⟨23, _⟩ => ⟨S_, .f32⟩
  | .hbm, ⟨24, _⟩ => ⟨S128x4x4x128, .f32⟩
  | .hbm, ⟨25, _⟩ => ⟨S128x4x4x128, .f32⟩
  | .hbm, ⟨26, _⟩ => ⟨S128x4x4x128, .f32⟩
  | .hbm, ⟨27, _⟩ => ⟨S128x4x4x128, .f32⟩
  | .hbm, ⟨28, _⟩ => ⟨S_, .i1⟩
  | .hbm, ⟨29, _⟩ => ⟨S4x4, .i1⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S_, .i1⟩
  | .hbm, ⟨37, _⟩ => ⟨S4x4, .i1⟩
  | .hbm, ⟨38, _⟩ => ⟨S4x4, .i1⟩
  | .hbm, ⟨39, _⟩ => ⟨S4x4x1, .i1⟩
  | .hbm, ⟨40, _⟩ => ⟨S128x4x4x1x128, .f32⟩
  | .hbm, ⟨41, _⟩ => ⟨S128x4x1x4x128, .f32⟩
  | .hbm, ⟨42, _⟩ => ⟨S128x4x4x4x128, .f32⟩
  | .hbm, ⟨43, _⟩ => ⟨S128x4x4x4x128, .f32⟩
  | .hbm, ⟨44, _⟩ => ⟨S128x4x4x4x128, .f32⟩
  | .hbm, ⟨45, _⟩ => ⟨S_, .f32⟩
  | .hbm, ⟨46, _⟩ => ⟨S_, .f32⟩
  | .hbm, ⟨47, _⟩ => ⟨S128x4x4x4x128, .i1⟩
  | .hbm, ⟨48, _⟩ => ⟨S128x4x4x4x128, .f32⟩
  | .hbm, ⟨49, _⟩ => ⟨S128x4x4x4x128, .f32⟩
  | .hbm, ⟨50, _⟩ => ⟨S128x4x4x4x128, .f32⟩
  | .hbm, ⟨51, _⟩ => ⟨S128x4x4x1x128, .f32⟩
  | .hbm, ⟨52, _⟩ => ⟨S128x4x1x4x128, .f32⟩
  | .hbm, ⟨53, _⟩ => ⟨S128x4x4x4x128, .f32⟩
  | .hbm, ⟨54, _⟩ => ⟨S128x4x4x4x128, .f32⟩
  | .hbm, ⟨55, _⟩ => ⟨S128x4x4x4x128, .f32⟩
  | .hbm, ⟨56, _⟩ => ⟨S128x4x4x4x128, .f32⟩
  | .hbm, ⟨57, _⟩ => ⟨S_, .f32⟩
  | .hbm, ⟨58, _⟩ => ⟨S128x4x4x4, .f32⟩
  | .hbm, ⟨59, _⟩ => ⟨S128x4x4x128, .f32⟩
  | .hbm, ⟨60, _⟩ => ⟨S128x4x1x128, .f32⟩
  | .hbm, ⟨61, _⟩ => ⟨S128x4x128, .f32⟩
  | .hbm, ⟨62, _⟩ => ⟨S128x4x128, .f32⟩
  | .hbm, ⟨63, _⟩ => ⟨S128x4x128x1, .f32⟩
  | .hbm, ⟨64, _⟩ => ⟨S128x4x128x128, .f32⟩
  | .hbm, ⟨65, _⟩ => ⟨S128x4x128x128, .f32⟩
  | .hbm, ⟨66, _⟩ => ⟨S128x4x4x128, .f32⟩
  | .hbm, ⟨67, _⟩ => ⟨S128x4x4x128, .f32⟩
  | .hbm, ⟨68, _⟩ => ⟨S128x4x4x128, .f32⟩
  | .hbm, ⟨69, _⟩ => ⟨S128x4x4x128, .f32⟩
  | .hbm, ⟨70, _⟩ => ⟨S128x4x128x128, .f32⟩
  | .hbm, ⟨71, _⟩ => ⟨S128x4x128x128, .f32⟩
  | .hbm, ⟨72, _⟩ => ⟨S128x4x4x128, .f32⟩
  | .hbm, ⟨73, _⟩ => ⟨S128x4x4x128, .f32⟩
  | .hbm, ⟨74, _⟩ => ⟨S_, .f32⟩
  | .hbm, ⟨75, _⟩ => ⟨S128x4x4, .f32⟩
  | .hbm, ⟨76, _⟩ => ⟨S128x4x4x1, .f32⟩
  | .hbm, ⟨77, _⟩ => ⟨S_, .f32⟩
  | .hbm, ⟨78, _⟩ => ⟨S128x4x4x1, .f32⟩
  | .hbm, ⟨79, _⟩ => ⟨S128x4x4x1, .f32⟩
  | .hbm, ⟨80, _⟩ => ⟨S_, .f32⟩
  | .hbm, ⟨81, _⟩ => ⟨S128x4x4x1, .f32⟩
  | .hbm, ⟨82, _⟩ => ⟨S128x4x4x1, .f32⟩
  | .hbm, ⟨83, _⟩ => ⟨S128x4x4x1, .f32⟩
  | .hbm, ⟨84, _⟩ => ⟨S128x4x4x128, .f32⟩
  | .hbm, ⟨85, _⟩ => ⟨S128x4x4x128, .f32⟩
  | .hbm, ⟨86, _⟩ => ⟨S128, .f32⟩
  | .hbm, ⟨87, _⟩ => ⟨S1x1x1x128, .f32⟩
  | .hbm, ⟨88, _⟩ => ⟨S128x4x4x128, .f32⟩
  | .hbm, ⟨89, _⟩ => ⟨S128x4x4x128, .f32⟩
  | .hbm, ⟨90, _⟩ => ⟨S128x4x4x128, .f32⟩
  | .hbm, ⟨91, _⟩ => ⟨S128x4x4x128, .f32⟩
  | .hbm, ⟨92, _⟩ => ⟨S128x4x512, .f32⟩
  | .hbm, ⟨93, _⟩ => ⟨S_, .i32⟩
  | .hbm, ⟨94, _⟩ => ⟨S_, .f32⟩
  | .hbm, ⟨95, _⟩ => ⟨S128x8x512, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_1 : Ref sig .tc := ⟨.hbm, 74, rfl⟩
abbrev main_v51 : Ref sig .tc := ⟨.hbm, 75, rfl⟩
abbrev main_v52 : Ref sig .tc := ⟨.hbm, 76, rfl⟩
abbrev main_cst_2 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_4 : Ref sig .tc := ⟨.hbm, 93, rfl⟩
abbrev main_call3_v0 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x4096 : Shape := ⟨3, ![1, 1024, 4096]⟩
abbrev S2x512 : Shape := ⟨2, ![2, 512]⟩
abbrev S16384x1024 : Shape := ⟨2, ![16384, 1024]⟩
abbrev S1024x4096 : Shape := ⟨2, ![1024, 4096]⟩
abbrev S1024x1536 : Shape := ⟨2, ![1024, 1536]⟩
abbrev S1536x1024 : Shape := ⟨2, ![1536, 1024]⟩
abbrev S16384x512 : Shape := ⟨2, ![16384, 512]⟩
abbrev S4x512x4096 : Shape := ⟨3, ![4, 512, 4096]⟩
abbrev S512x1024 : Shape := ⟨2, ![512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 19
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S2x512, .f32⟩
  | .hbm, ⟨4, _⟩ => ⟨S16384x1024, .f32⟩
  | .hbm, ⟨5, _⟩ => ⟨S1024x4096, .f32⟩
  | .hbm, ⟨6, _⟩ => ⟨S1024x4096, .bf16⟩
  | .hbm, ⟨7, _⟩ => ⟨S1024x1536, .bf16⟩
  | .hbm, ⟨8, _⟩ => ⟨S1536x1024, .bf16⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S4x512x4096, .f32⟩
  | .hbm, ⟨17, _⟩ => ⟨S4x512x4096, .f32⟩
  | .hbm, ⟨18, _⟩ => ⟨S4x512x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S2x512, .f32⟩
  | .local _ .vmem, ⟨5, _⟩ => ⟨S1536x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v5_6 : Ref sig .tc := ⟨.hbm, 15, rfl⟩
abbrev main_v5_7 : Ref sig .tc := ⟨.hbm, 16, rfl⟩
abbrev main_v5_8 : Ref sig .tc := ⟨.hbm, 17, rfl⟩
abbrev main_v5_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x4096x1024 : Shape := ⟨3, ![4, 4096, 1024]⟩
abbrev S1x1024 : Shape := ⟨2, ![1, 1024]⟩
abbrev S1x1024x4096 : Shape := ⟨3, ![1, 1024, 4096]⟩
abbrev S2x512 : Shape := ⟨2, ![2, 512]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4x4096x512 : Shape := ⟨3, ![4, 4096, 512]⟩
abbrev S512 : Shape := ⟨1, ![512]⟩
abbrev S1x512 : Shape := ⟨2, ![1, 512]⟩
abbrev S1x1x512 : Shape := ⟨3, ![1, 1, 512]⟩
abbrev S16384x512 : Shape := ⟨2, ![16384, 512]⟩
abbrev S4x512x4096 : Shape := ⟨3, ![4, 512, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S2x512, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x4096, .f32⟩
  | .hbm, ⟨22, _⟩ => ⟨S4x4096x4096, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S2x512, .f32⟩
  | .hbm, ⟨38, _⟩ => ⟨S2x512, .f32⟩
  | .hbm, ⟨39, _⟩ => ⟨S2x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S2x512, .f32⟩
  | .hbm, ⟨44, _⟩ => ⟨S2x512, .f32⟩
  | .hbm, ⟨45, _⟩ => ⟨S_, .f32⟩
  | .hbm, ⟨46, _⟩ => ⟨S_, .f32⟩
  | .hbm, ⟨47, _⟩ => ⟨S2x512, .f32⟩
  | .hbm, ⟨48, _⟩ => ⟨S1x512, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S4x4096x512, .f32⟩
  | .hbm, ⟨54, _⟩ => ⟨S4x4096x512, .f32⟩
  | .hbm, ⟨55, _⟩ => ⟨S_, .f32⟩
  | .hbm, ⟨56, _⟩ => ⟨S4x4096x512, .f32⟩
  | .hbm, ⟨57, _⟩ => ⟨S4x4096x512, .f32⟩
  | .hbm, ⟨58, _⟩ => ⟨S_, .f32⟩
  | .hbm, ⟨59, _⟩ => ⟨S4x4096x512, .f32⟩
  | .hbm, ⟨60, _⟩ => ⟨S4x4096x512, .f32⟩
  | .hbm, ⟨61, _⟩ => ⟨S1x1x512, .f32⟩
  | .hbm, ⟨62, _⟩ => ⟨S4x4096x512, .f32⟩
  | .hbm, ⟨63, _⟩ => ⟨S4x4096x512, .f32⟩
  | .hbm, ⟨64, _⟩ => ⟨S1x1x512, .f32⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S4x4096x512, .f32⟩
  | .hbm, ⟨69, _⟩ => ⟨S_, .f32⟩
  | .hbm, ⟨70, _⟩ => ⟨S4x4096x512, .f32⟩
  | .hbm, ⟨71, _⟩ => ⟨S4x4096x512, .f32⟩
  | .hbm, ⟨72, _⟩ => ⟨S_, .f32⟩
  | .hbm, ⟨73, _⟩ => ⟨S4x4096x512, .f32⟩
  | .hbm, ⟨74, _⟩ => ⟨S4x4096x512, .f32⟩
  | .hbm, ⟨75, _⟩ => ⟨S4x4096x512, .f32⟩
  | .hbm, ⟨76, _⟩ => ⟨S4x4096x512, .f32⟩
  | .hbm, ⟨77, _⟩ => ⟨S_, .f32⟩
  | .hbm, ⟨78, _⟩ => ⟨S4x4096x512, .f32⟩
  | .hbm, ⟨79, _⟩ => ⟨S4x4096x512, .f32⟩
  | .hbm, ⟨80, _⟩ => ⟨S4x4096x512, .f32⟩
  | .hbm, ⟨81, _⟩ => ⟨S4x4096x512, .f32⟩
  | .hbm, ⟨82, _⟩ => ⟨S_, .f32⟩
  | .hbm, ⟨83, _⟩ => ⟨S4x4096x512, .f32⟩
  | .hbm, ⟨84, _⟩ => ⟨S4x4096x512, .f32⟩
  | .hbm, ⟨85, _⟩ => ⟨S_, .f32⟩
  | .hbm, ⟨86, _⟩ => ⟨S4x4096x512, .f32⟩
  | .hbm, ⟨87, _⟩ => ⟨S4x4096x512, .f32⟩
  | .hbm, ⟨88, _⟩ => ⟨S4x4096x512, .f32⟩
  | .hbm, ⟨89, _⟩ => ⟨S4x4096x512, .f32⟩
  | .hbm, ⟨90, _⟩ => ⟨S4x4096x512, .f32⟩
  | .hbm, ⟨91, _⟩ => ⟨S_, .f32⟩
  | .hbm, ⟨92, _⟩ => ⟨S4x4096x512, .f32⟩
  | .hbm, ⟨93, _⟩ => ⟨S4x4096x512, .f32⟩
  | .hbm, ⟨94, _⟩ => ⟨S_, .f32⟩
  | .hbm, ⟨95, _⟩ => ⟨S4x4096x512, .f32⟩
  | .hbm, ⟨96, _⟩ => ⟨S4x4096x512, .f32⟩
  | .hbm, ⟨97, _⟩ => ⟨S4x4096x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S4x512x4096, .f32⟩
  | .hbm, ⟨106, _⟩ => ⟨S4x512x4096, .f32⟩
  | .hbm, ⟨107, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_call0_cst : Ref sig .tc := ⟨.hbm, 45, rfl⟩
abbrev main_call0_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v56 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]
-- ==== Kernel3.lean ====
abbrev S128x4x1024 : Shape := ⟨3, ![128, 4, 1024]⟩
abbrev S1x1024 : Shape := ⟨2, ![1, 1024]⟩
abbrev S1x1024x4096 : Shape := ⟨3, ![1, 1024, 4096]⟩
abbrev S2x512 : Shape := ⟨2, ![2, 512]⟩
abbrev S_ : Shape := ⟨0, ![]⟩
abbrev S128x8x1024 : Shape := ⟨3, ![128, 8, 1024]⟩
abbrev S1024x1024 : Shape := ⟨2, ![1024, 1024]⟩
abbrev S1024x4096 : Shape := ⟨2, ![1024, 4096]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S1x512 : Shape := ⟨2, ![1, 512]⟩

abbrev nBuf : Space → Nat
  | .hbm => 19
  | .vmem => 23
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x4096, .f32⟩
  | .hbm, ⟨3, _⟩ => ⟨S2x512, .f32⟩
  | .hbm, ⟨4, _⟩ => ⟨S_, .i32⟩
  | .hbm, ⟨5, _⟩ => ⟨S_, .f32⟩
  | .hbm, ⟨6, _⟩ => ⟨S128x8x1024, .f32⟩
  | .hbm, ⟨7, _⟩ => ⟨S1024x1024, .f32⟩
  | .hbm, ⟨8, _⟩ => ⟨S1024x4096, .f32⟩
  | .hbm, ⟨9, _⟩ => ⟨S1024x4096, .bf16⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S2x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S128x4x1024 : Shape := ⟨3, ![128, 4, 1024]⟩
abbrev S1x1024 : Shape := ⟨2, ![1, 1024]⟩
abbrev S1x1024x4096 : Shape := ⟨3, ![1, 1024, 4096]⟩
abbrev S2x512 : Shape := ⟨2, ![2, 512]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x4096 : Shape := ⟨2, ![1024, 4096]⟩
abbrev S128x4x4096 : Shape := ⟨3, ![128, 4, 4096]⟩
abbrev S128x4x512 : Shape := ⟨3, ![128, 4, 512]⟩
abbrev S512 : Shape := ⟨1, ![512]⟩
abbrev S1x512 : Shape := ⟨2, ![1, 512]⟩
abbrev S1x1x512 : Shape := ⟨3, ![1, 1, 512]⟩
abbrev S128x8x512 : Shape := ⟨3, ![128, 8, 512]⟩
abbrev S1024x512 : Shape := ⟨2, ![1024, 512]⟩

abbrev nBuf : Space → Nat
  | .hbm => 134
  | .vmem => 0
  | .smem => 0
  | _ => 0

abbrev hbmTy0_0 (i : Nat) : BufTy := match i % 128 with
  | 0 => ⟨S128x4x1024, .f32⟩
  | 1 => ⟨S1x1024, .f32⟩
  | 2 => ⟨S1x1024x4096, .f32⟩
  | 3 => ⟨S2x512, .f32⟩
  | 4 => ⟨S1024, .f32⟩
  | 5 => ⟨S128x4x1024, .f32⟩
  | 6 => ⟨S_, .f32⟩
  | 7 => ⟨S128x4, .f32⟩
  | 8 => ⟨S128x4x1, .f32⟩
  | 9 => ⟨S_, .f32⟩
  | 10 => ⟨S128x4x1, .f32⟩
  | 11 => ⟨S128x4x1, .f32⟩
  | 12 => ⟨S_, .f32⟩
  | 13 => ⟨S128x4x1, .f32⟩
  | 14 => ⟨S128x4x1, .f32⟩
  | 15 => ⟨S128x4x1, .f32⟩
  | 16 => ⟨S128x4x1024, .f32⟩
  | 17 => ⟨S128x4x1024, .f32⟩
  | 18 => ⟨S1x1x1024, .f32⟩
  | 19 => ⟨S128x4x1024, .f32⟩
  | 20 => ⟨S128x4x1024, .f32⟩
  | 21 => ⟨S1024x4096, .f32⟩
  | 22 => ⟨S128x4x4096, .f32⟩
  | 23 => ⟨S128x4x512, .f32⟩
  | 24 => ⟨S128x4x512, .f32⟩
  | 25 => ⟨S128x4x512, .f32⟩
  | 26 => ⟨S128x4x512, .f32⟩
  | 27 => ⟨S128x4x512, .f32⟩
  | 28 => ⟨S128x4x512, .f32⟩
  | 29 => ⟨S128x4x512, .f32⟩
  | 30 => ⟨S128x4x512, .f32⟩
  | 31 => ⟨S_, .f32⟩
  | 32 => ⟨S512, .f32⟩
  | 33 => ⟨S_, .f32⟩
  | 34 => ⟨S512, .f32⟩
  | 35 => ⟨S512, .f32⟩
  | 36 => ⟨S1x512, .f32⟩
  | 37 => ⟨S2x512, .f32⟩
  | 38 => ⟨S2x512, .f32⟩
  | 39 => ⟨S2x512, .f32⟩
  | 40 => ⟨S_, .f32⟩
  | 41 => ⟨S512, .f32⟩
  | 42 => ⟨S1x512, .f32⟩
  | 43 => ⟨S2x512, .f32⟩
  | 44 => ⟨S2x512, .f32⟩
  | 45 => ⟨S_, .f32⟩
  | 46 => ⟨S_, .f32⟩
  | 47 => ⟨S2x512, .f32⟩
  | 48 => ⟨S1x512, .f32⟩
  | 49 => ⟨S512, .f32⟩
  | 50 => ⟨S_, .f32⟩
  | 51 => ⟨S512, .f32⟩
  | 52 => ⟨S512, .f32⟩
  | 53 => ⟨S128x4x512, .f32⟩
  | 54 => ⟨S128x4x512, .f32⟩
  | 55 => ⟨S_, .f32⟩
  | 56 => ⟨S128x4x512, .f32⟩
  | 57 => ⟨S128x4x512, .f32⟩
  | 58 => ⟨S_, .f32⟩
  | 59 => ⟨S128x4x512, .f32⟩
  | 60 => ⟨S128x4x512, .f32⟩
  | 61 => ⟨S1x1x512, .f32⟩
  | 62 => ⟨S128x4x512, .f32⟩
  | 63 => ⟨S128x4x512, .f32⟩
  | 64 => ⟨S1x1x512, .f32⟩
  | 65 => ⟨S128x4x512, .f32⟩
  | 66 => ⟨S128x4x512, .f32⟩
  | 67 => ⟨S128x4x512, .f32⟩
  | 68 => ⟨S128x4x512, .f32⟩
  | 69 => ⟨S_, .f32⟩
  | 70 => ⟨S128x4x512, .f32⟩
  | 71 => ⟨S128x4x512, .f32⟩
  | 72 => ⟨S_, .f32⟩
  | 73 => ⟨S128x4x512, .f32⟩
  | 74 => ⟨S128x4x512, .f32⟩
  | 75 => ⟨S128x4x512, .f32⟩
  | 76 => ⟨S128x4x512, .f32⟩
  | 77 => ⟨S_, .f32⟩
  | 78 => ⟨S128x4x512, .f32⟩
  | 79 => ⟨S128x4x512, .f32⟩
  | 80 => ⟨S128x4x512, .f32⟩
  | 81 => ⟨S128x4x512, .f32⟩
  | 82 => ⟨S_, .f32⟩
  | 83 => ⟨S128x4x512, .f32⟩
  | 84 => ⟨S128x4x512, .f32⟩
  | 85 => ⟨S_, .f32⟩
  | 86 => ⟨S128x4x512, .f32⟩
  | 87 => ⟨S128x4x512, .f32⟩
  | 88 => ⟨S128x4x512, .f32⟩
  | 89 => ⟨S128x4x512, .f32⟩
  | 90 => ⟨S128x4x512, .f32⟩
  | 91 => ⟨S_, .f32⟩
  | 92 => ⟨S128x4x512, .f32⟩
  | 93 => ⟨S128x4x512, .f32⟩
  | 94 => ⟨S_, .f32⟩
  | 95 => ⟨S128x4x512, .f32⟩
  | 96 => ⟨S128x4x512, .f32⟩
  | 97 => ⟨S128x4x512, .f32⟩
  | 98 => ⟨S_, .i32⟩
  | 99 => ⟨S_, .f32⟩
  | 100 => ⟨S128x8x512, .f32⟩
  | 101 => ⟨S1024x512, .f32⟩
  | 102 => ⟨S_, .i32⟩
  | 103 => ⟨S_, .f32⟩
  | 104 => ⟨S128x8x512, .f32⟩
  | 105 => ⟨S1024x512, .f32⟩
  | 106 => ⟨S_, .i32⟩
  | 107 => ⟨S_, .f32⟩
  | 108 => ⟨S128x8x512, .f32⟩
  | 109 => ⟨S1024x512, .f32⟩
  | 110 => ⟨S_, .i32⟩
  | 111 => ⟨S_, .f32⟩
  | 112 => ⟨S128x8x512, .f32⟩
  | 113 => ⟨S1024x512, .f32⟩
  | 114 => ⟨S_, .i32⟩
  | 115 => ⟨S_, .f32⟩
  | 116 => ⟨S128x8x512, .f32⟩
  | 117 => ⟨S1024x512, .f32⟩
  | 118 => ⟨S_, .i32⟩
  | 119 => ⟨S_, .f32⟩
  | 120 => ⟨S128x8x512, .f32⟩
  | 121 => ⟨S1024x512, .f32⟩
  | 122 => ⟨S_, .i32⟩
  | 123 => ⟨S_, .f32⟩
  | 124 => ⟨S128x8x512, .f32⟩
  | 125 => ⟨S1024x512, .f32⟩
  | 126 => ⟨S_, .i32⟩
  | 127 => ⟨S_, .f32⟩
  | _ => ⟨S128x4x1024, .f32⟩

abbrev hbmTy0_1 (i : Nat) : BufTy := match i % 128 with
  | 0 => ⟨S128x8x512, .f32⟩
  | 1 => ⟨S1024x512, .f32⟩
  | 2 => ⟨S_, .i32⟩
  | 3 => ⟨S_, .f32⟩
  | 4 => ⟨S128x8x512, .f32⟩
  | 5 => ⟨S1024x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_call0_cst : Ref sig .tc := ⟨.hbm, 45, rfl⟩
abbrev main_call0_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v56 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v57 : Ref sig .tc := ⟨.hbm, 97, rfl⟩
abbrev main_c : Ref sig .tc := ⟨.hbm, 98, rfl⟩
abbrev main_call4_v0 : Ref sig .tc := ⟨.hbm, 99, rfl⟩
abbrev main_v58 : Ref sig .tc := ⟨.hbm, 100, rfl⟩
abbrev main_v59 : Ref sig .tc := ⟨.hbm, 101, rfl⟩
abbrev main_c_9 : Ref sig .tc := ⟨.hbm, 102, rfl⟩
abbrev main_call5_v0 : Ref sig .tc := ⟨.hbm, 103, rfl⟩
abbrev main_v60 : Ref sig .tc := ⟨.hbm, 104, rfl⟩
abbrev main_v61 : Ref sig .tc := ⟨.hbm, 105, rfl⟩
abbrev main_c_10 : Ref sig .tc := ⟨.hbm, 106, rfl⟩
abbrev main_call6_v0 : Ref sig .tc := ⟨.hbm, 107, rfl⟩
abbrev main_v62 : Ref sig .tc := ⟨.hbm, 108, rfl⟩
abbrev main_v63 : Ref sig .tc := ⟨.hbm, 109, rfl⟩
abbrev main_c_11 : Ref sig .tc := ⟨.hbm, 110, rfl⟩
abbrev main_call7_v0 : Ref sig .tc := ⟨.hbm, 111, rfl⟩
abbrev main_v64 : Ref sig .tc := ⟨.hbm, 112, rfl⟩
abbrev main_v65 : Ref sig .tc := ⟨.hbm, 113, rfl⟩
abbrev main_c_12 : Ref sig .tc := ⟨.hbm, 114, rfl⟩
abbrev main_call8_v0 : Ref sig .tc := ⟨.hbm, 115, rfl⟩
abbrev main_v66 : Ref sig .tc := ⟨.hbm, 116, rfl⟩
abbrev main_v67 : Ref sig .tc := ⟨.hbm, 117, rfl⟩
abbrev main_c_13 : Ref sig .tc := ⟨.hbm, 118, rfl⟩
abbrev main_call9_v0 : Ref sig .tc := ⟨.hbm, 119, rfl⟩
abbrev main_v68 : Ref sig .tc := ⟨.hbm, 120, rfl⟩
abbrev main_v69 : Ref sig .tc := ⟨.hbm, 121, rfl⟩
abbrev main_c_14 : Ref sig .tc := ⟨.hbm, 122, rfl⟩
abbrev main_call10_v0 : Ref sig .tc := ⟨.hbm, 123, rfl⟩
abbrev main_v70 : Ref sig .tc := ⟨.hbm, 124, rfl⟩
abbrev main_v71 : Ref sig .tc := ⟨.hbm, 125, rfl⟩
abbrev main_c_15 : Ref sig .tc := ⟨.hbm, 126, rfl⟩
abbrev main_call11_v0 : Ref sig .tc := ⟨.hbm, 127, rfl⟩
abbrev main_v72 : Ref sig .tc := ⟨.hbm, 128, rfl⟩
abbrev main_v73 : Ref sig .tc := ⟨.hbm, 129, rfl⟩
abbrev main_c_16 : Ref sig .tc := ⟨.hbm, 130, rfl⟩
abbrev main_call12_v0 : Ref sig .tc := ⟨.hbm, 131, rfl⟩
abbrev main_v74 : Ref sig .tc := ⟨.hbm, 132, rfl⟩
abbrev main_v75 : Ref sig .tc := ⟨.hbm, 133, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x1024 : Shape := ⟨3, ![4, 4096, 1024]⟩
abbrev S1x1024x1024 : Shape := ⟨3, ![1, 1024, 1024]⟩
abbrev S1x1024 : Shape := ⟨2, ![1, 1024]⟩
abbrev S16384x512 : Shape := ⟨2, ![16384, 512]⟩
abbrev S16384x1024 : Shape := ⟨2, ![16384, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩
abbrev S2048 : Shape := ⟨1, ![2048]⟩
abbrev S2048x1 : Shape := ⟨2, ![2048, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S1x1024x1024, .f32⟩
  | .hbm, ⟨4, _⟩ => ⟨S1x1024, .f32⟩
  | .hbm, ⟨5, _⟩ => ⟨S16384x512, .bf16⟩
  | .hbm, ⟨6, _⟩ => ⟨S16384x512, .bf16⟩
  | .hbm, ⟨7, _⟩ => ⟨S16384x1024, .f32⟩
  | .hbm, ⟨8, _⟩ => ⟨S1024x1024, .f32⟩
  | .hbm, ⟨9, _⟩ => ⟨S1024x1024, .bf16⟩
  | .hbm, ⟨10, _⟩ => ⟨S16384x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .f32⟩
  | .local _ .vmem, ⟨5, _⟩ => ⟨S2048x1024, .f32⟩
  | .local _ .vmem, ⟨6, _⟩ => ⟨S1024x1024, .bf16⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x4096x512 : Shape := ⟨3, ![4, 4096, 512]⟩
abbrev S4x4096x1024 : Shape := ⟨3, ![4, 4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S1x1024x1024, .f32⟩
  | .hbm, ⟨4, _⟩ => ⟨S1x1024, .f32⟩
  | .hbm, ⟨5, _⟩ => ⟨S4x4096x512, .f32⟩
  | .hbm, ⟨6, _⟩ => ⟨S4x4096x512, .f32⟩
  | .hbm, ⟨7, _⟩ => ⟨S4x4096x1024, .f32⟩
  | .hbm, ⟨8, _⟩ => ⟨S1024x1024, .f32⟩
  | .hbm, ⟨9, _⟩ => ⟨S4x4096x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S16384x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel5.lean ====
abbrev S128x8x512 : Shape := ⟨3, ![128, 8, 512]⟩
abbrev S128x4x1024 : Shape := ⟨3, ![128, 4, 1024]⟩
abbrev S1x1024x1024 : Shape := ⟨3, ![1, 1024, 1024]⟩
abbrev S1x1024 : Shape := ⟨2, ![1, 1024]⟩
abbrev S_ : Shape := ⟨0, ![]⟩
abbrev S128x8x1024 : Shape := ⟨3, ![128, 8, 1024]⟩
abbrev S1024x1024 : Shape := ⟨2, ![1024, 1024]⟩
abbrev S1024x512 : Shape := ⟨2, ![1024, 512]⟩
abbrev S256x512 : Shape := ⟨2, ![256, 512]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x512, .f32⟩
  | .hbm, ⟨3, _⟩ => ⟨S128x4x1024, .f32⟩
  | .hbm, ⟨4, _⟩ => ⟨S1x1024x1024, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S128x8x1024, .f32⟩
  | .hbm, ⟨9, _⟩ => ⟨S1024x1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1024, .bf16⟩
  | .hbm, ⟨15, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S128x8x512 : Shape := ⟨3, ![128, 8, 512]⟩
abbrev S128x4x1024 : Shape := ⟨3, ![128, 4, 1024]⟩
abbrev S1x1024x1024 : Shape := ⟨3, ![1, 1024, 1024]⟩
abbrev S1x1024 : Shape := ⟨2, ![1, 1024]⟩
abbrev S128x4x512 : Shape := ⟨3, ![128, 4, 512]⟩
abbrev S1024x1024 : Shape := ⟨2, ![1024, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x8x1024 : Shape := ⟨3, ![128, 8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x512, .f32⟩
  | .hbm, ⟨3, _⟩ => ⟨S128x4x1024, .f32⟩
  | .hbm, ⟨4, _⟩ => ⟨S1x1024x1024, .f32⟩
  | .hbm, ⟨5, _⟩ => ⟨S1x1024, .f32⟩
  | .hbm, ⟨6, _⟩ => ⟨S128x4x512, .f32⟩
  | .hbm, ⟨7, _⟩ => ⟨S128x4x512, .f32⟩
  | .hbm, ⟨8, _⟩ => ⟨S128x4x512, .f32⟩
  | .hbm, ⟨9, _⟩ => ⟨S128x4x512, .f32⟩
  | .hbm, ⟨10, _⟩ => ⟨S128x4x1024, .f32⟩
  | .hbm, ⟨11, _⟩ => ⟨S1024x1024, .f32⟩
  | .hbm, ⟨12, _⟩ => ⟨S128x4x1024, .f32⟩
  | .hbm, ⟨13, _⟩ => ⟨S1024, .f32⟩
  | .hbm, ⟨14, _⟩ => ⟨S128x4x1024, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x1024, .f32⟩
  | .hbm, ⟨26, _⟩ => ⟨S128x4x1024, .f32⟩
  | .hbm, ⟨27, _⟩ => ⟨S1x1x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S_, .i32⟩
  | .hbm, ⟨32, _⟩ => ⟨S_, .f32⟩
  | .hbm, ⟨33, _⟩ => ⟨S128x8x1024, .f32⟩
  | .hbm, ⟨34, _⟩ => ⟨S1024x1024, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel6.lean ====
abbrev S4x512x4096 : Shape := ⟨3, ![4, 512, 4096]⟩
abbrev S4x4096x512 : Shape := ⟨3, ![4, 4096, 512]⟩
abbrev S4x4x32x4096 : Shape := ⟨4, ![4, 4, 32, 4096]⟩
abbrev S1x128x4096 : Shape := ⟨3, ![1, 128, 4096]⟩
abbrev S1x4096x128 : Shape := ⟨3, ![1, 4096, 128]⟩
abbrev S1x1x32x4096 : Shape := ⟨4, ![1, 1, 32, 4096]⟩
abbrev S16x128 : Shape := ⟨2, ![16, 128]⟩
abbrev S128x4096 : Shape := ⟨2, ![128, 4096]⟩
abbrev S1x128 : Shape := ⟨2, ![1, 128]⟩
abbrev S1x256x128 : Shape := ⟨3, ![1, 256, 128]⟩
abbrev S256x128 : Shape := ⟨2, ![256, 128]⟩
abbrev S128 : Shape := ⟨1, ![128]⟩
abbrev S16x4096 : Shape := ⟨2, ![16, 4096]⟩
abbrev S4096 : Shape := ⟨1, ![4096]⟩
abbrev S1x4096 : Shape := ⟨2, ![1, 4096]⟩
abbrev S1x1x16x4096 : Shape := ⟨4, ![1, 1, 16, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4x512x4096, .f32⟩
  | .hbm, ⟨1, _⟩ => ⟨S4x4096x512, .f32⟩
  | .hbm, ⟨2, _⟩ => ⟨S4x4x32x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x4096x128, .f32⟩
  | .local _ .vmem, ⟨3, _⟩ => ⟨S1x4096x128, .f32⟩
  | .local _ .vmem, ⟨4, _⟩ => ⟨S1x1x32x4096, .f32⟩
  | .local _ .vmem, ⟨5, _⟩ => ⟨S1x1x32x4096, .f32⟩
  | .local _ .vmem, ⟨6, _⟩ => ⟨S16x128, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x512x4096 : Shape := ⟨3, ![4, 512, 4096]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x16x256x8x64 : Shape := ⟨5, ![4, 16, 256, 8, 64]⟩
abbrev S4x8x16x256x64 : Shape := ⟨5, ![4, 8, 16, 256, 64]⟩
abbrev S_ : Shape := ⟨0, ![]⟩
abbrev S4x8x16x64 : Shape := ⟨4, ![4, 8, 16, 64]⟩
abbrev S4096 : Shape := ⟨1, ![4096]⟩
abbrev S16 : Shape := ⟨1, ![16]⟩
abbrev S4x8x4096x16 : Shape := ⟨4, ![4, 8, 4096, 16]⟩
abbrev S1x16 : Shape := ⟨2, ![1, 16]⟩
abbrev S4096x1 : Shape := ⟨2, ![4096, 1]⟩
abbrev S4096x16 : Shape := ⟨2, ![4096, 16]⟩
abbrev S4x8x4096x3 : Shape := ⟨4, ![4, 8, 4096, 3]⟩
abbrev S4x8x4096x3x1 : Shape := ⟨5, ![4, 8, 4096, 3, 1]⟩
abbrev S1x1x1x1x16 : Shape := ⟨5, ![1, 1, 1, 1, 16]⟩
abbrev S4x8x4096x3x16 : Shape := ⟨5, ![4, 8, 4096, 3, 16]⟩
abbrev S1x1x4096x16 : Shape := ⟨4, ![1, 1, 4096, 16]⟩
abbrev S4x8x16x4096 : Shape := ⟨4, ![4, 8, 16, 4096]⟩
abbrev S4x4x32x4096 : Shape := ⟨4, ![4, 4, 32, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x4096x512, .f32⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x16x256x8x64, .f32⟩
  | .hbm, ⟨6, _⟩ => ⟨S4x8x16x256x64, .f32⟩
  | .hbm, ⟨7, _⟩ => ⟨S_, .f32⟩
  | .hbm, ⟨8, _⟩ => ⟨S4x8x16x64, .f32⟩
  | .hbm, ⟨9, _⟩ => ⟨S_, .f32⟩
  | .hbm, ⟨10, _⟩ => ⟨S4x8x16x64, .f32⟩
  | .hbm, ⟨11, _⟩ => ⟨S4x8x16x64, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S16, .i32⟩
  | .hbm, ⟨32, _⟩ => ⟨S4x8x4096x16, .f32⟩
  | .hbm, ⟨33, _⟩ => ⟨S1x16, .i32⟩
  | .hbm, ⟨34, _⟩ => ⟨S4096x1, .i32⟩
  | .hbm, ⟨35, _⟩ => ⟨S4096x16, .i32⟩
  | .hbm, ⟨36, _⟩ => ⟨S4096x16, .i32⟩
  | .hbm, ⟨37, _⟩ => ⟨S4096x16, .i1⟩
  | .hbm, ⟨38, _⟩ => ⟨S_, .f32⟩
  | .hbm, ⟨39, _⟩ => ⟨S_, .f32⟩
  | .hbm, ⟨40, _⟩ => ⟨S4x8x4096x16, .i1⟩
  | .hbm, ⟨41, _⟩ => ⟨S4x8x4096x16, .f32⟩
  | .hbm, ⟨42, _⟩ => ⟨S4x8x4096x16, .f32⟩
  | .hbm, ⟨43, _⟩ => ⟨S4x8x4096x3, .f32⟩
  | .hbm, ⟨44, _⟩ => ⟨S4x8x4096x3, .i32⟩
  | .hbm, ⟨45, _⟩ => ⟨S4x8x4096x3x1, .i32⟩
  | .hbm, ⟨46, _⟩ => ⟨S1x1x1x1x16, .i32⟩
  | .hbm, ⟨47, _⟩ => ⟨S4x8x4096x3x16, .i32⟩
  | .hbm, ⟨48, _⟩ => ⟨S4x8x4096x3x16, .i32⟩
  | .hbm, ⟨49, _⟩ => ⟨S4x8x4096x3x16, .i1⟩
  | .hbm, ⟨50, _⟩ => ⟨S4x8x4096x3, .f32⟩
  | .hbm, ⟨51, _⟩ => ⟨S_, .f32⟩
  | .hbm, ⟨52, _⟩ => ⟨S4x8x4096x3, .f32⟩
  | .hbm, ⟨53, _⟩ => ⟨S4x8x4096x3, .i1⟩
  | .hbm, ⟨54, _⟩ => ⟨S4x8x4096x3x1, .i1⟩
  | .hbm, ⟨55, _⟩ => ⟨S4x8x4096x3x16, .i1⟩
  | .hbm, ⟨56, _⟩ => ⟨S4x8x4096x3x16, .i1⟩
  | .hbm, ⟨57, _⟩ => ⟨S_, .i1⟩
  | .hbm, ⟨58, _⟩ => ⟨S4x8x4096x16, .i1⟩
  | .hbm, ⟨59, _⟩ => ⟨S1x16, .i32⟩
  | .hbm, ⟨60, _⟩ => ⟨S4096x1, .i32⟩
  | .hbm, ⟨61, _⟩ => ⟨S4096x16, .i32⟩
  | .hbm, ⟨62, _⟩ => ⟨S4096x16, .i32⟩
  | .hbm, ⟨63, _⟩ => ⟨S4096x16, .i1⟩
  | .hbm, ⟨64, _⟩ => ⟨S1x1x4096x16, .i1⟩
  | .hbm, ⟨65, _⟩ => ⟨S4x8x4096x16, .i1⟩
  | .hbm, ⟨66, _⟩ => ⟨S4x8x4096x16, .i1⟩
  | .hbm, ⟨67, _⟩ => ⟨S_, .f32⟩
  | .hbm, ⟨68, _⟩ => ⟨S_, .f32⟩
  | .hbm, ⟨69, _⟩ => ⟨S4x8x4096x16, .f32⟩
  | .hbm, ⟨70, _⟩ => ⟨S4x8x4096x16, .f32⟩
  | .hbm, ⟨71, _⟩ => ⟨S4x8x4096x16, .f32⟩
  | .hbm, ⟨72, _⟩ => ⟨S4x8x16x4096, .f32⟩
  | .hbm, ⟨73, _⟩ => ⟨S4x4x32x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_values : Ref sig .tc := ⟨.hbm, 43, rfl⟩
abbrev main_indices : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_cst_5 : Ref sig .tc := ⟨.hbm, 68, rfl⟩
abbrev main_call2_v0 : Ref sig .tc := ⟨.hbm, 69, rfl⟩
abbrev main_call2_v1 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩

abbrev nD : Nat := 1
abbrev τ : Topo := Topo.v7x

variable {F : FTy → Type} [FloatOps F]
-- ==== Kernel7.lean ====
abbrev S32x8 : Shape := ⟨2, ![32, 8]⟩
abbrev S64x2176 : Shape := ⟨2, ![64, 2176]⟩
abbrev S8x2176 : Shape := ⟨2, ![8, 2176]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S64x2176, .f32⟩
  | .local _ .vmem, ⟨0, _⟩ => ⟨S8x2176, .f32⟩
  | .local _ .vmem, ⟨1, _⟩ => ⟨S8x2176, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v12 : Index := Scalar.indexCast arg0
  ![0, v12.toNat]
def k0_off2 (i : grid0.Coords) : Fin 2 → Nat :=
  let c1 : Index := 1#32
  let arg0 : BitVec 32 := BitVec.ofNat 32 (i 0).val
  let v17 : Index := Scalar.indexCast arg0
  ![1, v17.toNat]
def k0_off3 (i : grid0.Coords) : Fin 2 → Nat :=
  let c2 : Index := 2#32
  let arg0 : BitVec 32 := BitVec.ofNat 32 (i 0).val
  let v23 : Index := Scalar.indexCast arg0
  ![2, v23.toNat]
def k0_off4 (i : grid0.Coords) : Fin 2 → Nat :=
  let c3 : Index := 3#32
  let arg0 : BitVec 32 := BitVec.ofNat 32 (i 0).val
  let v29 : Index := Scalar.indexCast arg0
  ![3, v29.toNat]
def k0_off5 (i : grid0.Coords) : Fin 2 → Nat :=
  let c4 : Index := 4#32
  let arg0 : BitVec 32 := BitVec.ofNat 32 (i 0).val
  let v35 : Index := Scalar.indexCast arg0
  ![4, v35.toNat]
def k0_off6 (i : grid0.Coords) : Fin 2 → Nat :=
  let c5 : Index := 5#32
  let arg0 : BitVec 32 := BitVec.ofNat 32 (i 0).val
  let v41 : Index := Scalar.indexCast arg0
  ![5, v41.toNat]
def k0_off7 (i : grid0.Coords) : Fin 2 → Nat :=
  let c6 : Index := 6#32
  let arg0 : BitVec 32 := BitVec.ofNat 32 (i 0).val
  let v47 : Index := Scalar.indexCast arg0
  ![6, v47.toNat]
def k0_off8 (i : grid0.Coords) : Fin 2 → Nat :=
  let c7 : Index := 7#32
  let arg0 : BitVec 32 := BitVec.ofNat 32 (i 0).val
  let v53 : Index := Scalar.indexCast arg0
  ![7, v53.toNat]
def k0_off9 (i : grid0.Coords) : Fin 2 → Nat :=
  let c8 : Index := 8#32
  let arg0 : BitVec 32 := BitVec.ofNat 32 (i 0).val
  let v59 : Index := Scalar.indexCast arg0
  ![8, v59.toNat]
def k0_off10 (i : grid0.Coords) : Fin 2 → Nat :=
  let c9 : Index := 9#32
  let arg0 : BitVec 32 := BitVec.ofNat 32 (i 0).val
  let v65 : Index := Scalar.indexCast arg0
  ![9, v65.toNat]
def k0_off11 (i : grid0.Coords) : Fin 2 → Nat :=
  let c10 : Index := 10#32
  let arg0 : BitVec 32 := BitVec.ofNat 32 (i 0).val
  let v71 : Index := Scalar.indexCast arg0
  ![10, v71.toNat]
def k0_off12 (i : grid0.Coords) : Fin 2 → Nat :=
  let c11 : Index := 11#32
  let arg0 : BitVec 32 := BitVec.ofNat 32 (i 0).val
  let v77 : Index := Scalar.indexCast arg0
  ![11, v77.toNat]
def k0_off13 (i : grid0.Coords) : Fin 2 → Nat :=
  let c12 : Index := 12#32
  let arg0 : BitVec 32 := BitVec.ofNat 32 (i 0).val
  let v83 : Index := Scalar.indexCast arg0
  ![12, v83.toNat]
def k0_off14 (i : grid0.Coords) : Fin 2 → Nat :=
  let c13 : Index := 13#32
  let arg0 : BitVec 32 := BitVec.ofNat 32 (i 0).val
  let v89 : Index := Scalar.indexCast arg0
  ![13, v89.toNat]
def k0_off15 (i : grid0.Coords) : Fin 2 → Nat :=
  let c14 : Index := 14#32
  let arg0 : BitVec 32 := BitVec.ofNat 32 (i 0).val
  let v95 : Index := Scalar.indexCast arg0
  ![14, v95.toNat]
def k0_off16 (i : grid0.Coords) : Fin 2 → Nat :=
  let c15 : Index := 15#32
  let arg0 : BitVec 32 := BitVec.ofNat 32 (i 0).val
  let v101 : Index := Scalar.indexCast arg0
  ![15, v101.toNat]
def k0_off17 (i : grid0.Coords) : Fin 2 → Nat :=
  let c16 : Index := 16#32
  let arg0 : BitVec 32 := BitVec.ofNat 32 (i 0).val
  let v107 : Index := Scalar.indexCast arg0
  ![16, v107.toNat]
def k0_off18 (i : grid0.Coords) : Fin 2 → Nat :=
  let c17 : Index := 17#32
  let arg0 : BitVec 32 := BitVec.ofNat 32 (i 0).val
  let v113 : Index := Scalar.indexCast arg0
  ![17, v113.toNat]
def k0_off19 (i : grid0.Coords) : Fin 2 → Nat :=
  let c18 : Index := 18#32
  let arg0 : BitVec 32 := BitVec.ofNat 32 (i 0).val
  let v119 : Index := Scalar.indexCast arg0
  ![18, v119.toNat]
def k0_off20 (i : grid0.Coords) : Fin 2 → Nat :=
  let c19 : Index := 19#32
  let arg0 : BitVec 32 := BitVec.ofNat 32 (i 0).val
  let v125 : Index := Scalar.indexCast arg0
  ![19, v125.toNat]
def k0_off21 (i : grid0.Coords) : Fin 2 → Nat :=
  let c20 : Index := 20#32
  let arg0 : BitVec 32 := BitVec.ofNat 32 (i 0).val
  let v131 : Index := Scalar.indexCast arg0
  ![20, v131.toNat]
def k0_off22 (i : grid0.Coords) : Fin 2 → Nat :=
  let c21 : Index := 21#32
  let arg0 : BitVec 32 := BitVec.ofNat 32 (i 0).val
  let v137 : Index := Scalar.indexCast arg0
  ![21, v137.toNat]
def k0_off23 (i : grid0.Coords) : Fin 2 → Nat :=
  let c22 : Index := 22#32
  let arg0 : BitVec 32 := BitVec.ofNat 32 (i 0).val
  let v143 : Index := Scalar.indexCast arg0
  ![22, v143.toNat]
def k0_off24 (i : grid0.Coords) : Fin 2 → Nat :=
  let c23 : Index := 23#32
  let arg0 : BitVec 32 := BitVec.ofNat 32 (i 0).val
  let v149 : Index := Scalar.indexCast arg0
  ![23, v149.toNat]
def k0_off25 (i : grid0.Coords) : Fin 2 → Nat :=
  let c24 : Index := 24#32
  let arg0 : BitVec 32 := BitVec.ofNat 32 (i 0).val
  let v155 : Index := Scalar.indexCast arg0
  ![24, v155.toNat]
def k0_off26 (i : grid0.Coords) : Fin 2 → Nat :=
  let c25 : Index := 25#32
  let arg0 : BitVec 32 := BitVec.ofNat 32 (i 0).val
  let v161 : Index := Scalar.indexCast arg0
  ![25, v161.toNat]
def k0_off27 (i : grid0.Coords) : Fin 2 → Nat :=
  let c26 : Index := 26#32
  let arg0 : BitVec 32 := BitVec.ofNat 32 (i 0).val
  let v167 : Index := Scalar.indexCast arg0
  ![26, v167.toNat]
def k0_off28 (i : grid0.Coords) : Fin 2 → Nat :=
  let c27 : Index := 27#32
  let arg0 : BitVec 32 := BitVec.ofNat 32 (i 0).val
  let v173 : Index := Scalar.indexCast arg0
  ![27, v173.toNat]
def k0_off29 (i : grid0.Coords) : Fin 2 → Nat :=
  let c28 : Index := 28#32
  let arg0 : BitVec 32 := BitVec.ofNat 32 (i 0).val
  let v179 : Index := Scalar.indexCast arg0
  ![28, v179.toNat]
def k0_off30 (i : grid0.Coords) : Fin 2 → Nat :=
  let c29 : Index := 29#32
  let arg0 : BitVec 32 := BitVec.ofNat 32 (i 0).val
  let v185 : Index := Scalar.indexCast arg0
  ![29, v185.toNat]
def k0_off31 (i : grid0.Coords) : Fin 2 → Nat :=
  let c30 : Index := 30#32
  let arg0 : BitVec 32 := BitVec.ofNat 32 (i 0).val
  let v191 : Index := Scalar.indexCast arg0
  ![30, v191.toNat]
def k0_off32 (i : grid0.Coords) : Fin 2 → Nat :=
  let c31 : Index := 31#32
  let arg0 : BitVec 32 := BitVec.ofNat 32 (i 0).val
  let v197 : Index := Scalar.indexCast arg0
  ![31, v197.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S32x8 : Shape := ⟨2, ![32, 8]⟩
abbrev S8 : Shape := ⟨1, ![8]⟩
abbrev S_ : Shape := ⟨0, ![]⟩
abbrev S2176 : Shape := ⟨1, ![2176]⟩
abbrev S8x1 : Shape := ⟨2, ![8, 1]⟩
abbrev S1x2176 : Shape := ⟨2, ![1, 2176]⟩
abbrev S8x2176 : Shape := ⟨2, ![8, 2176]⟩
abbrev S8x1x1 : Shape := ⟨3, ![8, 1, 1]⟩
abbrev S8x8x2176 : Shape := ⟨3, ![8, 8, 2176]⟩
abbrev S8x8x2176x1 : Shape := ⟨4, ![8, 8, 2176, 1]⟩
abbrev S8x8x2176x2 : Shape := ⟨4, ![8, 8, 2176, 2]⟩
abbrev S64x2176 : Shape := ⟨2, ![64, 2176]⟩

abbrev nBuf : Space → Nat
  | .hbm => 77
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S2176, .i32⟩
  | .hbm, ⟨6, _⟩ => ⟨S8x1, .i32⟩
  | .hbm, ⟨7, _⟩ => ⟨S1x2176, .i32⟩
  | .hbm, ⟨8, _⟩ => ⟨S8x2176, .i32⟩
  | .hbm, ⟨9, _⟩ => ⟨S8x2176, .i32⟩
  | .hbm, ⟨10, _⟩ => ⟨S8x2176, .i32⟩
  | .hbm, ⟨11, _⟩ => ⟨S8, .i32⟩
  | .hbm, ⟨12, _⟩ => ⟨S8x1x1, .i32⟩
  | .hbm, ⟨13, _⟩ => ⟨S_, .i32⟩
  | .hbm, ⟨14, _⟩ => ⟨S8x2176, .i32⟩
  | .hbm, ⟨15, _⟩ => ⟨S8x2176, .i32⟩
  | .hbm, ⟨16, _⟩ => ⟨S_, .i32⟩
  | .hbm, ⟨17, _⟩ => ⟨S8x2176, .i32⟩
  | .hbm, ⟨18, _⟩ => ⟨S8x2176, .i32⟩
  | .hbm, ⟨19, _⟩ => ⟨S8x2176, .f32⟩
  | .hbm, ⟨20, _⟩ => ⟨S_, .f32⟩
  | .hbm, ⟨21, _⟩ => ⟨S8x2176, .f32⟩
  | .hbm, ⟨22, _⟩ => ⟨S8x2176, .f32⟩
  | .hbm, ⟨23, _⟩ => ⟨S8x2176, .f32⟩
  | .hbm, ⟨24, _⟩ => ⟨S_, .f32⟩
  | .hbm, ⟨25, _⟩ => ⟨S_, .f32⟩
  | .hbm, ⟨26, _⟩ => ⟨S8x2176, .f32⟩
  | .hbm, ⟨27, _⟩ => ⟨S8x2176, .f32⟩
  | .hbm, ⟨28, _⟩ => ⟨S_, .f32⟩
  | .hbm, ⟨29, _⟩ => ⟨S8x2176, .f32⟩
  | .hbm, ⟨30, _⟩ => ⟨S8x2176, .f32⟩
  | .hbm, ⟨31, _⟩ => ⟨S8x2176, .i32⟩
  | .hbm, ⟨32, _⟩ => ⟨S_, .i32⟩
  | .hbm, ⟨33, _⟩ => ⟨S8x2176, .i32⟩
  | .hbm, ⟨34, _⟩ => ⟨S8x2176, .i32⟩
  | .hbm, ⟨35, _⟩ => ⟨S_, .i32⟩
  | .hbm, ⟨36, _⟩ => ⟨S8x2176, .i32⟩
  | .hbm, ⟨37, _⟩ => ⟨S8x2176, .i32⟩
  | .hbm, ⟨38, _⟩ => ⟨S_, .i32⟩
  | .hbm, ⟨39, _⟩ => ⟨S8x2176, .i32⟩
  | .hbm, ⟨40, _⟩ => ⟨S8x2176, .i1⟩
  | .hbm, ⟨41, _⟩ => ⟨S8x2176, .i32⟩
  | .hbm, ⟨42, _⟩ => ⟨S_, .i32⟩
  | .hbm, ⟨43, _⟩ => ⟨S8x2176, .i32⟩
  | .hbm, ⟨44, _⟩ => ⟨S8x2176, .i1⟩
  | .hbm, ⟨45, _⟩ => ⟨S_, .i32⟩
  | .hbm, ⟨46, _⟩ => ⟨S8x2176, .i32⟩
  | .hbm, ⟨47, _⟩ => ⟨S8x2176, .i32⟩
  | .hbm, ⟨48, _⟩ => ⟨S8x2176, .i32⟩
  | .hbm, ⟨49, _⟩ => ⟨S_, .i32⟩
  | .hbm, ⟨50, _⟩ => ⟨S8x1x1, .i32⟩
  | .hbm, ⟨51, _⟩ => ⟨S8x1x1, .i1⟩
  | .hbm, ⟨52, _⟩ => ⟨S_, .i32⟩
  | .hbm, ⟨53, _⟩ => ⟨S8x1x1, .i32⟩
  | .hbm, ⟨54, _⟩ => ⟨S8x1x1, .i32⟩
  | .hbm, ⟨55, _⟩ => ⟨S8x1x1, .i32⟩
  | .hbm, ⟨56, _⟩ => ⟨S8x8x2176, .i32⟩
  | .hbm, ⟨57, _⟩ => ⟨S8x8x2176, .i32⟩
  | .hbm, ⟨58, _⟩ => ⟨S8x8x2176x1, .i32⟩
  | .hbm, ⟨59, _⟩ => ⟨S8x8x2176x1, .i32⟩
  | .hbm, ⟨60, _⟩ => ⟨S8x8x2176x2, .i32⟩
  | .hbm, ⟨61, _⟩ => ⟨S8x8x2176, .f32⟩
  | .hbm, ⟨62, _⟩ => ⟨S_, .i32⟩
  | .hbm, ⟨63, _⟩ => ⟨S8x2176, .i32⟩
  | .hbm, ⟨64, _⟩ => ⟨S8x2176, .i1⟩
  | .hbm, ⟨65, _⟩ => ⟨S_, .i32⟩
  | .hbm, ⟨66, _⟩ => ⟨S2176, .i32⟩
  | .hbm, ⟨67, _⟩ => ⟨S2176, .i1⟩
  | .hbm, ⟨68, _⟩ => ⟨S1x2176, .i1⟩
  | .hbm, ⟨69, _⟩ => ⟨S8x2176, .i1⟩
  | .hbm, ⟨70, _⟩ => ⟨S8x2176, .i1⟩
  | .hbm, ⟨71, _⟩ => ⟨S_, .f32⟩
  | .hbm, ⟨72, _⟩ => ⟨S_, .f32⟩
  | .hbm, ⟨73, _⟩ => ⟨S8x8x2176, .i1⟩
  | .hbm, ⟨74, _⟩ => ⟨S8x8x2176, .f32⟩
  | .hbm, ⟨75, _⟩ => ⟨S8x8x2176, .f32⟩
  | .hbm, ⟨76, _⟩ => ⟨S64x2176, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_c_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_9 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_11 : Ref sig .tc := ⟨.hbm, 62, rfl⟩
abbrev main_v48 : Ref sig .tc := ⟨.hbm, 63, rfl⟩
abbrev main_v49 : Ref sig .tc := ⟨.hbm, 64, rfl⟩
abbrev main_c_12 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_13 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel8.lean ====
abbrev S32x8 : Shape := ⟨2, ![32, 8]⟩
abbrev S8x6x256x256 : Shape := ⟨4, ![8, 6, 256, 256]⟩
abbrev S1x6x256x256 : Shape := ⟨4, ![1, 6, 256, 256]⟩
abbrev S8x512 : Shape := ⟨2, ![8, 512]⟩
abbrev S1x1 : Shape := ⟨2, ![1, 1]⟩
abbrev S1x512 : Shape := ⟨2, ![1, 512]⟩
abbrev S256x512 : Shape := ⟨2, ![256, 512]⟩
abbrev S256x256 : Shape := ⟨2, ![256, 256]⟩
abbrev S1x1x256x256 : Shape := ⟨4, ![1, 1, 256, 256]⟩

abbrev nBuf : Space → Nat
  | .hbm => 2
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S8x6x256x256, .f32⟩
  | .local _ .vmem, ⟨0, _⟩ => ⟨S1x6x256x256, .f32⟩
  | .local _ .vmem, ⟨1, _⟩ => ⟨S1x6x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v7 : Index := Scalar.indexCast arg0
  ![0, v7.toNat]
def k0_off2 (i : grid0.Coords) : Fin 2 → Nat :=
  let c1 : Index := 1#32
  let arg0 : BitVec 32 := BitVec.ofNat 32 (i 0).val
  let v12 : Index := Scalar.indexCast arg0
  ![1, v12.toNat]
def k0_off3 (i : grid0.Coords) : Fin 2 → Nat :=
  let c2 : Index := 2#32
  let arg0 : BitVec 32 := BitVec.ofNat 32 (i 0).val
  let v18 : Index := Scalar.indexCast arg0
  ![2, v18.toNat]
def k0_off4 (i : grid0.Coords) : Fin 2 → Nat :=
  let c3 : Index := 3#32
  let arg0 : BitVec 32 := BitVec.ofNat 32 (i 0).val
  let v24 : Index := Scalar.indexCast arg0
  ![3, v24.toNat]
def k0_off5 (i : grid0.Coords) : Fin 2 → Nat :=
  let c4 : Index := 4#32
  let arg0 : BitVec 32 := BitVec.ofNat 32 (i 0).val
  let v30 : Index := Scalar.indexCast arg0
  ![4, v30.toNat]
def k0_off6 (i : grid0.Coords) : Fin 2 → Nat :=
  let c5 : Index := 5#32
  let arg0 : BitVec 32 := BitVec.ofNat 32 (i 0).val
  let v36 : Index := Scalar.indexCast arg0
  ![5, v36.toNat]
def k0_off7 (i : grid0.Coords) : Fin 2 → Nat :=
  let c6 : Index := 6#32
  let arg0 : BitVec 32 := BitVec.ofNat 32 (i 0).val
  let v42 : Index := Scalar.indexCast arg0
  ![6, v42.toNat]
def k0_off8 (i : grid0.Coords) : Fin 2 → Nat :=
  let c7 : Index := 7#32
  let arg0 : BitVec 32 := BitVec.ofNat 32 (i 0).val
  let v48 : Index := Scalar.indexCast arg0
  ![7, v48.toNat]
def k0_off9 (i : grid0.Coords) : Fin 2 → Nat :=
  let c8 : Index := 8#32
  let arg0 : BitVec 32 := BitVec.ofNat 32 (i 0).val
  let v54 : Index := Scalar.indexCast arg0
  ![8, v54.toNat]
def k0_off10 (i : grid0.Coords) : Fin 2 → Nat :=
  let c9 : Index := 9#32
  let arg0 : BitVec 32 := BitVec.ofNat 32 (i 0).val
  let v60 : Index := Scalar.indexCast arg0
  ![9, v60.toNat]
def k0_off11 (i : grid0.Coords) : Fin 2 → Nat :=
  let c10 : Index := 10#32
  let arg0 : BitVec 32 := BitVec.ofNat 32 (i 0).val
  let v66 : Index := Scalar.indexCast arg0
  ![10, v66.toNat]
def k0_off12 (i : grid0.Coords) : Fin 2 → Nat :=
  let c11 : Index := 11#32
  let arg0 : BitVec 32 := BitVec.ofNat 32 (i 0).val
  let v72 : Index := Scalar.indexCast arg0
  ![11, v72.toNat]
def k0_off13 (i : grid0.Coords) : Fin 2 → Nat :=
  let c12 : Index := 12#32
  let arg0 : BitVec 32 := BitVec.ofNat 32 (i 0).val
  let v78 : Index := Scalar.indexCast arg0
  ![12, v78.toNat]
def k0_off14 (i : grid0.Coords) : Fin 2 → Nat :=
  let c13 : Index := 13#32
  let arg0 : BitVec 32 := BitVec.ofNat 32 (i 0).val
  let v84 : Index := Scalar.indexCast arg0
  ![13, v84.toNat]
def k0_off15 (i : grid0.Coords) : Fin 2 → Nat :=
  let c14 : Index := 14#32
  let arg0 : BitVec 32 := BitVec.ofNat 32 (i 0).val
  let v90 : Index := Scalar.indexCast arg0
  ![14, v90.toNat]
def k0_off16 (i : grid0.Coords) : Fin 2 → Nat :=
  let c15 : Index := 15#32
  let arg0 : BitVec 32 := BitVec.ofNat 32 (i 0).val
  let v96 : Index := Scalar.indexCast arg0
  ![15, v96.toNat]
def k0_off17 (i : grid0.Coords) : Fin 2 → Nat :=
  let c16 : Index := 16#32
  let arg0 : BitVec 32 := BitVec.ofNat 32 (i 0).val
  let v102 : Index := Scalar.indexCast arg0
  ![16, v102.toNat]
def k0_off18 (i : grid0.Coords) : Fin 2 → Nat :=
  let c17 : Index := 17#32
  let arg0 : BitVec 32 := BitVec.ofNat 32 (i 0).val
  let v108 : Index := Scalar.indexCast arg0
  ![17, v108.toNat]
def k0_off19 (i : grid0.Coords) : Fin 2 → Nat :=
  let c18 : Index := 18#32
  let arg0 : BitVec 32 := BitVec.ofNat 32 (i 0).val
  let v114 : Index := Scalar.indexCast arg0
  ![18, v114.toNat]
def k0_off20 (i : grid0.Coords) : Fin 2 → Nat :=
  let c19 : Index := 19#32
  let arg0 : BitVec 32 := BitVec.ofNat 32 (i 0).val
  let v120 : Index := Scalar.indexCast arg0
  ![19, v120.toNat]
def k0_off21 (i : grid0.Coords) : Fin 2 → Nat :=
  let c20 : Index := 20#32
  let arg0 : BitVec 32 := BitVec.ofNat 32 (i 0).val
  let v126 : Index := Scalar.indexCast arg0
  ![20, v126.toNat]
def k0_off22 (i : grid0.Coords) : Fin 2 → Nat :=
  let c21 : Index := 21#32
  let arg0 : BitVec 32 := BitVec.ofNat 32 (i 0).val
  let v132 : Index := Scalar.indexCast arg0
  ![21, v132.toNat]
def k0_off23 (i : grid0.Coords) : Fin 2 → Nat :=
  let c22 : Index := 22#32
  let arg0 : BitVec 32 := BitVec.ofNat 32 (i 0).val
  let v138 : Index := Scalar.indexCast arg0
  ![22, v138.toNat]
def k0_off24 (i : grid0.Coords) : Fin 2 → Nat :=
  let c23 : Index := 23#32
  let arg0 : BitVec 32 := BitVec.ofNat 32 (i 0).val
  let v144 : Index := Scalar.indexCast arg0
  ![23, v144.toNat]
def k0_off25 (i : grid0.Coords) : Fin 2 → Nat :=
  let c24 : Index := 24#32
  let arg0 : BitVec 32 := BitVec.ofNat 32 (i 0).val
  let v150 : Index := Scalar.indexCast arg0
  ![24, v150.toNat]
def k0_off26 (i : grid0.Coords) : Fin 2 → Nat :=
  let c25 : Index := 25#32
  let arg0 : BitVec 32 := BitVec.ofNat 32 (i 0).val
  let v156 : Index := Scalar.indexCast arg0
  ![25, v156.toNat]
def k0_off27 (i : grid0.Coords) : Fin 2 → Nat :=
  let c26 : Index := 26#32
  let arg0 : BitVec 32 := BitVec.ofNat 32 (i 0).val
  let v162 : Index := Scalar.indexCast arg0
  ![26, v162.toNat]
def k0_off28 (i : grid0.Coords) : Fin 2 → Nat :=
  let c27 : Index := 27#32
  let arg0 : BitVec 32 := BitVec.ofNat 32 (i 0).val
  let v168 : Index := Scalar.indexCast arg0
  ![27, v168.toNat]
def k0_off29 (i : grid0.Coords) : Fin 2 → Nat :=
  let c28 : Index := 28#32
  let arg0 : BitVec 32 := BitVec.ofNat 32 (i 0).val
  let v174 : Index := Scalar.indexCast arg0
  ![28, v174.toNat]
def k0_off30 (i : grid0.Coords) : Fin 2 → Nat :=
  let c29 : Index := 29#32
  let arg0 : BitVec 32 := BitVec.ofNat 32 (i 0).val
  let v180 : Index := Scalar.indexCast arg0
  ![29, v180.toNat]
def k0_off31 (i : grid0.Coords) : Fin 2 → Nat :=
  let c30 : Index := 30#32
  let arg0 : BitVec 32 := BitVec.ofNat 32 (i 0).val
  let v186 : Index := Scalar.indexCast arg0
  ![30, v186.toNat]
def k0_off32 (i : grid0.Coords) : Fin 2 → Nat :=
  let c31 : Index := 31#32
  let arg0 : BitVec 32 := BitVec.ofNat 32 (i 0).val
  let v192 : Index := Scalar.indexCast arg0
  ![31, v192.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x6x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S32x8 : Shape := ⟨2, ![32, 8]⟩
abbrev S6 : Shape := ⟨1, ![6]⟩
abbrev S_ : Shape := ⟨0, ![]⟩
abbrev S6x1 : Shape := ⟨2, ![6, 1]⟩
abbrev S256 : Shape := ⟨1, ![256]⟩
abbrev S1x256 : Shape := ⟨2, ![1, 256]⟩
abbrev S6x256 : Shape := ⟨2, ![6, 256]⟩
abbrev S6x1x256 : Shape := ⟨3, ![6, 1, 256]⟩
abbrev S256x1 : Shape := ⟨2, ![256, 1]⟩
abbrev S1x256x1 : Shape := ⟨3, ![1, 256, 1]⟩
abbrev S6x256x256 : Shape := ⟨3, ![6, 256, 256]⟩
abbrev S8 : Shape := ⟨1, ![8]⟩
abbrev S8x1x1x1 : Shape := ⟨4, ![8, 1, 1, 1]⟩
abbrev S8x6x256x256 : Shape := ⟨4, ![8, 6, 256, 256]⟩
abbrev S8x6x256x256x1 : Shape := ⟨5, ![8, 6, 256, 256, 1]⟩
abbrev S8x6x256x256x2 : Shape := ⟨5, ![8, 6, 256, 256, 2]⟩

abbrev nBuf : Space → Nat
  | .hbm => 80
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S6, .i32⟩
  | .hbm, ⟨2, _⟩ => ⟨S_, .i32⟩
  | .hbm, ⟨3, _⟩ => ⟨S6, .i32⟩
  | .hbm, ⟨4, _⟩ => ⟨S6, .i32⟩
  | .hbm, ⟨5, _⟩ => ⟨S6x1, .i32⟩
  | .hbm, ⟨6, _⟩ => ⟨S256, .i32⟩
  | .hbm, ⟨7, _⟩ => ⟨S1x256, .i32⟩
  | .hbm, ⟨8, _⟩ => ⟨S6x256, .i32⟩
  | .hbm, ⟨9, _⟩ => ⟨S6x256, .i32⟩
  | .hbm, ⟨10, _⟩ => ⟨S6x256, .i32⟩
  | .hbm, ⟨11, _⟩ => ⟨S256, .i32⟩
  | .hbm, ⟨12, _⟩ => ⟨S6x1x256, .i32⟩
  | .hbm, ⟨13, _⟩ => ⟨S256x1, .i32⟩
  | .hbm, ⟨14, _⟩ => ⟨S1x256x1, .i32⟩
  | .hbm, ⟨15, _⟩ => ⟨S6x256x256, .i32⟩
  | .hbm, ⟨16, _⟩ => ⟨S6x256x256, .i32⟩
  | .hbm, ⟨17, _⟩ => ⟨S6x256x256, .i32⟩
  | .hbm, ⟨18, _⟩ => ⟨S8, .i32⟩
  | .hbm, ⟨19, _⟩ => ⟨S8x1x1x1, .i32⟩
  | .hbm, ⟨20, _⟩ => ⟨S_, .i32⟩
  | .hbm, ⟨21, _⟩ => ⟨S6x256x256, .i32⟩
  | .hbm, ⟨22, _⟩ => ⟨S6x256x256, .i32⟩
  | .hbm, ⟨23, _⟩ => ⟨S_, .i32⟩
  | .hbm, ⟨24, _⟩ => ⟨S6x256x256, .i32⟩
  | .hbm, ⟨25, _⟩ => ⟨S6x256x256, .i32⟩
  | .hbm, ⟨26, _⟩ => ⟨S6x256x256, .f32⟩
  | .hbm, ⟨27, _⟩ => ⟨S_, .f32⟩
  | .hbm, ⟨28, _⟩ => ⟨S6x256x256, .f32⟩
  | .hbm, ⟨29, _⟩ => ⟨S6x256x256, .f32⟩
  | .hbm, ⟨30, _⟩ => ⟨S6x256x256, .f32⟩
  | .hbm, ⟨31, _⟩ => ⟨S_, .f32⟩
  | .hbm, ⟨32, _⟩ => ⟨S_, .f32⟩
  | .hbm, ⟨33, _⟩ => ⟨S6x256x256, .f32⟩
  | .hbm, ⟨34, _⟩ => ⟨S6x256x256, .f32⟩
  | .hbm, ⟨35, _⟩ => ⟨S_, .f32⟩
  | .hbm, ⟨36, _⟩ => ⟨S6x256x256, .f32⟩
  | .hbm, ⟨37, _⟩ => ⟨S6x256x256, .f32⟩
  | .hbm, ⟨38, _⟩ => ⟨S6x256x256, .i32⟩
  | .hbm, ⟨39, _⟩ => ⟨S_, .i32⟩
  | .hbm, ⟨40, _⟩ => ⟨S6x256x256, .i32⟩
  | .hbm, ⟨41, _⟩ => ⟨S6x256x256, .i32⟩
  | .hbm, ⟨42, _⟩ => ⟨S_, .i32⟩
  | .hbm, ⟨43, _⟩ => ⟨S6x256x256, .i32⟩
  | .hbm, ⟨44, _⟩ => ⟨S6x256x256, .i32⟩
  | .hbm, ⟨45, _⟩ => ⟨S_, .i32⟩
  | .hbm, ⟨46, _⟩ => ⟨S6x256x256, .i32⟩
  | .hbm, ⟨47, _⟩ => ⟨S6x256x256, .i1⟩
  | .hbm, ⟨48, _⟩ => ⟨S6x256x256, .i32⟩
  | .hbm, ⟨49, _⟩ => ⟨S_, .i32⟩
  | .hbm, ⟨50, _⟩ => ⟨S6x256x256, .i32⟩
  | .hbm, ⟨51, _⟩ => ⟨S6x256x256, .i1⟩
  | .hbm, ⟨52, _⟩ => ⟨S_, .i32⟩
  | .hbm, ⟨53, _⟩ => ⟨S6x256x256, .i32⟩
  | .hbm, ⟨54, _⟩ => ⟨S6x256x256, .i32⟩
  | .hbm, ⟨55, _⟩ => ⟨S6x256x256, .i32⟩
  | .hbm, ⟨56, _⟩ => ⟨S_, .i32⟩
  | .hbm, ⟨57, _⟩ => ⟨S8x1x1x1, .i32⟩
  | .hbm, ⟨58, _⟩ => ⟨S8x1x1x1, .i1⟩
  | .hbm, ⟨59, _⟩ => ⟨S_, .i32⟩
  | .hbm, ⟨60, _⟩ => ⟨S8x1x1x1, .i32⟩
  | .hbm, ⟨61, _⟩ => ⟨S8x1x1x1, .i32⟩
  | .hbm, ⟨62, _⟩ => ⟨S8x1x1x1, .i32⟩
  | .hbm, ⟨63, _⟩ => ⟨S8x6x256x256, .i32⟩
  | .hbm, ⟨64, _⟩ => ⟨S8x6x256x256, .i32⟩
  | .hbm, ⟨65, _⟩ => ⟨S8x6x256x256x1, .i32⟩
  | .hbm, ⟨66, _⟩ => ⟨S8x6x256x256x1, .i32⟩
  | .hbm, ⟨67, _⟩ => ⟨S8x6x256x256x2, .i32⟩
  | .hbm, ⟨68, _⟩ => ⟨S8x6x256x256, .f32⟩
  | .hbm, ⟨69, _⟩ => ⟨S_, .i32⟩
  | .hbm, ⟨70, _⟩ => ⟨S6x256x256, .i32⟩
  | .hbm, ⟨71, _⟩ => ⟨S6x256x256, .i1⟩
  | .hbm, ⟨72, _⟩ => ⟨S_, .f32⟩
  | .hbm, ⟨73, _⟩ => ⟨S8x6x256x256, .f32⟩
  | .hbm, ⟨74, _⟩ => ⟨S8x6x256x256, .f32⟩
  | .hbm, ⟨75, _⟩ => ⟨S_, .f32⟩
  | .hbm, ⟨76, _⟩ => ⟨S_, .f32⟩
  | .hbm, ⟨77, _⟩ => ⟨S8x6x256x256, .i1⟩
  | .hbm, ⟨78, _⟩ => ⟨S8x6x256x256, .f32⟩
  | .hbm, ⟨79, _⟩ => ⟨S8x6x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_v32 : Ref sig .tc := ⟨.hbm, 40, rfl⟩
abbrev main_v33 : Ref sig .tc := ⟨.hbm, 41, rfl⟩
abbrev main_c_5 : Ref sig .tc := ⟨.hbm, 42, rfl⟩
abbrev main_v34 : Ref sig .tc := ⟨.hbm, 43, rfl⟩
abbrev main_v35 : Ref sig .tc := ⟨.hbm, 44, rfl⟩
abbrev main_c_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_7 : Ref sig .tc := ⟨.hbm, 49, rfl⟩
abbrev main_v39 : Ref sig .tc := ⟨.hbm, 50, rfl⟩
abbrev main_v40 : Ref sig .tc := ⟨.hbm, 51, rfl⟩
abbrev main_c_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_9 : Ref sig .tc := ⟨.hbm, 56, rfl⟩
abbrev main_v44 : Ref sig .tc := ⟨.hbm, 57, rfl⟩
abbrev main_v45 : Ref sig .tc := ⟨.hbm, 58, rfl⟩
abbrev main_c_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_11 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.OutPrompt.lean ====
/- The output projection of the prompt tokens. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.OutPrompt

open Idealize.ShloMosaic Idealize.ShloMosaic.TcCoe Idealize.SL.Sem
open Cert.Kernel4Ideal Cert.Kernel4Ideal.Gen

variable (m : (ℓ : Loc nD τ sig) → Buf (Elt Ideal) ℓ)

/-- Where the windows of grid point `t` lie. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The block of an activation at grid point `t`: rows `2048 t` to `2048 t + 2047` of the argument's rows, taken over both leading axes. -/
theorem read0 (c : Dev nD) (t : Fin cfg0.N) (a : Fin 2048) (b : Fin 512) (h : _) (h' : _) :
    iblk m c 0 t (ix2 a b) = m (c.tc.loc main_arg0) (ix3 ⟨(t.val * 2048 + a.val) / 4096, h⟩ ⟨(t.val * 2048 + a.val) % 4096, h'⟩ b) := by
  blk_ext! [iblk, V, idx t]

/-- A block of the attention's output. -/
theorem read1 (c : Dev nD) (t : Fin cfg0.N) (a : Fin 2048) (b : Fin 512) (h : _) (h' : _) :
    iblk m c 1 t (ix2 a b) = m (c.tc.loc main_arg1) (ix3 ⟨(t.val * 2048 + a.val) / 4096, h⟩ ⟨(t.val * 2048 + a.val) % 4096, h'⟩ b) := by
  blk_ext! [iblk, V, idx t]

/-- A block of the hidden states. -/
theorem read2 (c : Dev nD) (t : Fin cfg0.N) (a : Fin 2048) (b : Fin 1024) (h : _) (h' : _) :
    iblk m c 2 t (ix2 a b) = m (c.tc.loc main_arg2) (ix3 ⟨(t.val * 2048 + a.val) / 4096, h⟩ ⟨(t.val * 2048 + a.val) % 4096, h'⟩ b) := by
  blk_ext! [iblk, V, idx t]

/-- The weights' block is the whole of the weights. -/
theorem read3 (c : Dev nD) (t : Fin cfg0.N) (a b : Fin 1024) :
    iblk m c 3 t (ix2 a b) = m (c.tc.loc main_arg3) (ix3 0 a b) := by
  blk_ext! [iblk, V, idx t]

/-- The norm's scale is read whole. -/
theorem read4 (c : Dev nD) (t : Fin cfg0.N) (a : Fin 1) (b : Fin 1024) :
    iblk m c 4 t (ix2 a b) = m (c.tc.loc main_arg4) (ix2 a b) := by
  blk_ext! [iblk, V, idx t]

/-- The array after the run is the reference's. -/
theorem final (c : Dev nD) : (dats m 0 c).arrAt 5 cfg0.N
    = Cert.Reference4Ideal.Read.val_main_v20 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  blk_simp
  rw [after0_5]
  frame_out
  change S2048x1024.Idx at y
  idx_vars y
  have he : ((View.whole main_v5).slice (win0_5.rect t)).emb (ix2 y0 y1) = (ix2 ⟨t.val * 2048 + y0.val, by have := t.isLt; have := y0.isLt; simp only [show cfg0.grid.N = 8 from rfl] at *; omega⟩ y1 : S16384x1024.Idx) := by
    blk_ext [idx t]
  rw [he]
  pointwise [k0_pay1, Cert.Reference4Ideal.Read.val_main_v20, Cert.Reference4Ideal.Read.val_main_v19, Cert.Reference4Ideal.Read.val_main_v18, Cert.Reference4Ideal.Read.val_main_v17, Cert.Reference4Ideal.Read.val_main_v16, Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_cst, Cert.Reference4Ideal.Read.val_main_cst_0, Cert.Reference4Ideal.Read.val_main_cst_1]
  simp only [read3, read4]
  have h0 : ∀ x, iblk m c 0 t (ix2 y0 x) = _ := fun x => read0 m c t y0 x (by have := t.isLt; simp only [show cfg0.grid.N = 8 from rfl] at *; omega) (by omega)
  have h1 : ∀ x, iblk m c 1 t (ix2 y0 x) = _ := fun x => read1 m c t y0 x (by have := t.isLt; simp only [show cfg0.grid.N = 8 from rfl] at *; omega) (by omega)
  have h2 : ∀ x, iblk m c 2 t (ix2 y0 x) = _ := fun x => read2 m c t y0 x (by have := t.isLt; simp only [show cfg0.grid.N = 8 from rfl] at *; omega) (by omega)
  simp only [h0, h1, h2]

end Cert.OutPrompt
end
-- ==== Proof.OutSample.lean ====
/- The output projection of the sample tokens. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert.OutSample

open Idealize.ShloMosaic Idealize.ShloMosaic.TcCoe Idealize.SL.Sem
open Cert.Kernel5Ideal Cert.Kernel5Ideal.Gen

variable (m : (ℓ : Loc nD τ sig) → Buf (Elt Ideal) ℓ)

/-- Where the windows of grid point `t` lie. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-! What the region finds in the arrays that the host code prepares. -/

/-- The first mixer's output as one matrix. -/
theorem entry2 (c : Dev nD) : V m c main_v2 = shapeCast S1024x512 (m (c.tc.loc main_arg0)) shapeCasts_S128x8x512_S1024x512 := by
  simp only [V, hostOps0, hostOps0_1, hostOps0_2, List.flatten_cons, List.flatten_nil, List.append_nil, List.cons_append,
      List.nil_append]
  after_results <;> rfl

/-- The second mixer's output as one matrix. -/
theorem entry3 (c : Dev nD) : V m c main_v3 = shapeCast S1024x512 (m (c.tc.loc main_arg1)) shapeCasts_S128x8x512_S1024x512 := by
  simp only [V, hostOps0, hostOps0_1, hostOps0_2, List.flatten_cons, List.flatten_nil, List.append_nil, List.cons_append,
      List.nil_append]
  after_results <;> rfl

/-- The gate as one matrix. -/
theorem entry4 (c : Dev nD) : V m c main_v4 = shapeCast S1024x512 (m (c.tc.loc main_arg2)) shapeCasts_S128x8x512_S1024x512 := by
  simp only [V, hostOps0, hostOps0_1, hostOps0_2, List.flatten_cons, List.flatten_nil, List.append_nil, List.cons_append,
      List.nil_append]
  after_results <;> rfl

/-- The hidden states: four rows of padding after each sequence, in one matrix. -/
theorem entry1 (c : Dev nD) : V m c main_v1 = shapeCast S1024x1024 (pad S128x8x1024 ![0, 0, 0] ![0, 4, 0] ![0, 0, 0]
    (m (c.tc.loc main_arg3) : FVec Ideal S128x4x1024 .f32) (sitofp (F := Ideal) (w := 32) .f32 (constantI S_ 32 0#32)) pads_S128x4x1024_S128x8x1024_000_040_000 h_S_)
    shapeCasts_S128x8x1024_S1024x1024 := by
  simp only [V, hostOps0, hostOps0_1, hostOps0_2, List.flatten_cons, List.flatten_nil, List.append_nil, List.cons_append,
      List.nil_append]
  after_results <;> rfl

/-- The weights as one matrix. -/
theorem entry6 (c : Dev nD) : V m c main_v6 = (truncf .bf16 (shapeCast S1024x1024 (m (c.tc.loc main_arg4) : FVec Ideal S1x1024x1024 .f32)
    shapeCasts_S1x1024x1024_S1024x1024 : FVec Ideal S1024x1024 .f32) bitsLt_bf16_f32 : FVec Ideal S1024x1024 .bf16) := by
  simp only [V, hostOps0, hostOps0_1, hostOps0_2, List.flatten_cons, List.flatten_nil, List.append_nil, List.cons_append,
      List.nil_append]
  after_results <;> rfl

/-- The rows of all sequences, eight a sequence, one under the other. -/
theorem rows (x : FVec Ideal S128x8x512 .f32) (r : Fin 1024) (b : Fin 512) (h : r.val / 8 < 128) (h' : r.val % 8 < 8) :
    shapeCast S1024x512 x shapeCasts_S128x8x512_S1024x512 (ix2 r b) = x (ix3 ⟨r.val / 8, h⟩ ⟨r.val % 8, h'⟩ b) := by
  pointwise

/-- A row that holds a token keeps it when the sequences are padded to eight rows. -/
theorem padded (x : FVec Ideal S128x4x1024 .f32) (z : FVec Ideal S_ .f32) (r : Fin 1024) (b : Fin 1024) (h : r.val / 8 < 128)
    (h' : r.val % 8 < 4) :
    shapeCast S1024x1024 (pad S128x8x1024 ![0, 0, 0] ![0, 4, 0] ![0, 0, 0] x z pads_S128x4x1024_S128x8x1024_000_040_000 h_S_)
      shapeCasts_S128x8x1024_S1024x1024 (ix2 r b) = x (ix3 ⟨r.val / 8, h⟩ ⟨r.val % 8, h'⟩ b) := by
  pointwise <;> simp [h, h']

/-- The weights of the layer as a matrix. -/
theorem weights (x : FVec Ideal S1x1024x1024 .f32) (r : Fin 1024) (b : Fin 1024) :
    truncf .bf16 (shapeCast S1024x1024 x shapeCasts_S1x1024x1024_S1024x1024) bitsLt_bf16_f32 (ix2 r b) = x (ix3 0 r b) := by
  pointwise

/-- The block of an activation at grid point `t`: rows `256 t` to `256 t + 255` of the argument's rows, eight a sequence. -/
theorem read0 (c : Dev nD) (t : Fin cfg0.N) (a : Fin 256) (b : Fin 512) (h : _) (h' : _) :
    iblk m c 0 t (ix2 a b) = m (c.tc.loc main_arg0) (ix3 ⟨(t.val * 256 + a.val) / 8, h⟩ ⟨(t.val * 256 + a.val) % 8, h'⟩ b) := by
  have ht : t.val < 4 := t.isLt
  have he : ((cfg0.win 0).blk t).view.emb (ix2 a b) = (ix2 ⟨t.val * 256 + a.val, by omega⟩ b : S1024x512.Idx) := by
    blk_ext [idx t]
  show V m c main_v2 (((cfg0.win 0).blk t).view.emb (ix2 a b)) = _
  rw [he, entry2]
  exact rows _ ⟨t.val * 256 + a.val, by omega⟩ b h h'

/-- A block of the second matrix of activations. -/
theorem read1 (c : Dev nD) (t : Fin cfg0.N) (a : Fin 256) (b : Fin 512) (h : _) (h' : _) :
    iblk m c 1 t (ix2 a b) = m (c.tc.loc main_arg1) (ix3 ⟨(t.val * 256 + a.val) / 8, h⟩ ⟨(t.val * 256 + a.val) % 8, h'⟩ b) := by
  have ht : t.val < 4 := t.isLt
  have he : ((cfg0.win 1).blk t).view.emb (ix2 a b) = (ix2 ⟨t.val * 256 + a.val, by omega⟩ b : S1024x512.Idx) := by
    blk_ext [idx t]
  show V m c main_v3 (((cfg0.win 1).blk t).view.emb (ix2 a b)) = _
  rw [he, entry3]
  exact rows _ ⟨t.val * 256 + a.val, by omega⟩ b h h'

/-- A block of the third matrix of activations. -/
theorem read2 (c : Dev nD) (t : Fin cfg0.N) (a : Fin 256) (b : Fin 512) (h : _) (h' : _) :
    iblk m c 2 t (ix2 a b) = m (c.tc.loc main_arg2) (ix3 ⟨(t.val * 256 + a.val) / 8, h⟩ ⟨(t.val * 256 + a.val) % 8, h'⟩ b) := by
  have ht : t.val < 4 := t.isLt
  have he : ((cfg0.win 2).blk t).view.emb (ix2 a b) = (ix2 ⟨t.val * 256 + a.val, by omega⟩ b : S1024x512.Idx) := by
    blk_ext [idx t]
  show V m c main_v4 (((cfg0.win 2).blk t).view.emb (ix2 a b)) = _
  rw [he, entry4]
  exact rows _ ⟨t.val * 256 + a.val, by omega⟩ b h h'

/-- On a row that holds a token, the padded residual is the token's. -/
theorem read3 (c : Dev nD) (t : Fin cfg0.N) (a : Fin 256) (b : Fin 1024) (h : _) (h' : (t.val * 256 + a.val) % 8 < 4) :
    iblk m c 3 t (ix2 a b) = m (c.tc.loc main_arg3) (ix3 ⟨(t.val * 256 + a.val) / 8, h⟩ ⟨(t.val * 256 + a.val) % 8, by omega⟩ b) := by
  have ht : t.val < 4 := t.isLt
  have he : ((cfg0.win 3).blk t).view.emb (ix2 a b) = (ix2 ⟨t.val * 256 + a.val, by omega⟩ b : S1024x1024.Idx) := by
    blk_ext [idx t]
  show V m c main_v1 (((cfg0.win 3).blk t).view.emb (ix2 a b)) = _
  rw [he, entry1]
  exact padded _ _ ⟨t.val * 256 + a.val, by omega⟩ b h h'

/-- The weights' block is the whole of the weights. -/
theorem read4 (c : Dev nD) (t : Fin cfg0.N) (a b : Fin 1024) :
    iblk m c 4 t (ix2 a b) = m (c.tc.loc main_arg4) (ix3 0 a b) := by
  have he : ((cfg0.win 4).blk t).view.emb (ix2 a b) = (ix2 a b : S1024x1024.Idx) := by
    blk_ext [idx t]
  show V m c main_v6 (((cfg0.win 4).blk t).view.emb (ix2 a b)) = _
  rw [he, entry6]
  exact weights _ a b

/-- The norm's scale is read whole. -/
theorem read5 (c : Dev nD) (t : Fin cfg0.N) (a : Fin 1) (b : Fin 1024) :
    iblk m c 5 t (ix2 a b) = m (c.tc.loc main_arg5) (ix2 a b) := by
  have he : ((cfg0.win 5).blk t).view.emb (ix2 a b) = (ix2 a b : S1x1024.Idx) := by
    blk_ext [idx t]
  show V m c main_arg5 (((cfg0.win 5).blk t).view.emb (ix2 a b)) = _
  rw [he, V_main_arg5]

open Cert.Reference5Ideal.Read in
/-- One row of the kernel's block is the reference's row, given that the blocks hold the arguments' rows. -/
theorem row (x0 x1 x2 : FVec Ideal S256x512 .f32) (x3 : FVec Ideal S256x1024 .f32) (x4 : FVec Ideal S1024x1024 .bf16)
    (x5 : FVec Ideal S1x1024 .f32) (A0 A1 A2 : FVec Ideal S128x8x512 .f32) (A3 : FVec Ideal S128x4x1024 .f32)
    (A4 : FVec Ideal S1x1024x1024 .f32) (A5 : FVec Ideal S1x1024 .f32) (y0 : Fin 256) (y1 : Fin 1024) (n : Fin 1024)
    (h : n.val / 8 < 128) (hr : n.val % 8 < 4)
    (h0 : ∀ b, x0 (ix2 y0 b) = A0 (ix3 ⟨n.val / 8, h⟩ ⟨n.val % 8, by omega⟩ b))
    (h1 : ∀ b, x1 (ix2 y0 b) = A1 (ix3 ⟨n.val / 8, h⟩ ⟨n.val % 8, by omega⟩ b))
    (h2 : ∀ b, x2 (ix2 y0 b) = A2 (ix3 ⟨n.val / 8, h⟩ ⟨n.val % 8, by omega⟩ b))
    (h3 : ∀ b, x3 (ix2 y0 b) = A3 (ix3 ⟨n.val / 8, h⟩ ⟨n.val % 8, hr⟩ b))
    (h4 : ∀ a b, x4 (ix2 a b) = A4 (ix3 0 a b)) (h5 : ∀ a b, x5 (ix2 a b) = A5 (ix2 a b)) :
    (k0_pay1 (F := Ideal) x1 x2 x0 (View.ld x4 r0_1) (View.ld x4 r0_2) x3 x5 : FVec Ideal S256x1024 .f32) (ix2 y0 y1)
      = val_main_v23 (F := Ideal) A0 A1 A2 A3 A4 A5 (ix2 n y1) := by
  pointwise [k0_pay1, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_c, val_main_call0_v0, val_main_v22, val_main_v23]
  all_goals simp only [h0, h1, h2, h3, h4, h5, h, hr, dite_true, and_self]

open Cert.Reference5Ideal.Read in
/-- One row of the block that grid point `t` writes is the reference's row. -/
theorem point (c : Dev nD) (t : Fin cfg0.N) (y0 : Fin 256) (y1 : Fin 1024) (hn : t.val * 256 + y0.val < 1024)
    (hr : (t.val * 256 + y0.val) % 8 < 4) :
    (k0_pay1 (F := Ideal) (iblk m c 1 t) (iblk m c 2 t) (iblk m c 0 t) (View.ld (iblk m c 4 t) r0_1) (View.ld (iblk m c 4 t) r0_2)
        (iblk m c 3 t) (iblk m c 5 t) : FVec Ideal S256x1024 .f32) (ix2 y0 y1)
      = val_main_v23 (F := Ideal) (m (c.tc.loc main_arg0)) (m (c.tc.loc main_arg1)) (m (c.tc.loc main_arg2))
        (m (c.tc.loc main_arg3)) (m (c.tc.loc main_arg4)) (m (c.tc.loc main_arg5)) (ix2 ⟨t.val * 256 + y0.val, hn⟩ y1) :=
  have h : (t.val * 256 + y0.val) / 8 < 128 := by omega
  have h' : (t.val * 256 + y0.val) % 8 < 8 := by omega
  row (iblk m c 0 t) (iblk m c 1 t) (iblk m c 2 t) (iblk m c 3 t) (iblk m c 4 t) (iblk m c 5 t) (m (c.tc.loc main_arg0))
    (m (c.tc.loc main_arg1)) (m (c.tc.loc main_arg2)) (m (c.tc.loc main_arg3)) (m (c.tc.loc main_arg4)) (m (c.tc.loc main_arg5)) y0 y1
    ⟨t.val * 256 + y0.val, hn⟩ h hr (fun b => read0 m c t y0 b h h') (fun b => read1 m c t y0 b h h') (fun b => read2 m c t y0 b h h')
    (fun b => read3 m c t y0 b h hr) (read4 m c t) (read5 m c t)

open Cert.Reference5Ideal.Read in
/-- The array after the run is the reference's on the rows that hold tokens. -/
theorem final (c : Dev nD) (i : S1024x1024.Idx) : (i 0).val % 8 < 4 → (dats m 0 c).arrAt 6 cfg0.N i
    = val_main_v23 (F := Ideal) (m (c.tc.loc main_arg0)) (m (c.tc.loc main_arg1)) (m (c.tc.loc main_arg2))
        (m (c.tc.loc main_arg3)) (m (c.tc.loc main_arg4)) (m (c.tc.loc main_arg5)) i := by
  refine (dats m 0 c).arrAt_forall_of_covers 6 (fun (i : S1024x1024.Idx) v => (i 0).val % 8 < 4 → v
    = val_main_v23 (F := Ideal) (m (c.tc.loc main_arg0)) (m (c.tc.loc main_arg1)) (m (c.tc.loc main_arg2))
        (m (c.tc.loc main_arg3)) (m (c.tc.loc main_arg4)) (m (c.tc.loc main_arg5)) i) (by decide +kernel) (fun t hf y => ?_) i
  blk_simp
  rw [after0_6]
  frame_out
  change S256x1024.Idx at y
  idx_vars y
  have ht : t.val < 4 := t.isLt
  have he : ((View.whole main_v7).slice (win0_6.rect t)).emb (ix2 y0 y1) = (ix2 ⟨t.val * 256 + y0.val, by omega⟩ y1 : S1024x1024.Idx) := by
    blk_ext [idx t]
  rw [he]
  intro hr
  rw [show win0_6.index t 0 = t.val from congrFun (idx t).2.2.2.2.2.2 0] at hr
  exact point m c t y0 y1 _ hr

end Cert.OutSample
end
-- ==== Proof.InPrompt.lean ====
/- The input projection of the prompt tokens: the normalised rows times the weights, the gates of the linear branch and the
   transposed projections of the attention branch. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.InPrompt

open Idealize.ShloMosaic Idealize.ShloMosaic.TcCoe Idealize.SL.Sem
open Cert.Kernel2Ideal Cert.Kernel2Ideal.Gen
open Cert.Reference2Ideal.Read

/-! ## The lower bound of the forget gate -/

/-- The largest of a list and a value that is in its maximum already. -/
theorem max_fold (c : EReal) (f : Fin 2 → EReal) : max c (Finset.univ.fold max c f) = Finset.univ.fold max c f :=
  max_eq_right ((Finset.le_fold_max _).2 (Or.inl le_rfl))

/-- The first of the running sums over two rows is the first row. -/
theorem cumsum_first (x : FVec Ideal S2x512 .f32) (z : FVec Ideal Cert.Reference2Ideal.S_ .f32) (hz : ∀ i, z i = 0) (b : Fin 512) :
    (Host.reduceWindowAdd (F := Ideal) ![2, 1] ![1, 1] ![1, 0] ![0, 0] x z
      Cert.Reference2Ideal.Gen.reduceWindows_S2x512_S2x512_w2s1p1_0_w1s1p0_0 Cert.Reference2Ideal.Gen.h_S_ : FVec Ideal S2x512 .f32) (ix2 0 b)
      = x (ix2 0 b) := by
  simp only [Host.reduceWindowAdd, Ideal.hostReduceWindowAdd_def, Ideal.hostReduceWindowAdd, Host.reduceWindow]
  have hl : List.finRange (Shape.numel ⟨2, ![2, 1]⟩) = [⟨0, by decide⟩, ⟨1, by decide⟩] := by decide
  have e0 : ∀ a, ((Shape.rowMajor ⟨2, ![2, 1]⟩).symm ⟨0, by decide⟩ a).val = (![0, 0] : Fin 2 → Nat) a := by decide
  have e1 : ∀ a, ((Shape.rowMajor ⟨2, ![2, 1]⟩).symm ⟨1, by decide⟩ a).val = (![1, 0] : Fin 2 → Nat) a := by decide
  have h0 : ¬ ∀ a : Fin 2, ((![1, 0] : Fin 2 → Nat) a ≤ ((ix2 0 b : S2x512.Idx) a).val * (![1, 1] : Fin 2 → Nat) a + (![0, 0] : Fin 2 → Nat) a
      ∧ ((ix2 0 b : S2x512.Idx) a).val * (![1, 1] : Fin 2 → Nat) a + (![0, 0] : Fin 2 → Nat) a - (![1, 0] : Fin 2 → Nat) a < (![2, 512] : Fin 2 → Nat) a) := by
    intro h
    have := (h 0).1
    change 1 ≤ 0 * 1 + 0 at this
    omega
  have h1 : ∀ a : Fin 2, ((![1, 0] : Fin 2 → Nat) a ≤ ((ix2 0 b : S2x512.Idx) a).val * (![1, 1] : Fin 2 → Nat) a + (![1, 0] : Fin 2 → Nat) a
      ∧ ((ix2 0 b : S2x512.Idx) a).val * (![1, 1] : Fin 2 → Nat) a + (![1, 0] : Fin 2 → Nat) a - (![1, 0] : Fin 2 → Nat) a < (![2, 512] : Fin 2 → Nat) a) := by
    have := b.isLt
    rw [Fin.forall_fin_two]
    refine ⟨by show 1 ≤ 0 * 1 + 1 ∧ 0 * 1 + 1 - 1 < 2; omega, ?_⟩
    show 0 ≤ b.val * 1 + 0 ∧ b.val * 1 + 0 - 0 < 512
    omega
  rw [hl]
  simp only [List.foldl_cons, List.foldl_nil, hz, e0, e1, zero_add]
  erw [dif_neg h0, dif_pos h1, zero_add]
  refine congrArg x (funext fun a => Fin.ext ?_)
  revert a
  rw [Fin.forall_fin_two]
  exact ⟨by rfl, by show b.val * 1 + 0 - 0 = b.val; omega⟩

/-- The kernel's lower bound is the reference's. -/
theorem lower (x : FVec Ideal S2x512 .f32) (b : Fin 512) :
    (k0_pay3 (F := Ideal) x : FVec Ideal S1x512 .f32) (ix2 0 b) = val_main_v37 (F := Ideal) x (ix1 b) := by
  have hr : val_main_v37 (F := Ideal) x (ix1 b) = val_main_v34 (F := Ideal) x (ix2 0 b) := by
    pointwise [val_main_v37, val_main_v36, val_main_v35]
    exact cumsum_first _ _ (fun i => by pointwise [val_main_call0_call0_v0, val_main_call0_call0_cst]) b
  rw [hr]
  pointwise [k0_pay3, val_main_cst_2, val_main_v24, val_main_cst_3, val_main_v25, val_main_v26, val_main_v27, val_main_v28, val_main_v29, val_main_v30, val_main_cst_4, val_main_v31, val_main_v32, val_main_v33, val_main_v34, val_main_call0_call0_cst, val_main_call0_call0_v0]
  simp only [max_fold]

/-! ## The outputs of a block, row by row -/

section Rows

variable (x0 : FVec Ideal S512x1024 .f32) (x1 : FVec Ideal S1x1024 .f32) (x2 : FVec Ideal S1024x4096 .bf16)
  (x3 : FVec Ideal S2x512 .f32) (x4 : FVec Ideal S1536x1024 .bf16)
  (A0 : FVec Ideal S4x4096x1024 .f32) (A1 : FVec Ideal S1x1024 .f32) (A2 : FVec Ideal S1x1024x4096 .f32)
  (A3 : FVec Ideal S2x512 .f32)

/-- What the blocks of a grid point hold, at the row `y0` that is token `s` of sequence `b`. -/
structure Holds (y0 : Fin 512) (b : Fin 4) (s : Fin 4096) : Prop where
  x : ∀ k, x0 (ix2 y0 k) = A0 (ix3 b s k)
  g : ∀ a k, x1 (ix2 a k) = A1 (ix2 a k)
  w : ∀ a k, x2 (ix2 a k) = A2 (ix3 0 a k)
  l : ∀ a k, x3 (ix2 a k) = A3 (ix2 a k)
  t : ∀ (a : Fin 1536) k, x4 (ix2 a k) = A2 (ix3 0 k ⟨2048 + a.val, by omega⟩)

variable {x0 x1 x2 x3 x4 A0 A1 A2 A3} {y0 : Fin 512} {b : Fin 4} {s : Fin 4096}

/-- The normalised row. -/
theorem norm (H : Holds x0 x1 x2 x3 x4 A0 A1 A2 A3 y0 b s) (k : Fin 1024) :
    (k0_pay2 (F := Ideal) x0 x1 : FVec Ideal S512x1024 .bf16) (ix2 y0 k) = val_main_v13 (F := Ideal) A0 A1 (ix3 b s k) := by
  pointwise [k0_pay2, val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  simp only [H.x, H.g]

/-- A column of the projected row. -/
theorem proj (k : Fin 4096) : val_main_v15 (F := Ideal) A0 A1 A2 (ix3 b s k)
    = ∑ x, val_main_v13 (F := Ideal) A0 A1 (ix3 b s x) * A2 (ix3 0 x k) := by
  pointwise [val_main_v15, val_main_v14]

/-- The lower bound that the block's row takes is the reference's. -/
theorem low (H : Holds x0 x1 x2 x3 x4 A0 A1 A2 A3 y0 b s) (k : Fin 512) :
    (k0_pay3 (F := Ideal) x3 : FVec Ideal S1x512 .f32) (ix2 0 k) = val_main_v37 (F := Ideal) A3 (ix1 k) := by
  have hx : x3 = A3 := by
    funext i
    idx_vars i
    exact H.l _ _
  rw [hx, lower]

/-- The queries of the linear branch. -/
theorem q (H : Holds x0 x1 x2 x3 x4 A0 A1 A2 A3 y0 b s) (n : Fin 16384) (hb : n.val / 4096 = b.val) (hs : n.val % 4096 = s.val)
    (y1 : Fin 512) : (k0_pay4 (F := Ideal) x0 x1 (View.ld x2 r0_3) : FVec Ideal S512x512 .f32) (ix2 y0 y1)
      = val_main_v58 (F := Ideal) A0 A1 A2 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay4, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The logarithm of the forget gate. -/
theorem forget (H : Holds x0 x1 x2 x3 x4 A0 A1 A2 A3 y0 b s) (n : Fin 16384) (hb : n.val / 4096 = b.val) (hs : n.val % 4096 = s.val)
    (y1 : Fin 512) : (k0_pay6 (F := Ideal) (k0_pay2 (F := Ideal) x0 x1) (k0_pay3 (F := Ideal) x3) (Scalar.ofBits .f32 0x3F800000#32) (View.ld x2 r0_5) : FVec Ideal S512x512 .f32) (ix2 y0 y1)
      = val_main_v59 (F := Ideal) A0 A1 A2 A3 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay6, k0_pay5, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The keys of the linear branch. -/
theorem key (H : Holds x0 x1 x2 x3 x4 A0 A1 A2 A3 y0 b s) (n : Fin 16384) (hb : n.val / 4096 = b.val) (hs : n.val % 4096 = s.val)
    (y1 : Fin 512) : (k0_pay7 (F := Ideal) (k0_pay2 (F := Ideal) x0 x1) (k0_pay3 (F := Ideal) x3) (Scalar.ofBits .f32 0x3F800000#32) (View.ld x2 r0_5) : FVec Ideal S512x512 .f32) (ix2 y0 y1)
      = val_main_v60 (F := Ideal) A0 A1 A2 A3 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay7, k0_pay5, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The values of the linear branch. -/
theorem value (H : Holds x0 x1 x2 x3 x4 A0 A1 A2 A3 y0 b s) (n : Fin 16384) (hb : n.val / 4096 = b.val) (hs : n.val % 4096 = s.val)
    (y1 : Fin 512) : (k0_pay8 (F := Ideal) (k0_pay2 (F := Ideal) x0 x1) (View.ld x2 r0_6) : FVec Ideal S512x512 .f32) (ix2 y0 y1)
      = val_main_v61 (F := Ideal) A0 A1 A2 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay8, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The output gate of the linear branch. -/
theorem gateLin (H : Holds x0 x1 x2 x3 x4 A0 A1 A2 A3 y0 b s) (n : Fin 16384) (hb : n.val / 4096 = b.val) (hs : n.val % 4096 = s.val)
    (y1 : Fin 512) : (k0_pay11 (F := Ideal) (k0_pay9 (F := Ideal) (k0_pay2 (F := Ideal) x0 x1) (View.ld x2 r0_7)) (k0_pay10 (F := Ideal) (k0_pay2 (F := Ideal) x0 x1) (View.ld x2 r0_7)) : FVec Ideal S512x512 .f32) (ix2 y0 y1)
      = val_main_v62 (F := Ideal) A0 A1 A2 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay11, k0_pay9, k0_pay10, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The output gate of the attention branch. -/
theorem gateAtt (H : Holds x0 x1 x2 x3 x4 A0 A1 A2 A3 y0 b s) (n : Fin 16384) (hb : n.val / 4096 = b.val) (hs : n.val % 4096 = s.val)
    (y1 : Fin 512) : (k0_pay12 (F := Ideal) (k0_pay2 (F := Ideal) x0 x1) (View.ld x2 r0_8) : FVec Ideal S512x512 .f32) (ix2 y0 y1)
      = val_main_v63 (F := Ideal) A0 A1 A2 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay12, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, zero_sub]

/-- The keys of the attention branch, row by row. -/
theorem attKey (H : Holds x0 x1 x2 x3 x4 A0 A1 A2 A3 y0 b s) (n : Fin 16384) (hb : n.val / 4096 = b.val) (hs : n.val % 4096 = s.val)
    (y1 : Fin 512) : (k0_pay16 (F := Ideal) (k0_pay2 (F := Ideal) x0 x1) (View.ld x4 r0_11) : FVec Ideal S512x512 .f32) (ix2 y0 y1)
      = val_main_v64 (F := Ideal) A0 A1 A2 (ix2 n y1) := by
  have eb : ∀ h, (⟨n.val / 4096, h⟩ : Fin 4) = b := fun _ => Fin.ext hb
  have es : ∀ h, (⟨n.val % 4096, h⟩ : Fin 4096) = s := fun _ => Fin.ext hs
  pointwise [k0_pay16, k0_pay14, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [eb, es, norm H, low H, proj, H.w, H.t, ← Nat.add_assoc, Nat.reduceAdd]
  exact Finset.sum_congr rfl fun x _ => mul_comm _ _

/-- The queries of the attention branch, transposed. -/
theorem attQT (H : Holds x0 x1 x2 x3 x4 A0 A1 A2 A3 y0 b s) (y1 : Fin 512) (u : Fin 1) :
    (k0_pay13 (F := Ideal) (k0_pay2 (F := Ideal) x0 x1) (View.ld x4 r0_9) : FVec Ideal S1x512x512 .f32) (ix3 u y1 y0)
      = val_main_v65 (F := Ideal) A0 A1 A2 (ix3 b y1 s) := by
  pointwise [k0_pay13, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [norm H, low H, proj, H.w, H.t, ← Nat.add_assoc, Nat.reduceAdd]
  exact Finset.sum_congr rfl fun x _ => mul_comm _ _

/-- The keys of the attention branch, transposed. -/
theorem attKT (H : Holds x0 x1 x2 x3 x4 A0 A1 A2 A3 y0 b s) (y1 : Fin 512) (u : Fin 1) :
    (k0_pay15 (F := Ideal) (k0_pay2 (F := Ideal) x0 x1) (View.ld x4 r0_11) : FVec Ideal S1x512x512 .f32) (ix3 u y1 y0)
      = val_main_v66 (F := Ideal) A0 A1 A2 (ix3 b y1 s) := by
  pointwise [k0_pay15, k0_pay14, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [norm H, low H, proj, H.w, H.t, ← Nat.add_assoc, Nat.reduceAdd]
  exact Finset.sum_congr rfl fun x _ => mul_comm _ _

/-- The values of the attention branch, transposed. -/
theorem attVT (H : Holds x0 x1 x2 x3 x4 A0 A1 A2 A3 y0 b s) (y1 : Fin 512) (u : Fin 1) :
    (k0_pay1 (F := Ideal) (k0_pay2 (F := Ideal) x0 x1) (View.ld x4 r0_12) : FVec Ideal S1x512x512 .f32) (ix3 u y1 y0)
      = val_main_v67 (F := Ideal) A0 A1 A2 (ix3 b y1 s) := by
  pointwise [k0_pay1, val_main_v16, val_main_v17, val_main_v18, val_main_v19, val_main_v20, val_main_v21, val_main_v22, val_main_v23, val_main_cst_5, val_main_v38, val_main_v39, val_main_v40, val_main_v41, val_main_cst_6, val_main_v42, val_main_v43, val_main_cst_7, val_main_v44, val_main_v45, val_main_v46, val_main_v47, val_main_v48, val_main_v49, val_main_v50, val_main_v51, val_main_call1_v0, val_main_call1_v1, val_main_call1_cst, val_main_call1_v2, val_main_call1_v3, val_main_call1_cst_0, val_main_call1_v4, val_main_call1_v5, val_main_v52, val_main_v53, val_main_cst_8, val_main_v54, val_main_v55, val_main_call2_v0, val_main_call2_v1, val_main_call2_cst, val_main_call2_v2, val_main_call2_v3, val_main_call2_cst_0, val_main_call2_v4, val_main_call2_v5, val_main_v56, val_main_call3_v0, val_main_call3_v1, val_main_call3_cst, val_main_call3_v2, val_main_call3_v3, val_main_call3_cst_0, val_main_call3_v4, val_main_call3_v5, val_main_v57, val_main_v58, val_main_v59, val_main_v60, val_main_v61, val_main_v62, val_main_v63, val_main_v64, val_main_v65, val_main_v66, val_main_v67]
  simp only [norm H, low H, proj, H.w, H.t, ← Nat.add_assoc, Nat.reduceAdd]
  exact Finset.sum_congr rfl fun x _ => mul_comm _ _

end Rows

/-! ## What the windows of a grid point hold -/

variable (m : (ℓ : Loc nD τ sig) → Buf (Elt Ideal) ℓ)

/-- Where the windows of grid point `t` lie. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val / 8, 0, t.val % 8]
    ∧ win0_13.index t = ![t.val / 8, 0, t.val % 8] ∧ win0_14.index t = ![t.val / 8, 0, t.val % 8] :=
  (by decide +kernel : ∀ t : Fin grid0.N, _)

/-- The tokens' block at grid point `t`: rows `512 t` to `512 t + 511` of the tokens, taken over both leading axes. -/
theorem read0 (c : Dev nD) (t : Fin cfg0.N) (a : Fin 512) (k : Fin 1024) (h : _) (h' : _) :
    iblk m c 0 t (ix2 a k) = m (c.tc.loc main_arg0) (ix3 ⟨(t.val * 512 + a.val) / 4096, h⟩ ⟨(t.val * 512 + a.val) % 4096, h'⟩ k) := by
  blk_ext! [iblk, V, idx t]

/-- The norm's scale is read whole. -/
theorem read1 (c : Dev nD) (t : Fin cfg0.N) (a : Fin 1) (k : Fin 1024) :
    iblk m c 1 t (ix2 a k) = m (c.tc.loc main_arg1) (ix2 a k) := by
  blk_ext! [iblk, V, idx t]

/-- The weights are read whole. -/
theorem read2 (c : Dev nD) (t : Fin cfg0.N) (a : Fin 1024) (k : Fin 4096) :
    iblk m c 2 t (ix2 a k) = m (c.tc.loc main_arg2) (ix3 0 a k) := by
  blk_ext! [iblk, V, idx t]

/-- The lower bounds are read whole. -/
theorem read3 (c : Dev nD) (t : Fin cfg0.N) (a : Fin 2) (k : Fin 512) :
    iblk m c 3 t (ix2 a k) = m (c.tc.loc main_arg3) (ix2 a k) := by
  blk_ext! [iblk, V, idx t]

/-- The attention branch's columns of the weights, transposed. -/
theorem read4 (c : Dev nD) (t : Fin cfg0.N) (a : Fin 1536) (k : Fin 1024) :
    iblk m c 4 t (ix2 a k) = m (c.tc.loc main_arg2) (ix3 0 k ⟨2048 + a.val, by omega⟩) := by
  blk_ext! [iblk, V, idx t]

/-- Row `y0` of grid point `t` is a token of a sequence. -/
theorem holds (c : Dev nD) (t : Fin cfg0.N) (y0 : Fin 512) (b : Fin 4) (s : Fin 4096) (hb : (t.val * 512 + y0.val) / 4096 = b.val)
    (hs : (t.val * 512 + y0.val) % 4096 = s.val) :
    Holds (iblk m c 0 t) (iblk m c 1 t) (iblk m c 2 t) (iblk m c 3 t) (iblk m c 4 t) (m (c.tc.loc main_arg0))
      (m (c.tc.loc main_arg1)) (m (c.tc.loc main_arg2)) (m (c.tc.loc main_arg3)) y0 b s where
  x k := by
    obtain ⟨b, hb'⟩ := b
    obtain ⟨s, hs'⟩ := s
    cases hb
    cases hs
    exact read0 m c t y0 k hb' hs'
  g := read1 m c t
  w := read2 m c t
  l := read3 m c t
  t := read4 m c t

end Cert.InPrompt
end
-- ==== Proof.InPromptRun.lean ====
/- The arrays that the input projection of the prompt tokens leaves. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import proofs.«01_k».proof.Proof.InPrompt

@[expose] public section

set_option maxRecDepth 16384

noncomputable section

namespace Cert.InPrompt

open Idealize.ShloMosaic Idealize.ShloMosaic.TcCoe Idealize.SL.Sem
open Cert.Kernel2Ideal Cert.Kernel2Ideal.Gen
open Cert.Reference2Ideal.Read

variable (m : (ℓ : Loc nD τ sig) → Buf (Elt Ideal) ℓ)

/-- The normalised rows that the generated names hold apart. -/
theorem pay17 (x0 : Vec Ideal S512x1024 .f32) (x1 : Vec Ideal S1x1024 .f32) (x2 : Vec Ideal S1024x4096 .bf16) (x3 : Vec Ideal S2x512 .f32)
    (x4 : Vec Ideal S1536x1024 .bf16) : k0_pay17 x0 x1 x2 x3 x4 = k0_pay2 (F := Ideal) x0 x1 := by
  unfold k0_pay17
  frame_out

/-- The lower bound that the generated names hold apart. -/
theorem pay18 (x0 : Vec Ideal S512x1024 .f32) (x1 : Vec Ideal S1x1024 .f32) (x2 : Vec Ideal S1024x4096 .bf16) (x3 : Vec Ideal S2x512 .f32)
    (x4 : Vec Ideal S1536x1024 .bf16) : k0_pay18 x0 x1 x2 x3 x4 = k0_pay3 (F := Ideal) x3 := by
  unfold k0_pay18
  frame_out

/-- The queries of the recurrence. -/
theorem q_eq (c : Dev nD) : (dats m 0 c).arrAt 5 cfg0.N = val_main_v58 (F := Ideal) (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  have ht : t.val < 32 := t.isLt
  change S512x512.Idx at y
  idx_vars y
  have he : ((View.whole main_v5_0).slice (win0_5.rect t)).emb (ix2 y0 y1) = (ix2 ⟨t.val * 512 + y0.val, by omega⟩ y1 : S16384x512.Idx) := by
    blk_ext [idx t]
  rw [he]
  exact q (holds m c t y0 ⟨(t.val * 512 + y0.val) / 4096, by omega⟩ ⟨(t.val * 512 + y0.val) % 4096, by omega⟩ rfl rfl) _ rfl rfl y1

/-- The logarithms of the forget factors. -/
theorem forget_eq (c : Dev nD) : (dats m 0 c).arrAt 6 cfg0.N = val_main_v59 (F := Ideal) (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  frame_out
  rw [pay17, pay18]
  have ht : t.val < 32 := t.isLt
  change S512x512.Idx at y
  idx_vars y
  have he : ((View.whole main_v5_1).slice (win0_6.rect t)).emb (ix2 y0 y1) = (ix2 ⟨t.val * 512 + y0.val, by omega⟩ y1 : S16384x512.Idx) := by
    blk_ext [idx t]
  rw [he]
  exact forget (holds m c t y0 ⟨(t.val * 512 + y0.val) / 4096, by omega⟩ ⟨(t.val * 512 + y0.val) % 4096, by omega⟩ rfl rfl) _ rfl rfl y1

/-- The keys of the recurrence. -/
theorem key_eq (c : Dev nD) : (dats m 0 c).arrAt 7 cfg0.N = val_main_v60 (F := Ideal) (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  rw [after0_7]
  frame_out
  rw [pay17, pay18]
  have ht : t.val < 32 := t.isLt
  change S512x512.Idx at y
  idx_vars y
  have he : ((View.whole main_v5_2).slice (win0_7.rect t)).emb (ix2 y0 y1) = (ix2 ⟨t.val * 512 + y0.val, by omega⟩ y1 : S16384x512.Idx) := by
    blk_ext [idx t]
  rw [he]
  exact key (holds m c t y0 ⟨(t.val * 512 + y0.val) / 4096, by omega⟩ ⟨(t.val * 512 + y0.val) % 4096, by omega⟩ rfl rfl) _ rfl rfl y1

/-- The values of the recurrence. -/
theorem value_eq (c : Dev nD) : (dats m 0 c).arrAt 8 cfg0.N = val_main_v61 (F := Ideal) (m (c.tc.loc main_arg0)) (m (c.tc.loc main_arg1)) (m (c.tc.loc main_arg2)) := by
  refine (dats m 0 c).arrAt_eq_of_covers 8 _ (by decide +kernel) fun t hf y => ?_
  blk_simp
  rw [after0_8]
  frame_out
  rw [pay17]
  have ht : t.val < 32 := t.isLt
  change S512x512.Idx at y
  idx_vars y
  have he : ((View.whole main_v5_3).slice (win0_8.rect t)).emb (ix2 y0 y1) = (ix2 ⟨t.val * 512 + y0.val, by omega⟩ y1 : S16384x512.Idx) := by
    blk_ext [idx t]
  rw [he]
  exact value (holds m c t y0 ⟨(t.val * 512 + y0.val) / 4096, by omega⟩ ⟨(t.val * 512 + y0.val) % 4096, by omega⟩ rfl rfl) _ rfl rfl y1

/-- The gate of the recurrence's output. -/
theorem gateLin_eq (c : Dev nD) : (dats m 0 c).arrAt 9 cfg0.N = val_main_v62 (F := Ideal) (m (c.tc.loc main_arg0)) (m (c.tc.loc main_arg1)) (m (c.tc.loc main_arg2)) := by
  refine (dats m 0 c).arrAt_eq_of_covers 9 _ (by decide +kernel) fun t hf y => ?_
  blk_simp
  rw [after0_9]
  frame_out
  rw [pay17]
  have ht : t.val < 32 := t.isLt
  change S512x512.Idx at y
  idx_vars y
  have he : ((View.whole main_v5_4).slice (win0_9.rect t)).emb (ix2 y0 y1) = (ix2 ⟨t.val * 512 + y0.val, by omega⟩ y1 : S16384x512.Idx) := by
    blk_ext [idx t]
  rw [he]
  exact gateLin (holds m c t y0 ⟨(t.val * 512 + y0.val) / 4096, by omega⟩ ⟨(t.val * 512 + y0.val) % 4096, by omega⟩ rfl rfl) _ rfl rfl y1

/-- The gate of the attention's output. -/
theorem gateAtt_eq (c : Dev nD) : (dats m 0 c).arrAt 10 cfg0.N = val_main_v63 (F := Ideal) (m (c.tc.loc main_arg0)) (m (c.tc.loc main_arg1)) (m (c.tc.loc main_arg2)) := by
  refine (dats m 0 c).arrAt_eq_of_covers 10 _ (by decide +kernel) fun t hf y => ?_
  blk_simp
  rw [after0_10]
  frame_out
  rw [pay17]
  have ht : t.val < 32 := t.isLt
  change S512x512.Idx at y
  idx_vars y
  have he : ((View.whole main_v5_5).slice (win0_10.rect t)).emb (ix2 y0 y1) = (ix2 ⟨t.val * 512 + y0.val, by omega⟩ y1 : S16384x512.Idx) := by
    blk_ext [idx t]
  rw [he]
  exact gateAtt (holds m c t y0 ⟨(t.val * 512 + y0.val) / 4096, by omega⟩ ⟨(t.val * 512 + y0.val) % 4096, by omega⟩ rfl rfl) _ rfl rfl y1

/-- The keys of the attention, row by row. -/
theorem attKey_eq (c : Dev nD) : (dats m 0 c).arrAt 11 cfg0.N = val_main_v64 (F := Ideal) (m (c.tc.loc main_arg0)) (m (c.tc.loc main_arg1)) (m (c.tc.loc main_arg2)) := by
  refine (dats m 0 c).arrAt_eq_of_covers 11 _ (by decide +kernel) fun t hf y => ?_
  blk_simp
  rw [after0_11]
  frame_out
  rw [pay17]
  have ht : t.val < 32 := t.isLt
  change S512x512.Idx at y
  idx_vars y
  have he : ((View.whole main_v5_6).slice (win0_11.rect t)).emb (ix2 y0 y1) = (ix2 ⟨t.val * 512 + y0.val, by omega⟩ y1 : S16384x512.Idx) := by
    blk_ext [idx t]
  rw [he]
  exact attKey (holds m c t y0 ⟨(t.val * 512 + y0.val) / 4096, by omega⟩ ⟨(t.val * 512 + y0.val) % 4096, by omega⟩ rfl rfl) _ rfl rfl y1

/-- The queries of the attention, transposed. -/
theorem attQT_eq (c : Dev nD) : (dats m 0 c).arrAt 12 cfg0.N = val_main_v65 (F := Ideal) (m (c.tc.loc main_arg0)) (m (c.tc.loc main_arg1)) (m (c.tc.loc main_arg2)) := by
  refine (dats m 0 c).arrAt_eq_of_covers 12 _ (by decide +kernel) fun t hf y => ?_
  blk_simp
  rw [after0_12]
  frame_out
  rw [pay17]
  have ht : t.val < 32 := t.isLt
  change S1x512x512.Idx at y
  idx_vars y
  have he : ((View.whole main_v5_7).slice (win0_12.rect t)).emb (ix3 y0 y1 y2)
      = (ix3 ⟨t.val / 8, by omega⟩ y1 ⟨t.val % 8 * 512 + y2.val, by omega⟩ : S4x512x4096.Idx) := by
    blk_ext [idx t]
  rw [he]
  exact attQT (holds m c t y2 _ _ (by show _ = t.val / 8; omega) (by show _ = t.val % 8 * 512 + y2.val; omega)) y1 y0

/-- The keys of the attention, transposed. -/
theorem attKT_eq (c : Dev nD) : (dats m 0 c).arrAt 13 cfg0.N = val_main_v66 (F := Ideal) (m (c.tc.loc main_arg0)) (m (c.tc.loc main_arg1)) (m (c.tc.loc main_arg2)) := by
  refine (dats m 0 c).arrAt_eq_of_covers 13 _ (by decide +kernel) fun t hf y => ?_
  blk_simp
  rw [after0_13]
  frame_out
  rw [pay17]
  have ht : t.val < 32 := t.isLt
  change S1x512x512.Idx at y
  idx_vars y
  have he : ((View.whole main_v5_8).slice (win0_13.rect t)).emb (ix3 y0 y1 y2)
      = (ix3 ⟨t.val / 8, by omega⟩ y1 ⟨t.val % 8 * 512 + y2.val, by omega⟩ : S4x512x4096.Idx) := by
    blk_ext [idx t]
  rw [he]
  exact attKT (holds m c t y2 _ _ (by show _ = t.val / 8; omega) (by show _ = t.val % 8 * 512 + y2.val; omega)) y1 y0

/-- The values of the attention, transposed. -/
theorem attVT_eq (c : Dev nD) : (dats m 0 c).arrAt 14 cfg0.N = val_main_v67 (F := Ideal) (m (c.tc.loc main_arg0)) (m (c.tc.loc main_arg1)) (m (c.tc.loc main_arg2)) := by
  refine (dats m 0 c).arrAt_eq_of_covers 14 _ (by decide +kernel) fun t hf y => ?_
  blk_simp
  rw [after0_14]
  frame_out
  rw [pay17]
  have ht : t.val < 32 := t.isLt
  change S1x512x512.Idx at y
  idx_vars y
  have he : ((View.whole main_v5_9).slice (win0_14.rect t)).emb (ix3 y0 y1 y2)
      = (ix3 ⟨t.val / 8, by omega⟩ y1 ⟨t.val % 8 * 512 + y2.val, by omega⟩ : S4x512x4096.Idx) := by
    blk_ext [idx t]
  rw [he]
  exact attVT (holds m c t y2 _ _ (by show _ = t.val / 8; omega) (by show _ = t.val % 8 * 512 + y2.val; omega)) y1 y0

end Cert.InPrompt
end
-- ==== Proof.InSample.lean ====
/- The input projection of the sample tokens: the normalised rows times the weights and the gates of both branches. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.InPrompt

@[expose] public section

set_option maxRecDepth 16384

noncomputable section

namespace Cert.InSample

open Idealize.ShloMosaic Idealize.ShloMosaic.TcCoe Idealize.SL.Sem
open Cert.Kernel3Ideal Cert.Kernel3Ideal.Gen
open Cert.Reference3Ideal.Read

/-- The kernel's lower bound of the forget gate is the reference's. -/
theorem lower (x : FVec Ideal S2x512 .f32) (b : Fin 512) :
    (k0_pay7 (F := Ideal) x : FVec Ideal S1x512 .f32) (ix2 0 b) = val_main_v37 (F := Ideal) x (ix1 b) := by
  have hr : val_main_v37 (F := Ideal) x (ix1 b) = val_main_v34 (F := Ideal) x (ix2 0 b) := by
    pointwise [val_main_v37, val_main_v36, val_main_v35]
    exact Cert.InPrompt.cumsum_first _ _ (fun i => by pointwise [val_main_call0_call0_v0, val_main_call0_call0_cst]) b
  rw [hr]
  pointwise [k0_pay7, val_main_cst_2, val_main_v24, val_main_cst_3, val_main_v25, val_main_v26, val_main_v27, val_main_v28, val_main_v29, val_main_v30, val_main_cst_4, val_main_v31, val_main_v32, val_main_v33, val_main_v34, val_main_call0_call0_cst, val_main_call0_call0_v0]
  simp only [Cert.InPrompt.max_fold]

variable {x0 : FVec Ideal S256x1024 .f32} {x1 : FVec Ideal S1x1024 .f32} {x2 : FVec Ideal S1024x4096 .bf16}
  {x3 : FVec Ideal S2x512 .f32}
  {A0 : FVec Ideal S128x4x1024 .f32} {A1 : FVec Ideal S1x1024 .f32} {A2 : FVec Ideal S1x1024x4096 .f32}
  {A3 : FVec Ideal S2x512 .f32}

variable (x0 x1 x2 x3 A0 A1 A2 A3) in
/-- What the blocks of a grid point hold, at the row `y0` that is token `s` of sequence `b`. -/
structure Holds (y0 : Fin 256) (b : Fin 128) (s : Fin 4) : Prop where
  x : ∀ k, x0 (ix2 y0 k) = A0 (ix3 b s k)
  g : ∀ a k, x1 (ix2 a k) = A1 (ix2 a k)
  w : ∀ a k, x2 (ix2 a k) = A2 (ix3 0 a k)
  l : ∀ a k, x3 (ix2 a k) = A3 (ix2 a k)

variable {y0 : Fin 256} {b : Fin 128} {s : Fin 4}

/-- The normalised row. -/
theorem norm (H : Holds x0 x1 x2 x3 A0 A1 A2 A3 y0 b s) (k : Fin 1024) :
    (k0_pay6 (F := Ideal) x0 x1 : FVec Ideal S256x1024 .bf16) (ix2 y0 k) = val_main_v13 (F := Ideal) A0 A1 (ix3 b s k) := by
  pointwise [k0_pay6, val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  simp only [H.x, H.g]

/-- A column of the projected row. -/
theorem proj (k : Fin 4096) : val_main_v15 (F := Ideal) A0 A1 A2 (ix3 b s k)
    = ∑ x, val_main_v13 (F := Ideal) A0 A1 (ix3 b s x) * A2 (ix3 0 x k) := by
  pointwise [val_main_v15, val_main_v14]

/-- The lower bound that the block's row takes is the reference's. -/
theorem low (H : Holds x0 x1 x2 x3 A0 A1 A2 A3 y0 b s) (k : Fin 512) :
    (k0_pay7 (F := Ideal) x3 : FVec Ideal S1x512 .f32) (ix2 0 k) = val_main_v37 (F := Ideal) A3 (ix1 k) := by
  have hx : x3 = A3 := by
    funext i
    idx_vars i
    exact H.l _ _
  rw [hx, lower]

/-- The queries of the linear branch. -/
theorem q (H : Holds x0 x1 x2 x3 A0 A1 A2 A3 y0 b s) (n : Fin 1024) (hb : n.val / 8 = b.val) (hs : n.val % 8 = s.val)
    (y1 : Fin 512) : (k0_pay8 (F := Ideal) x0 x1 (View.ld x2 r0_3) : FVec Ideal S256x512 .f32) (ix2 y0 y1)
      = val_main_v59 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay8, val_main_v59, val_main_v58, val_main_v52, val_main_v16, val_main_call1_v5, val_main_call1_v4, val_main_call1_cst_0, val_main_call1_v3, val_main_call1_v2, val_main_call1_cst, val_main_call1_v1, val_main_call1_v0, val_main_call4_v0, val_main_c]
  simp only [hb', hs', and_self, dite_true, eb, es, norm H, low H, proj, H.w, zero_sub]

/-- The logarithm of the forget gate. -/
theorem forget (H : Holds x0 x1 x2 x3 A0 A1 A2 A3 y0 b s) (n : Fin 1024) (hb : n.val / 8 = b.val) (hs : n.val % 8 = s.val)
    (y1 : Fin 512) : (k0_pay10 (F := Ideal) (k0_pay6 (F := Ideal) x0 x1) (k0_pay7 (F := Ideal) x3) (Scalar.ofBits .f32 0x3F800000#32) (View.ld x2 r0_5) : FVec Ideal S256x512 .f32) (ix2 y0 y1)
      = val_main_v61 (F := Ideal) A0 A1 A2 A3 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay10, k0_pay9, val_main_v61, val_main_v60, val_main_v53, val_main_v51, val_main_v50, val_main_v49, val_main_v48, val_main_v47, val_main_v46, val_main_v39, val_main_v38, val_main_cst_5, val_main_v45, val_main_v44, val_main_cst_7, val_main_v43, val_main_v42, val_main_cst_6, val_main_v41, val_main_v40, val_main_v17, val_main_call5_v0, val_main_c_9]
  simp only [hb', hs', and_self, dite_true, eb, es, norm H, low H, proj, H.w, zero_sub]

/-- The keys of the linear branch. -/
theorem key (H : Holds x0 x1 x2 x3 A0 A1 A2 A3 y0 b s) (n : Fin 1024) (hb : n.val / 8 = b.val) (hs : n.val % 8 = s.val)
    (y1 : Fin 512) : (k0_pay11 (F := Ideal) (k0_pay6 (F := Ideal) x0 x1) (k0_pay7 (F := Ideal) x3) (Scalar.ofBits .f32 0x3F800000#32) (View.ld x2 r0_5) : FVec Ideal S256x512 .f32) (ix2 y0 y1)
      = val_main_v63 (F := Ideal) A0 A1 A2 A3 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay11, k0_pay9, val_main_v63, val_main_v62, val_main_v55, val_main_v54, val_main_cst_8, val_main_v51, val_main_v50, val_main_v49, val_main_v48, val_main_v47, val_main_v46, val_main_v39, val_main_v38, val_main_cst_5, val_main_v45, val_main_v44, val_main_cst_7, val_main_v43, val_main_v42, val_main_cst_6, val_main_v41, val_main_v40, val_main_v17, val_main_call6_v0, val_main_c_10]
  simp only [hb', hs', and_self, dite_true, eb, es, norm H, low H, proj, H.w, zero_sub]

/-- The values of the linear branch. -/
theorem value (H : Holds x0 x1 x2 x3 A0 A1 A2 A3 y0 b s) (n : Fin 1024) (hb : n.val / 8 = b.val) (hs : n.val % 8 = s.val)
    (y1 : Fin 512) : (k0_pay12 (F := Ideal) (k0_pay6 (F := Ideal) x0 x1) (View.ld x2 r0_6) : FVec Ideal S256x512 .f32) (ix2 y0 y1)
      = val_main_v65 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay12, val_main_v65, val_main_v64, val_main_v18, val_main_call7_v0, val_main_c_11]
  simp only [hb', hs', and_self, dite_true, eb, es, norm H, low H, proj, H.w, zero_sub]

/-- The output gate of the linear branch. -/
theorem gateLin (H : Holds x0 x1 x2 x3 A0 A1 A2 A3 y0 b s) (n : Fin 1024) (hb : n.val / 8 = b.val) (hs : n.val % 8 = s.val)
    (y1 : Fin 512) : (k0_pay1 (F := Ideal) (k0_pay13 (F := Ideal) (k0_pay6 (F := Ideal) x0 x1) (View.ld x2 r0_7)) (k0_pay14 (F := Ideal) (k0_pay6 (F := Ideal) x0 x1) (View.ld x2 r0_7)) : FVec Ideal S256x512 .f32) (ix2 y0 y1)
      = val_main_v67 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay1, k0_pay13, k0_pay14, val_main_v67, val_main_v66, val_main_v56, val_main_v19, val_main_call2_v5, val_main_call2_v4, val_main_call2_cst_0, val_main_call2_v3, val_main_call2_v2, val_main_call2_cst, val_main_call2_v1, val_main_call2_v0, val_main_call8_v0, val_main_c_12]
  simp only [hb', hs', and_self, dite_true, eb, es, norm H, low H, proj, H.w, zero_sub]

/-- The output gate of the attention branch. -/
theorem gateAtt (H : Holds x0 x1 x2 x3 A0 A1 A2 A3 y0 b s) (n : Fin 1024) (hb : n.val / 8 = b.val) (hs : n.val % 8 = s.val)
    (y1 : Fin 512) : (k0_pay2 (F := Ideal) (k0_pay6 (F := Ideal) x0 x1) (View.ld x2 r0_8) : FVec Ideal S256x512 .f32) (ix2 y0 y1)
      = val_main_v69 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay2, val_main_v69, val_main_v68, val_main_v57, val_main_v23, val_main_call3_v5, val_main_call3_v4, val_main_call3_cst_0, val_main_call3_v3, val_main_call3_v2, val_main_call3_cst, val_main_call3_v1, val_main_call3_v0, val_main_call9_v0, val_main_c_13]
  simp only [hb', hs', and_self, dite_true, eb, es, norm H, low H, proj, H.w, zero_sub]

/-- The queries of the attention branch. -/
theorem attQ (H : Holds x0 x1 x2 x3 A0 A1 A2 A3 y0 b s) (n : Fin 1024) (hb : n.val / 8 = b.val) (hs : n.val % 8 = s.val)
    (y1 : Fin 512) : (k0_pay3 (F := Ideal) (k0_pay6 (F := Ideal) x0 x1) (View.ld x2 r0_9) : FVec Ideal S256x512 .f32) (ix2 y0 y1)
      = val_main_v71 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay3, val_main_v71, val_main_v70, val_main_v20, val_main_call10_v0, val_main_c_14]
  simp only [hb', hs', and_self, dite_true, eb, es, norm H, low H, proj, H.w, zero_sub]

/-- The keys of the attention branch. -/
theorem attK (H : Holds x0 x1 x2 x3 A0 A1 A2 A3 y0 b s) (n : Fin 1024) (hb : n.val / 8 = b.val) (hs : n.val % 8 = s.val)
    (y1 : Fin 512) : (k0_pay4 (F := Ideal) (k0_pay6 (F := Ideal) x0 x1) (View.ld x2 r0_10) : FVec Ideal S256x512 .f32) (ix2 y0 y1)
      = val_main_v73 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay4, val_main_v73, val_main_v72, val_main_v21, val_main_call11_v0, val_main_c_15]
  simp only [hb', hs', and_self, dite_true, eb, es, norm H, low H, proj, H.w, zero_sub]

/-- The values of the attention branch. -/
theorem attV (H : Holds x0 x1 x2 x3 A0 A1 A2 A3 y0 b s) (n : Fin 1024) (hb : n.val / 8 = b.val) (hs : n.val % 8 = s.val)
    (y1 : Fin 512) : (k0_pay5 (F := Ideal) (k0_pay6 (F := Ideal) x0 x1) (View.ld x2 r0_11) : FVec Ideal S256x512 .f32) (ix2 y0 y1)
      = val_main_v75 (F := Ideal) A0 A1 A2 (ix2 n y1) := by
  have hb' : n.val / 8 < 128 := by omega
  have hs' : n.val % 8 < 4 := by omega
  have eb : ∀ h, (⟨n.val / 8, h⟩ : Fin 128) = b := fun _ => Fin.ext hb
  have es : ∀ h, (⟨n.val % 8, h⟩ : Fin 4) = s := fun _ => Fin.ext hs
  pointwise [k0_pay5, val_main_v75, val_main_v74, val_main_v22, val_main_call12_v0, val_main_c_16]
  simp only [hb', hs', and_self, dite_true, eb, es, norm H, low H, proj, H.w, zero_sub]

end Cert.InSample
end
-- ==== Proof.InSampleRun.lean ====
/- The arrays that the input projection of the sample tokens leaves, on the rows that hold tokens. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.InSample

@[expose] public section

set_option maxRecDepth 16384

noncomputable section

namespace Cert.InSample

open Idealize.ShloMosaic Idealize.ShloMosaic.TcCoe Idealize.SL.Sem
open Cert.Kernel3Ideal Cert.Kernel3Ideal.Gen
open Cert.Reference3Ideal.Read

variable (m : (ℓ : Loc nD τ sig) → Buf (Elt Ideal) ℓ)

/-- The normalised row that the generated names hold apart. -/
theorem pay15 (x0 : Vec Ideal S256x1024 .f32) (x1 : Vec Ideal S1x1024 .f32) (x2 : Vec Ideal S1024x4096 .bf16) (x3 : Vec Ideal S2x512 .f32) :
    k0_pay15 x0 x1 x2 x3 = k0_pay6 (F := Ideal) x0 x1 := by
  unfold k0_pay15
  frame_out

/-- The lower bound that the generated names hold apart. -/
theorem pay16 (x0 : Vec Ideal S256x1024 .f32) (x1 : Vec Ideal S1x1024 .f32) (x2 : Vec Ideal S1024x4096 .bf16) (x3 : Vec Ideal S2x512 .f32) :
    k0_pay16 x0 x1 x2 x3 = k0_pay7 (F := Ideal) x3 := by
  unfold k0_pay16
  frame_out

/-- Where the windows of grid point `t` lie. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-! What the region finds in the arrays that the host code prepares. -/

/-- The hidden states: four rows of padding after each sequence, in one matrix. -/
theorem entry1 (c : Dev nD) : V m c main_v1 = shapeCast S1024x1024 (pad S128x8x1024 ![0, 0, 0] ![0, 4, 0] ![0, 0, 0]
    (m (c.tc.loc main_arg0) : FVec Ideal S128x4x1024 .f32) (sitofp (F := Ideal) (w := 32) .f32 (constantI S_ 32 0#32)) pads_S128x4x1024_S128x8x1024_000_040_000 h_S_)
    shapeCasts_S128x8x1024_S1024x1024 := by
  simp only [V, hostOps0, hostOps0_1, hostOps0_2, List.flatten_cons, List.flatten_nil, List.append_nil, List.cons_append,
      List.nil_append]
  after_results <;> rfl

/-- The weights as one matrix. -/
theorem entry3 (c : Dev nD) : V m c main_v3 = (truncf .bf16 (shapeCast S1024x4096 (m (c.tc.loc main_arg2) : FVec Ideal S1x1024x4096 .f32)
    shapeCasts_S1x1024x4096_S1024x4096 : FVec Ideal S1024x4096 .f32) bitsLt_bf16_f32 : FVec Ideal S1024x4096 .bf16) := by
  simp only [V, hostOps0, hostOps0_1, hostOps0_2, List.flatten_cons, List.flatten_nil, List.append_nil, List.cons_append,
      List.nil_append]
  after_results <;> rfl

/-- A row that holds a token keeps it when the sequences are padded to eight rows. -/
theorem padded (x : FVec Ideal S128x4x1024 .f32) (z : FVec Ideal S_ .f32) (r : Fin 1024) (b : Fin 1024) (h : r.val / 8 < 128)
    (h' : r.val % 8 < 4) :
    shapeCast S1024x1024 (pad S128x8x1024 ![0, 0, 0] ![0, 4, 0] ![0, 0, 0] x z pads_S128x4x1024_S128x8x1024_000_040_000 h_S_)
      shapeCasts_S128x8x1024_S1024x1024 (ix2 r b) = x (ix3 ⟨r.val / 8, h⟩ ⟨r.val % 8, h'⟩ b) := by
  pointwise <;> simp [h, h']

/-- The weights of the layer as a matrix. -/
theorem weights (x : FVec Ideal S1x1024x4096 .f32) (r : Fin 1024) (b : Fin 4096) :
    truncf .bf16 (shapeCast S1024x4096 x shapeCasts_S1x1024x4096_S1024x4096) bitsLt_bf16_f32 (ix2 r b) = x (ix3 0 r b) := by
  pointwise

/-- The tokens' block at grid point `t`, on a row that holds a token: rows `256 t` to `256 t + 255`, eight a sequence. -/
theorem read0 (c : Dev nD) (t : Fin cfg0.N) (a : Fin 256) (k : Fin 1024) (h : _) (h' : (t.val * 256 + a.val) % 8 < 4) :
    iblk m c 0 t (ix2 a k) = m (c.tc.loc main_arg0) (ix3 ⟨(t.val * 256 + a.val) / 8, h⟩ ⟨(t.val * 256 + a.val) % 8, h'⟩ k) := by
  have ht : t.val < 4 := t.isLt
  have he : ((cfg0.win 0).blk t).view.emb (ix2 a k) = (ix2 ⟨t.val * 256 + a.val, by omega⟩ k : S1024x1024.Idx) := by
    blk_ext [idx t]
  show V m c main_v1 (((cfg0.win 0).blk t).view.emb (ix2 a k)) = _
  rw [he, entry1]
  exact padded _ _ ⟨t.val * 256 + a.val, by omega⟩ k h h'

/-- The norm's scale is read whole. -/
theorem read1 (c : Dev nD) (t : Fin cfg0.N) (a : Fin 1) (k : Fin 1024) :
    iblk m c 1 t (ix2 a k) = m (c.tc.loc main_arg1) (ix2 a k) := by
  have he : ((cfg0.win 1).blk t).view.emb (ix2 a k) = (ix2 a k : S1x1024.Idx) := by
    blk_ext [idx t]
  show V m c main_arg1 (((cfg0.win 1).blk t).view.emb (ix2 a k)) = _
  rw [he, V_main_arg1]

/-- The weights are read whole. -/
theorem read2 (c : Dev nD) (t : Fin cfg0.N) (a : Fin 1024) (k : Fin 4096) :
    iblk m c 2 t (ix2 a k) = m (c.tc.loc main_arg2) (ix3 0 a k) := by
  have he : ((cfg0.win 2).blk t).view.emb (ix2 a k) = (ix2 a k : S1024x4096.Idx) := by
    blk_ext [idx t]
  show V m c main_v3 (((cfg0.win 2).blk t).view.emb (ix2 a k)) = _
  rw [he, entry3]
  exact weights _ a k

/-- The lower bounds are read whole. -/
theorem read3 (c : Dev nD) (t : Fin cfg0.N) (a : Fin 2) (k : Fin 512) :
    iblk m c 3 t (ix2 a k) = m (c.tc.loc main_arg3) (ix2 a k) := by
  have he : ((cfg0.win 3).blk t).view.emb (ix2 a k) = (ix2 a k : S2x512.Idx) := by
    blk_ext [idx t]
  show V m c main_arg3 (((cfg0.win 3).blk t).view.emb (ix2 a k)) = _
  rw [he, V_main_arg3]

/-- Row `y0` of grid point `t` is a token of a sequence. -/
theorem holds (c : Dev nD) (t : Fin cfg0.N) (y0 : Fin 256) (b : Fin 128) (s : Fin 4) (hb : (t.val * 256 + y0.val) / 8 = b.val)
    (hs : (t.val * 256 + y0.val) % 8 = s.val) :
    Holds (iblk m c 0 t) (iblk m c 1 t) (iblk m c 2 t) (iblk m c 3 t) (m (c.tc.loc main_arg0))
      (m (c.tc.loc main_arg1)) (m (c.tc.loc main_arg2)) (m (c.tc.loc main_arg3)) y0 b s where
  x k := by
    obtain ⟨b, hb'⟩ := b
    obtain ⟨s, hs'⟩ := s
    cases hb
    cases hs
    exact read0 m c t y0 k hb' hs'
  g := read1 m c t
  w := read2 m c t
  l := read3 m c t

/-! ## The arrays after the run -/

/-- The queries of the recurrence. -/
theorem q_eq (c : Dev nD) (i : S1024x512.Idx) : (i 0).val % 8 < 4 → (dats m 0 c).arrAt 4 cfg0.N i
    = val_main_v59 (F := Ideal) (m (c.tc.loc main_arg0)) (m (c.tc.loc main_arg1)) (m (c.tc.loc main_arg2)) i := by
  refine (dats m 0 c).arrAt_forall_of_covers 4 (fun (i : S1024x512.Idx) v => (i 0).val % 8 < 4 → v
    = val_main_v59 (F := Ideal) (m (c.tc.loc main_arg0)) (m (c.tc.loc main_arg1)) (m (c.tc.loc main_arg2)) i) (by decide +kernel) (fun t hf y => ?_) i
  blk_simp
  rw [after0_4]
  frame_out
  have ht : t.val < 4 := t.isLt
  change S256x512.Idx at y
  idx_vars y
  have hy : y0.val < 256 := y0.isLt
  have he : ((View.whole main_v4_0).slice (win0_4.rect t)).emb (ix2 y0 y1) = (ix2 ⟨t.val * 256 + y0.val, by omega⟩ y1 : S1024x512.Idx) := by
    blk_ext [idx t]
  rw [he]
  intro hr
  rw [show win0_4.index t 0 = t.val from congrFun (idx t).2.2.2.2.1 0] at hr
  exact q (holds m c t y0 ⟨(t.val * 256 + y0.val) / 8, by omega⟩ ⟨(t.val * 256 + y0.val) % 8, hr⟩ rfl rfl) _ rfl rfl y1

/-- The logarithms of the forget factors. -/
theorem forget_eq (c : Dev nD) (i : S1024x512.Idx) : (i 0).val % 8 < 4 → (dats m 0 c).arrAt 5 cfg0.N i
    = val_main_v61 (F := Ideal) (m (c.tc.loc main_arg0)) (m (c.tc.loc main_arg1)) (m (c.tc.loc main_arg2)) (m (c.tc.loc main_arg3)) i := by
  refine (dats m 0 c).arrAt_forall_of_covers 5 (fun (i : S1024x512.Idx) v => (i 0).val % 8 < 4 → v
    = val_main_v61 (F := Ideal) (m (c.tc.loc main_arg0)) (m (c.tc.loc main_arg1)) (m (c.tc.loc main_arg2)) (m (c.tc.loc main_arg3)) i) (by decide +kernel) (fun t hf y => ?_) i
  blk_simp
  rw [after0_5]
  frame_out
  rw [pay15, pay16]
  have ht : t.val < 4 := t.isLt
  change S256x512.Idx at y
  idx_vars y
  have hy : y0.val < 256 := y0.isLt
  have he : ((View.whole main_v4_1).slice (win0_5.rect t)).emb (ix2 y0 y1) = (ix2 ⟨t.val * 256 + y0.val, by omega⟩ y1 : S1024x512.Idx) := by
    blk_ext [idx t]
  rw [he]
  intro hr
  rw [show win0_5.index t 0 = t.val from congrFun (idx t).2.2.2.2.2.1 0] at hr
  exact forget (holds m c t y0 ⟨(t.val * 256 + y0.val) / 8, by omega⟩ ⟨(t.val * 256 + y0.val) % 8, hr⟩ rfl rfl) _ rfl rfl y1

/-- The keys of the recurrence. -/
theorem key_eq (c : Dev nD) (i : S1024x512.Idx) : (i 0).val % 8 < 4 → (dats m 0 c).arrAt 6 cfg0.N i
    = val_main_v63 (F := Ideal) (m (c.tc.loc main_arg0)) (m (c.tc.loc main_arg1)) (m (c.tc.loc main_arg2)) (m (c.tc.loc main_arg3)) i := by
  refine (dats m 0 c).arrAt_forall_of_covers 6 (fun (i : S1024x512.Idx) v => (i 0).val % 8 < 4 → v
    = val_main_v63 (F := Ideal) (m (c.tc.loc main_arg0)) (m (c.tc.loc main_arg1)) (m (c.tc.loc main_arg2)) (m (c.tc.loc main_arg3)) i) (by decide +kernel) (fun t hf y => ?_) i
  blk_simp
  rw [after0_6]
  frame_out
  rw [pay15, pay16]
  have ht : t.val < 4 := t.isLt
  change S256x512.Idx at y
  idx_vars y
  have hy : y0.val < 256 := y0.isLt
  have he : ((View.whole main_v4_2).slice (win0_6.rect t)).emb (ix2 y0 y1) = (ix2 ⟨t.val * 256 + y0.val, by omega⟩ y1 : S1024x512.Idx) := by
    blk_ext [idx t]
  rw [he]
  intro hr
  rw [show win0_6.index t 0 = t.val from congrFun (idx t).2.2.2.2.2.2.1 0] at hr
  exact key (holds m c t y0 ⟨(t.val * 256 + y0.val) / 8, by omega⟩ ⟨(t.val * 256 + y0.val) % 8, hr⟩ rfl rfl) _ rfl rfl y1

/-- The values of the recurrence. -/
theorem value_eq (c : Dev nD) (i : S1024x512.Idx) : (i 0).val % 8 < 4 → (dats m 0 c).arrAt 7 cfg0.N i
    = val_main_v65 (F := Ideal) (m (c.tc.loc main_arg0)) (m (c.tc.loc main_arg1)) (m (c.tc.loc main_arg2)) i := by
  refine (dats m 0 c).arrAt_forall_of_covers 7 (fun (i : S1024x512.Idx) v => (i 0).val % 8 < 4 → v
    = val_main_v65 (F := Ideal) (m (c.tc.loc main_arg0)) (m (c.tc.loc main_arg1)) (m (c.tc.loc main_arg2)) i) (by decide +kernel) (fun t hf y => ?_) i
  blk_simp
  rw [after0_7]
  frame_out
  rw [pay15]
  have ht : t.val < 4 := t.isLt
  change S256x512.Idx at y
  idx_vars y
  have hy : y0.val < 256 := y0.isLt
  have he : ((View.whole main_v4_3).slice (win0_7.rect t)).emb (ix2 y0 y1) = (ix2 ⟨t.val * 256 + y0.val, by omega⟩ y1 : S1024x512.Idx) := by
    blk_ext [idx t]
  rw [he]
  intro hr
  rw [show win0_7.index t 0 = t.val from congrFun (idx t).2.2.2.2.2.2.2.1 0] at hr
  exact value (holds m c t y0 ⟨(t.val * 256 + y0.val) / 8, by omega⟩ ⟨(t.val * 256 + y0.val) % 8, hr⟩ rfl rfl) _ rfl rfl y1

/-- The gate of the recurrence's output. -/
theorem gateLin_eq (c : Dev nD) (i : S1024x512.Idx) : (i 0).val % 8 < 4 → (dats m 0 c).arrAt 8 cfg0.N i
    = val_main_v67 (F := Ideal) (m (c.tc.loc main_arg0)) (m (c.tc.loc main_arg1)) (m (c.tc.loc main_arg2)) i := by
  refine (dats m 0 c).arrAt_forall_of_covers 8 (fun (i : S1024x512.Idx) v => (i 0).val % 8 < 4 → v
    = val_main_v67 (F := Ideal) (m (c.tc.loc main_arg0)) (m (c.tc.loc main_arg1)) (m (c.tc.loc main_arg2)) i) (by decide +kernel) (fun t hf y => ?_) i
  blk_simp
  rw [after0_8]
  frame_out
  rw [pay15]
  have ht : t.val < 4 := t.isLt
  change S256x512.Idx at y
  idx_vars y
  have hy : y0.val < 256 := y0.isLt
  have he : ((View.whole main_v4_4).slice (win0_8.rect t)).emb (ix2 y0 y1) = (ix2 ⟨t.val * 256 + y0.val, by omega⟩ y1 : S1024x512.Idx) := by
    blk_ext [idx t]
  rw [he]
  intro hr
  rw [show win0_8.index t 0 = t.val from congrFun (idx t).2.2.2.2.2.2.2.2.1 0] at hr
  exact gateLin (holds m c t y0 ⟨(t.val * 256 + y0.val) / 8, by omega⟩ ⟨(t.val * 256 + y0.val) % 8, hr⟩ rfl rfl) _ rfl rfl y1

/-- The gate of the attention's output. -/
theorem gateAtt_eq (c : Dev nD) (i : S1024x512.Idx) : (i 0).val % 8 < 4 → (dats m 0 c).arrAt 9 cfg0.N i
    = val_main_v69 (F := Ideal) (m (c.tc.loc main_arg0)) (m (c.tc.loc main_arg1)) (m (c.tc.loc main_arg2)) i := by
  refine (dats m 0 c).arrAt_forall_of_covers 9 (fun (i : S1024x512.Idx) v => (i 0).val % 8 < 4 → v
    = val_main_v69 (F := Ideal) (m (c.tc.loc main_arg0)) (m (c.tc.loc main_arg1)) (m (c.tc.loc main_arg2)) i) (by decide +kernel) (fun t hf y => ?_) i
  blk_simp
  rw [after0_9]
  frame_out
  rw [pay15]
  have ht : t.val < 4 := t.isLt
  change S256x512.Idx at y
  idx_vars y
  have hy : y0.val < 256 := y0.isLt
  have he : ((View.whole main_v4_5).slice (win0_9.rect t)).emb (ix2 y0 y1) = (ix2 ⟨t.val * 256 + y0.val, by omega⟩ y1 : S1024x512.Idx) := by
    blk_ext [idx t]
  rw [he]
  intro hr
  rw [show win0_9.index t 0 = t.val from congrFun (idx t).2.2.2.2.2.2.2.2.2.1 0] at hr
  exact gateAtt (holds m c t y0 ⟨(t.val * 256 + y0.val) / 8, by omega⟩ ⟨(t.val * 256 + y0.val) % 8, hr⟩ rfl rfl) _ rfl rfl y1

/-- The queries of the attention. -/
theorem attQ_eq (c : Dev nD) (i : S1024x512.Idx) : (i 0).val % 8 < 4 → (dats m 0 c).arrAt 10 cfg0.N i
    = val_main_v71 (F := Ideal) (m (c.tc.loc main_arg0)) (m (c.tc.loc main_arg1)) (m (c.tc.loc main_arg2)) i := by
  refine (dats m 0 c).arrAt_forall_of_covers 10 (fun (i : S1024x512.Idx) v => (i 0).val % 8 < 4 → v
    = val_main_v71 (F := Ideal) (m (c.tc.loc main_arg0)) (m (c.tc.loc main_arg1)) (m (c.tc.loc main_arg2)) i) (by decide +kernel) (fun t hf y => ?_) i
  blk_simp
  rw [after0_10]
  frame_out
  rw [pay15]
  have ht : t.val < 4 := t.isLt
  change S256x512.Idx at y
  idx_vars y
  have hy : y0.val < 256 := y0.isLt
  have he : ((View.whole main_v4_6).slice (win0_10.rect t)).emb (ix2 y0 y1) = (ix2 ⟨t.val * 256 + y0.val, by omega⟩ y1 : S1024x512.Idx) := by
    blk_ext [idx t]
  rw [he]
  intro hr
  rw [show win0_10.index t 0 = t.val from congrFun (idx t).2.2.2.2.2.2.2.2.2.2.1 0] at hr
  exact attQ (holds m c t y0 ⟨(t.val * 256 + y0.val) / 8, by omega⟩ ⟨(t.val * 256 + y0.val) % 8, hr⟩ rfl rfl) _ rfl rfl y1

/-- The keys of the attention. -/
theorem attK_eq (c : Dev nD) (i : S1024x512.Idx) : (i 0).val % 8 < 4 → (dats m 0 c).arrAt 11 cfg0.N i
    = val_main_v73 (F := Ideal) (m (c.tc.loc main_arg0)) (m (c.tc.loc main_arg1)) (m (c.tc.loc main_arg2)) i := by
  refine (dats m 0 c).arrAt_forall_of_covers 11 (fun (i : S1024x512.Idx) v => (i 0).val % 8 < 4 → v
    = val_main_v73 (F := Ideal) (m (c.tc.loc main_arg0)) (m (c.tc.loc main_arg1)) (m (c.tc.loc main_arg2)) i) (by decide +kernel) (fun t hf y => ?_) i
  blk_simp
  rw [after0_11]
  frame_out
  rw [pay15]
  have ht : t.val < 4 := t.isLt
  change S256x512.Idx at y
  idx_vars y
  have hy : y0.val < 256 := y0.isLt
  have he : ((View.whole main_v4_7).slice (win0_11.rect t)).emb (ix2 y0 y1) = (ix2 ⟨t.val * 256 + y0.val, by omega⟩ y1 : S1024x512.Idx) := by
    blk_ext [idx t]
  rw [he]
  intro hr
  rw [show win0_11.index t 0 = t.val from congrFun (idx t).2.2.2.2.2.2.2.2.2.2.2.1 0] at hr
  exact attK (holds m c t y0 ⟨(t.val * 256 + y0.val) / 8, by omega⟩ ⟨(t.val * 256 + y0.val) % 8, hr⟩ rfl rfl) _ rfl rfl y1

/-- The values of the attention. -/
theorem attV_eq (c : Dev nD) (i : S1024x512.Idx) : (i 0).val % 8 < 4 → (dats m 0 c).arrAt 12 cfg0.N i
    = val_main_v75 (F := Ideal) (m (c.tc.loc main_arg0)) (m (c.tc.loc main_arg1)) (m (c.tc.loc main_arg2)) i := by
  refine (dats m 0 c).arrAt_forall_of_covers 12 (fun (i : S1024x512.Idx) v => (i 0).val % 8 < 4 → v
    = val_main_v75 (F := Ideal) (m (c.tc.loc main_arg0)) (m (c.tc.loc main_arg1)) (m (c.tc.loc main_arg2)) i) (by decide +kernel) (fun t hf y => ?_) i
  blk_simp
  rw [after0_12]
  frame_out
  rw [pay15]
  have ht : t.val < 4 := t.isLt
  change S256x512.Idx at y
  idx_vars y
  have hy : y0.val < 256 := y0.isLt
  have he : ((View.whole main_v4_8).slice (win0_12.rect t)).emb (ix2 y0 y1) = (ix2 ⟨t.val * 256 + y0.val, by omega⟩ y1 : S1024x512.Idx) := by
    blk_ext [idx t]
  rw [he]
  intro hr
  rw [show win0_12.index t 0 = t.val from congrFun (idx t).2.2.2.2.2.2.2.2.2.2.2.2 0] at hr
  exact attV (holds m c t y0 ⟨(t.val * 256 + y0.val) / 8, by omega⟩ ⟨(t.val * 256 + y0.val) % 8, hr⟩ rfl rfl) _ rfl rfl y1

end Cert.InSample
end
-- ==== Proof.Projections.lean ====
/- The projections around the two mixers: what each program computes equals the layer's mathematics. -/
module

public import proofs.«01_k».proof.Defs
public import proofs.«01_k».proof.Proof.OutPrompt
public import proofs.«01_k».proof.Proof.OutSample
public import proofs.«01_k».proof.Proof.InPromptRun
public import proofs.«01_k».proof.Proof.InSampleRun
public import proofs.«01_k».proof.Proof.Gen.On_token_rows
public import proofs.«01_k».proof.Proof.Gen.On_mixed_rows

@[expose] public section

set_option maxRecDepth 16384

noncomputable section

namespace Cert.Projections

open Idealize.ShloMosaic Idealize.ShloMosaic.TcCoe Idealize.SL.Sem

/-- A row whose number has the low three bits below four is one of the first four rows of its group of eight. -/
theorem row_word : ∀ n : Fin 1024,
    IntOp.cmpi .slt (IntOp.andi (BitVec.ofNat 32 n.val) 7#32) 4#32 = 1#1 → n.val % 8 < 4 := by
  decide +kernel

/-- The rows `token_rows` marks are the first four of each group of eight. -/
theorem token_row (a0 : FVec Ideal On_token_rows.S128x4x1024 .f32) (a1 : FVec Ideal On_token_rows.S1x1024 .f32)
    (a2 : FVec Ideal On_token_rows.S1x1024x4096 .f32) (a3 : FVec Ideal On_token_rows.S2x512 .f32)
    (i : (⟨2, ![1024, 512]⟩ : Shape).Idx) (h : (On_token_rows.fn (F := Ideal) a0 a1 a2 a3).1 i = 1#1) :
    (i 0).val % 8 < 4 := by
  refine row_word (i 0) ?_
  rw [← h]
  symm
  pointwise [On_token_rows.fn]

/-- The rows `mixed_rows` marks are the first four of each group of eight. -/
theorem mixed_row (a0 a1 a2 : FVec Ideal On_mixed_rows.S128x8x512 .f32)
    (a3 : FVec Ideal On_mixed_rows.S128x4x1024 .f32) (a4 : FVec Ideal On_mixed_rows.S1x1024x1024 .f32)
    (a5 : FVec Ideal On_mixed_rows.S1x1024 .f32)
    (i : (⟨2, ![1024, 1024]⟩ : Shape).Idx) (h : On_mixed_rows.fn (F := Ideal) a0 a1 a2 a3 a4 a5 i = 1#1) :
    (i 0).val % 8 < 4 := by
  refine row_word (i 0) ?_
  rw [← h]
  symm
  pointwise [On_mixed_rows.fn]

/-- The input projection of the prompts leaves the ten streams of the layer. -/
theorem inPrompt : Cert.algebraic_Kernel2Ideal_Reference2Ideal := by
  intro m g m' g' _ hm
  refine ⟨fun c => Cert.Reference2Ideal.Read.val_main_v58 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v59 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)),
    fun c => Cert.Reference2Ideal.Read.val_main_v60 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)),
    fun c => Cert.Reference2Ideal.Read.val_main_v61 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v62 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v63 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v64 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v65 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v66 (F := Ideal) (m' (c.tc.loc Cert.Reference2Ideal.main_arg0)) (m' (c.tc.loc Cert.Reference2Ideal.main_arg1)) (m' (c.tc.loc Cert.Reference2Ideal.main_arg2)),
    fun c => Cert.Reference2Ideal.Read.val_main_v67 (F := Ideal) (m' (c.tc.loc Cert.Reference2Ideal.main_arg0)) (m' (c.tc.loc Cert.Reference2Ideal.main_arg1)) (m' (c.tc.loc Cert.Reference2Ideal.main_arg2)),
    ?_, ?_⟩
  · refine (θ_run _ _ _).mono (fun r h c => ?_) (Cert.Kernel2Ideal.Value.run_blocks m g)
    obtain ⟨h0, h1, h2, h3, h4, h5, h6, h7, h8, h9, kept⟩ := h c
    obtain ⟨a0, a1, a2, a3⟩ := hm c
    beta_reduce
    rw [a0, a1, a2, a3]
    exact ⟨h0.trans (InPrompt.q_eq m c), h1.trans (InPrompt.forget_eq m c), h2.trans (InPrompt.key_eq m c), h3.trans (InPrompt.value_eq m c), h4.trans (InPrompt.gateLin_eq m c), h5.trans (InPrompt.gateAtt_eq m c), h6.trans (InPrompt.attKey_eq m c), h7.trans (InPrompt.attQT_eq m c), h8.trans (InPrompt.attKT_eq m c), h9.trans (InPrompt.attVT_eq m c), kept⟩
  · refine (θ_run _ _ _).mono (fun r h c => ?_) (Cert.Reference2Ideal.Value.run m' g')
    obtain ⟨h0, h1, h2, h3, h4, h5, h6, h7, h8, h9, kept⟩ := h c
    exact ⟨(h0.trans (Cert.Reference2Ideal.Read.val_main_v58_eq _ _ _)),
      (h1.trans (Cert.Reference2Ideal.Read.val_main_v59_eq m' c)),
      (h2.trans (Cert.Reference2Ideal.Read.val_main_v60_eq m' c)),
      (h3.trans (Cert.Reference2Ideal.Read.val_main_v61_eq _ _ _)),
      (h4.trans (Cert.Reference2Ideal.Read.val_main_v62_eq _ _ _)),
      (h5.trans (Cert.Reference2Ideal.Read.val_main_v63_eq _ _ _)),
      (h6.trans (Cert.Reference2Ideal.Read.val_main_v64_eq _ _ _)),
      (h7.trans (Cert.Reference2Ideal.Read.val_main_v65_eq _ _ _)),
      (h8.trans (Cert.Reference2Ideal.Read.val_main_v66_eq _ _ _)),
      (h9.trans (Cert.Reference2Ideal.Read.val_main_v67_eq _ _ _)), kept⟩

/-- The input projection of the sampled tokens leaves the nine streams of the layer on the rows that hold tokens. -/
theorem inSample : Cert.algebraic_Kernel3Ideal_Reference3Ideal_on_token_rows := by
  intro m g m' g' _ hm
  refine ⟨fun c => Cert.Reference3Ideal.Read.val_main_v59 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v61 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)),
    fun c => Cert.Reference3Ideal.Read.val_main_v63 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)),
    fun c => Cert.Reference3Ideal.Read.val_main_v65 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v67 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v69 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v71 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v73 (F := Ideal) (m' (c.tc.loc Cert.Reference3Ideal.main_arg0)) (m' (c.tc.loc Cert.Reference3Ideal.main_arg1)) (m' (c.tc.loc Cert.Reference3Ideal.main_arg2)),
    fun c => Cert.Reference3Ideal.Read.val_main_v75 (F := Ideal) (m' (c.tc.loc Cert.Reference3Ideal.main_arg0)) (m' (c.tc.loc Cert.Reference3Ideal.main_arg1)) (m' (c.tc.loc Cert.Reference3Ideal.main_arg2)),
    ?_, ?_⟩
  · refine (θ_run _ _ _).mono (fun r h c => ?_) (Cert.Kernel3Ideal.Value.run_blocks m g)
    obtain ⟨h0, h1, h2, h3, h4, h5, h6, h7, h8, kept⟩ := h c
    obtain ⟨a0, a1, a2, a3⟩ := hm c
    beta_reduce
    rw [a0, a1, a2, a3]
    exact ⟨fun i hi => (congrFun h0 i).trans (InSample.q_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h1 i).trans (InSample.forget_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h2 i).trans (InSample.key_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h3 i).trans (InSample.value_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h4 i).trans (InSample.gateLin_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h5 i).trans (InSample.gateAtt_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h6 i).trans (InSample.attQ_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h7 i).trans (InSample.attK_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)),
      fun i hi => (congrFun h8 i).trans (InSample.attV_eq m c i (token_row (m (c.tc.loc Cert.Kernel3Ideal.main_arg0)) (m (c.tc.loc Cert.Kernel3Ideal.main_arg1)) (m (c.tc.loc Cert.Kernel3Ideal.main_arg2)) (m (c.tc.loc Cert.Kernel3Ideal.main_arg3)) i hi)), kept⟩
  · refine (θ_run _ _ _).mono (fun r h c => ?_) (Cert.Reference3Ideal.Value.run m' g')
    obtain ⟨h0, h1, h2, h3, h4, h5, h6, h7, h8, kept⟩ := h c
    exact ⟨fun i _ => congrFun (h0.trans (Cert.Reference3Ideal.Read.val_main_v59_eq _ _ _)) i,
      fun i _ => congrFun (h1.trans (Cert.Reference3Ideal.Read.val_main_v61_eq m' c)) i,
      fun i _ => congrFun (h2.trans (Cert.Reference3Ideal.Read.val_main_v63_eq m' c)) i,
      fun i _ => congrFun (h3.trans (Cert.Reference3Ideal.Read.val_main_v65_eq _ _ _)) i,
      fun i _ => congrFun (h4.trans (Cert.Reference3Ideal.Read.val_main_v67_eq _ _ _)) i,
      fun i _ => congrFun (h5.trans (Cert.Reference3Ideal.Read.val_main_v69_eq _ _ _)) i,
      fun i _ => congrFun (h6.trans (Cert.Reference3Ideal.Read.val_main_v71_eq _ _ _)) i,
      fun i _ => congrFun (h7.trans (Cert.Reference3Ideal.Read.val_main_v73_eq _ _ _)) i,
      fun i _ => congrFun (h8.trans (Cert.Reference3Ideal.Read.val_main_v75_eq _ _ _)) i, kept⟩

/-- The output projection of the prompts leaves the prompts' hidden states of the layer. -/
theorem outPrompt : Cert.algebraic_Kernel4Ideal_Reference4Ideal := by
  intro m g m' g' _ hm
  refine ⟨fun c => Cert.Reference4Ideal.Read.val_main_v20 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)),
    ?_, ?_⟩
  · refine (θ_run _ _ _).mono (fun r h c => ?_) (Cert.Kernel4Ideal.Value.run_blocks m g)
    obtain ⟨h0, kept⟩ := h c
    obtain ⟨a0, a1, a2, a3, a4⟩ := hm c
    beta_reduce
    rw [a0, a1, a2, a3, a4]
    exact ⟨h0.trans (OutPrompt.final m c), kept⟩
  · refine (θ_run _ _ _).mono (fun r h c => ?_) (Cert.Reference4Ideal.Value.run m' g')
    obtain ⟨h0, kept⟩ := h c
    exact ⟨(h0.trans (Cert.Reference4Ideal.Read.val_main_v20_eq _ _ _ _ _)), kept⟩

/-- The output projection of the sampled tokens leaves their hidden states on the rows that hold tokens. -/
theorem outSample : Cert.algebraic_Kernel5Ideal_Reference5Ideal_on_mixed_rows := by
  intro m g m' g' _ hm
  refine ⟨fun c => Cert.Reference5Ideal.Read.val_main_v23 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)),
    ?_, ?_⟩
  · refine (θ_run _ _ _).mono (fun r h c => ?_) (Cert.Kernel5Ideal.Value.run_blocks m g)
    obtain ⟨h0, kept⟩ := h c
    obtain ⟨a0, a1, a2, a3, a4, a5⟩ := hm c
    beta_reduce
    rw [a0, a1, a2, a3, a4, a5]
    exact ⟨fun i hi => (congrFun h0 i).trans (OutSample.final m c i (mixed_row _ _ _ _ _ _ i hi)), kept⟩
  · refine (θ_run _ _ _).mono (fun r h c => ?_) (Cert.Reference5Ideal.Value.run m' g')
    obtain ⟨h0, kept⟩ := h c
    exact ⟨fun i _ => congrFun (h0.trans (Cert.Reference5Ideal.Read.val_main_v23_eq _ _ _ _ _ _)) i, kept⟩

end Cert.Projections
-- ==== Proof.SampleBody.lean ====
/- The recurrence of the sample tokens: what the kernel's body stores, sequence by sequence. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.SampleBody

open Idealize.ShloMosaic Idealize.ShloMosaic.TcCoe Idealize.SL.Sem
open Cert.KernelIdeal Cert.KernelIdeal.Gen

variable {F : FTy → Type} [FloatOps F]

/-- The sum of the decays of one sequence's rows up to row `r`; the rows from 4 on hold no token and add nothing. -/
def sumRow (g : Fin 4 → Vec F S1x1x128 .f32) (r : ℕ) : FVec F S1x128 .f32 :=
  let a0 : FVec F S1x128 .f32 := addf (broadcast S1x128 (Scalar.ofBits .f32 0x00000000#32)) (shapeCast S1x128 (g 0) shapeCasts_S1x1x128_S1x128)
  let a1 : FVec F S1x128 .f32 := addf a0 (shapeCast S1x128 (g 1) shapeCasts_S1x1x128_S1x128)
  let a2 : FVec F S1x128 .f32 := addf a1 (shapeCast S1x128 (g 2) shapeCasts_S1x1x128_S1x128)
  let a3 : FVec F S1x128 .f32 := addf a2 (shapeCast S1x128 (g 3) shapeCasts_S1x1x128_S1x128)
  match r with
  | 0 => a0
  | 1 => a1
  | 2 => a2
  | _ => a3

/-- The row numbers of a sequence. -/
def rowNo : IVec S8x1 32 := iota .tc S8x1 32 [0] iota_S8x1_d0_w32

/-- What key row `j` adds to the output: the rows from `j` on see value `v` with weight the sum over the features of
    query, key and decay. -/
def addKey (b q : FVec F S8x128 .f32) (j : BitVec 32) (bj kj vj : Vec F S1x1x128 .f32) (o : FVec F S8x128 .f32) : FVec F S8x128 .f32 :=
  addf o (mulf (broadcastTo S8x128 (select (cmpi .sge rowNo (broadcast S8x1 j))
      (shapeCast S8x1 (multiReduction .add [1] S8
        (mulf (mulf q (broadcastTo S8x128 (shapeCast S1x128 kj shapeCasts_S1x1x128_S1x128) broadcasts_S1x128_S8x128))
          (exp (minimumf (subf b (broadcastTo S8x128 (shapeCast S1x128 bj shapeCasts_S1x1x128_S1x128) broadcasts_S1x128_S8x128))
            (broadcast S8x128 (Scalar.ofBits .f32 0x00000000#32)))))
        0x00000000#32 reduces_S8x128_S8 (.inl rfl) rfl) shapeCasts_S8_S8x1)
      (broadcast S8x1 (Scalar.ofBits .f32 0x00000000#32))) broadcasts_S8x1_S8x128)
    (broadcastTo S8x128 (shapeCast S1x128 vj shapeCasts_S1x1x128_S1x128) broadcasts_S1x128_S8x128))

/-- The product of the decayed queries with the old state. -/
def oldPart (b q : FVec F S8x128 .f32) (s0 : Vec F S1x1x128x128 .f32) : FVec F S8x128 .f32 :=
  matmul dot_S8x128_S128x128_S8x128_1_0_0_1_n_n none (truncf .bf16 (mulf q (exp b)) bitsLt_bf16_f32)
    (truncf .bf16 (shapeCast S128x128 s0 shapeCasts_S1x1x128x128_S128x128) bitsLt_bf16_f32)
    (constant S8x128 .f32 0x00000000#32)

/-- The norm over the features of a head, weighted by `glin` and by `gl`. -/
def normed (o : FVec F S8x128 .f32) (glin : Vec F S1x128 .f32) (gl : Vec F S1x8x128 .f32) : FVec F S1x8x128 .f32 :=
  shapeCast S1x8x128 (mulf (mulf (mulf o (broadcastTo S8x128
      (rsqrt (addf (divf (shapeCast S8x1 (multiReduction .add [1] S8 (mulf o o) 0x00000000#32 reduces_S8x128_S8 (.inl rfl) rfl) shapeCasts_S8_S8x1)
        (broadcast S8x1 (Scalar.ofBits .f32 0x43000000#32))) (broadcast S8x1 (Scalar.ofBits .f32 0x358637BD#32)))) broadcasts_S8x1_S8x128))
    (broadcastTo S8x128 glin broadcasts_S1x128_S8x128)) (shapeCast S8x128 gl shapeCasts_S1x8x128_S8x128)) shapeCasts_S8x128_S1x8x128

/-- A sequence's output before the norm. -/
def mixed (b q : Vec F S1x8x128 .f32) (bj kj vj : Fin 4 → Vec F S1x1x128 .f32) (s0 : Vec F S1x1x128x128 .f32) : FVec F S8x128 .f32 :=
  let b' : FVec F S8x128 .f32 := shapeCast S8x128 b shapeCasts_S1x8x128_S8x128
  let q' : FVec F S8x128 .f32 := shapeCast S8x128 q shapeCasts_S1x8x128_S8x128
  addKey b' q' 3#32 (bj 3) (kj 3) (vj 3) (addKey b' q' 2#32 (bj 2) (kj 2) (vj 2) (addKey b' q' 1#32 (bj 1) (kj 1) (vj 1)
    (addKey b' q' 0#32 (bj 0) (kj 0) (vj 0) (oldPart b' q' s0))))

/-- A mask over the rows, spread over the features. -/
def spread (p : IVec S8x1 1) : IVec S8x128 1 :=
  broadcastTo S8x128 (shapeCast S8x1 p shapeCasts_S8x1_S8x1) broadcasts_S8x1_S8x128

/-- What a sequence's tokens add to its state. -/
def update (b : Vec F S1x8x128 .f32) (bl : Vec F S1x1x128 .f32) (k v : Vec F S1x8x128 .f32) : FVec F S128x128 .f32 :=
  matmul dot_S8x128_S8x128_S128x128_0_0_1_1_n_n none
    (truncf .bf16 (mulf (select (spread (cmpi .slt rowNo (broadcast S8x1 4#32))) (shapeCast S8x128 k shapeCasts_S1x8x128_S8x128)
        (broadcast S8x128 (Scalar.ofBits .f32 0x00000000#32)))
      (exp (subf (broadcastTo S8x128 (shapeCast S1x128 bl shapeCasts_S1x1x128_S1x128) broadcasts_S1x128_S8x128)
        (shapeCast S8x128 b shapeCasts_S1x8x128_S8x128)))) bitsLt_bf16_f32)
    (truncf .bf16 (shapeCast S8x128 v shapeCasts_S1x8x128_S8x128) bitsLt_bf16_f32)
    (constant S128x128 .f32 0x00000000#32)

/-- What the rounding of `x` to sixteen bits keeps. -/
def kept (x : FVec F S1x128 .f32) : FVec F S1x128 .f32 := extf .f32 (truncf .bf16 x bitsLt_bf16_f32) bitsLt_bf16_f32

/-- Row `j` of `p` set to `x`. -/
def putRow (j : BitVec 32) (x : FVec F S1x128 .f32) (p : FVec F S8x128 .f32) : FVec F S8x128 .f32 :=
  select (spread (cmpi .eq rowNo (broadcast S8x1 j)))
    (broadcastTo S8x128 (shapeCast S1x128 x shapeCasts_S1x128_S1x128) broadcasts_S1x128_S8x128) p

/-- The decay of the whole chunk, one feature a row, as the sum of three pieces. -/
def fade (bl : Vec F S1x1x128 .f32) : FVec F S128x128 .f32 :=
  let r0 : FVec F S1x128 .f32 := exp (shapeCast S1x128 bl shapeCasts_S1x1x128_S1x128)
  let r1 : FVec F S1x128 .f32 := subf r0 (kept r0)
  let r2 : FVec F S1x128 .f32 := subf r1 (kept r1)
  matmul dot_S8x128_S8x128_S128x128_0_0_1_1_n_n none
    (truncf .bf16 (putRow 2#32 (kept r2) (putRow 1#32 (kept r1) (putRow 0#32 (kept r0)
      (broadcast S8x128 (Scalar.ofBits .f32 0x00000000#32))))) bitsLt_bf16_f32)
    (broadcast S8x128 (Scalar.ofBits .bf16 0x3F80#16)) (constant S128x128 .f32 0x00000000#32)

/-- A sequence's new state. -/
def state (b : Vec F S1x8x128 .f32) (bl : Vec F S1x1x128 .f32) (k v : Vec F S1x8x128 .f32) (s0 : Vec F S1x1x128x128 .f32) :
    FVec F S1x1x128x128 .f32 :=
  shapeCast S1x1x128x128 (addf (mulf (shapeCast S128x128 s0 shapeCasts_S1x1x128x128_S128x128) (fade bl)) (update b bl k v))
    shapeCasts_S128x128_S1x1x128x128

/-- A row lies inside its block. -/
theorem inRow (s r : ℕ) (hs : s < 32) (hr : r < 8) : ∀ a, (![s, r, 0] : Fin 3 → ℕ) a + S1x1x128.size a ≤ S32x8x128.size a := by
  intro a; fin_cases a
  · show s + 1 ≤ 32; omega
  · show r + 1 ≤ 8; omega
  · show 0 + 128 ≤ 128; omega

/-- A sequence lies inside its block. -/
theorem inSeq (s : ℕ) (hs : s < 32) : ∀ a, (![s, 0, 0] : Fin 3 → ℕ) a + S1x8x128.size a ≤ S32x8x128.size a := by
  intro a; fin_cases a
  · show s + 1 ≤ 32; omega
  · show 0 + 8 ≤ 8; omega
  · show 0 + 128 ≤ 128; omega

/-- A state lies inside its block. -/
theorem inState (s : ℕ) (hs : s < 32) : ∀ a, (![s, 0, 0, 0] : Fin 4 → ℕ) a + S1x1x128x128.size a ≤ S32x1x128x128.size a := by
  intro a; fin_cases a
  · show s + 1 ≤ 32; omega
  · show 0 + 1 ≤ 1; omega
  · show 0 + 128 ≤ 128; omega
  · show 0 + 128 ≤ 128; omega

/-- One row of a block, -/
def rowBox (s r : ℕ) (hs : s < 32) (hr : r < 8) : Rect S32x8x128 := Rect.unit ![s, r, 0] S1x1x128.size (inRow s r hs hr)
/-- one sequence of a block, -/
def seqBox (s : ℕ) (hs : s < 32) : Rect S32x8x128 := Rect.unit ![s, 0, 0] S1x8x128.size (inSeq s hs)
/-- and one sequence's state. -/
def stateBox (s : ℕ) (hs : s < 32) : Rect S32x1x128x128 := Rect.unit ![s, 0, 0, 0] S1x1x128x128.size (inState s hs)

/-- The rows that the scratch is written with, the last first. -/
theorem scratch_eq (c : Dev nD) (arg3 : Memref sig .tc .vmem S32x8x128 .f32) (harg3 : arg3.IsWhole) (x1 : Vec F S32x8x128 .f32) :
    kernelRun0_A.sl.HS0_256 c arg3 harg3 x1 = List.ofFn fun k : Fin 256 =>
      (⟨Rect.unit ![31 - k.val / 8, 7 - k.val % 8, 0] S1x1x128.size (inRow _ _ (by omega) (by omega)),
        shapeCast S1x1x128 (sumRow (fun j : Fin 4 => View.readAt (Elt F) arg3.view
          (rowBox (31 - k.val / 8) j.val (by omega) (by omega)).toLoadRect (harg3.unread x1)) (7 - k.val % 8)) shapeCasts_S1x128_S1x1x128⟩ :
        View.Piece (Elt F) S32x8x128 .f32) := by
  sl_kernel_rfl

/-- The pieces of the output, the last sequence first. -/
theorem out_eq (c : Dev nD) (i : grid0.Coords) (arg2 : Memref sig .tc .vmem S32x8x128 .f32) (harg2 : arg2.IsWhole) (arg3 : Memref sig .tc .vmem S32x8x128 .f32) (harg3 : arg3.IsWhole) (arg4 : Memref sig .tc .vmem S32x8x128 .f32) (harg4 : arg4.IsWhole) (arg5 : Memref sig .tc .vmem S32x8x128 .f32) (harg5 : arg5.IsWhole) (arg6 : Memref sig .tc .vmem S32x8x128 .f32) (harg6 : arg6.IsWhole) (arg7 : Memref sig .tc .vmem S32x1x128x128 .f32) (harg7 : arg7.IsWhole) (arg8 : Memref sig .tc .vmem S1x128 .f32) (harg8 : arg8.IsWhole) (arg9 : Memref sig .tc .vmem S32x8x128 .f32) (harg9 : arg9.IsWhole) (arg10 : Memref sig .tc .vmem S32x1x128x128 .f32) (harg10 : arg10.IsWhole) (arg11 : Memref sig .tc .vmem S32x8x128 .f32) (harg11 : arg11.IsWhole)
    (x0 x1 x2 x3 x4 : Vec F S32x8x128 .f32) (x5 : Vec F S32x1x128x128 .f32) (x6 : Vec F S1x128 .f32) :
    (kernelRun0_A c i arg2 harg2 arg3 harg3 arg4 harg4 arg5 harg5 arg6 harg6 arg7 harg7 arg8 harg8 arg9 harg9 arg10 harg10 arg11 harg11 x0 x1 x2 x3 x4 x5 x6).1 =
    List.ofFn fun k : Fin 32 =>
      (⟨Rect.unit ![31 - k.val, 0, 0] S1x8x128.size (inSeq _ (by omega)),
        normed (mixed (arg11.view.readCov (kernelRun0_A.sl.HS0_256 c arg3 harg3 x1) (seqBox (31 - k.val) (by omega)).toLoadRect)
          (View.readAt (Elt F) arg2.view (seqBox (31 - k.val) (by omega)).toLoadRect (harg2.unread x0))
          (fun j => arg11.view.readCov (kernelRun0_A.sl.HS0_256 c arg3 harg3 x1) (rowBox (31 - k.val) j.val (by omega) (by omega)).toLoadRect)
          (fun j => View.readAt (Elt F) arg4.view (rowBox (31 - k.val) j.val (by omega) (by omega)).toLoadRect (harg4.unread x2))
          (fun j => View.readAt (Elt F) arg5.view (rowBox (31 - k.val) j.val (by omega) (by omega)).toLoadRect (harg5.unread x3))
          (View.readAt (Elt F) arg7.view (stateBox (31 - k.val) (by omega)).toLoadRect (harg7.unread x5)))
        (View.readAt (Elt F) arg8.view (Rect.unit ![0, 0] S1x128.size inb_S1x128_S1x128_0_0).toLoadRect (harg8.unread x6))
        (View.readAt (Elt F) arg6.view (seqBox (31 - k.val) (by omega)).toLoadRect (harg6.unread x4))⟩ :
        View.Piece (Elt F) S32x8x128 .f32) := by
  sl_kernel_rfl

/-- The pieces of the states, the last sequence first. -/
theorem states_eq (c : Dev nD) (i : grid0.Coords) (arg2 : Memref sig .tc .vmem S32x8x128 .f32) (harg2 : arg2.IsWhole) (arg3 : Memref sig .tc .vmem S32x8x128 .f32) (harg3 : arg3.IsWhole) (arg4 : Memref sig .tc .vmem S32x8x128 .f32) (harg4 : arg4.IsWhole) (arg5 : Memref sig .tc .vmem S32x8x128 .f32) (harg5 : arg5.IsWhole) (arg6 : Memref sig .tc .vmem S32x8x128 .f32) (harg6 : arg6.IsWhole) (arg7 : Memref sig .tc .vmem S32x1x128x128 .f32) (harg7 : arg7.IsWhole) (arg8 : Memref sig .tc .vmem S1x128 .f32) (harg8 : arg8.IsWhole) (arg9 : Memref sig .tc .vmem S32x8x128 .f32) (harg9 : arg9.IsWhole) (arg10 : Memref sig .tc .vmem S32x1x128x128 .f32) (harg10 : arg10.IsWhole) (arg11 : Memref sig .tc .vmem S32x8x128 .f32) (harg11 : arg11.IsWhole)
    (x0 x1 x2 x3 x4 : Vec F S32x8x128 .f32) (x5 : Vec F S32x1x128x128 .f32) (x6 : Vec F S1x128 .f32) :
    (kernelRun0_A c i arg2 harg2 arg3 harg3 arg4 harg4 arg5 harg5 arg6 harg6 arg7 harg7 arg8 harg8 arg9 harg9 arg10 harg10 arg11 harg11 x0 x1 x2 x3 x4 x5 x6).2.1 =
    List.ofFn fun k : Fin 32 =>
      (⟨Rect.unit ![31 - k.val, 0, 0, 0] S1x1x128x128.size (inState _ (by omega)),
        state (arg11.view.readCov (kernelRun0_A.sl.HS0_256 c arg3 harg3 x1) (seqBox (31 - k.val) (by omega)).toLoadRect)
          (arg11.view.readCov (kernelRun0_A.sl.HS0_256 c arg3 harg3 x1) (rowBox (31 - k.val) 7 (by omega) (by omega)).toLoadRect)
          (View.readAt (Elt F) arg4.view (seqBox (31 - k.val) (by omega)).toLoadRect (harg4.unread x2))
          (View.readAt (Elt F) arg5.view (seqBox (31 - k.val) (by omega)).toLoadRect (harg5.unread x3))
          (View.readAt (Elt F) arg7.view (stateBox (31 - k.val) (by omega)).toLoadRect (harg7.unread x5))⟩ :
        View.Piece (Elt F) S32x1x128x128 .f32) := by
  sl_kernel_rfl

end Cert.SampleBody
-- ==== Proof.SampleValue.lean ====
/- The recurrence of the sample tokens: the kernel's blocks at an index, over the extended reals. -/
module

public import proofs.«01_k».proof.Proof.SampleBody

@[expose] public section

set_option maxRecDepth 16384

noncomputable section

namespace Cert.SampleValue

open Idealize.ShloMosaic Idealize.ShloMosaic.TcCoe Idealize.SL.Sem
open Cert.KernelIdeal Cert.KernelIdeal.Gen Cert.SampleBody

/-- The sum of four decays up to number `r`. -/
def pre (g : Fin 4 → EReal) (r : ℕ) : EReal :=
  match r with
  | 0 => g 0
  | 1 => g 0 + g 1
  | 2 => g 0 + g 1 + g 2
  | _ => g 0 + g 1 + g 2 + g 3

/-- The decays of a sequence's tokens at feature `d`. -/
def tokens (x : Vec Ideal S32x8x128 .f32) (s : Fin 32) (d : Fin 128) : Fin 4 → EReal :=
  fun j => x (ix3 s (⟨j.val, by omega⟩ : Fin 8) d)

/-- A row of running sums at an index. -/
theorem sumRow_apply (g : Fin 4 → Vec Ideal S1x1x128 .f32) (r : ℕ) (d : Fin 128) :
    (sumRow (F := Ideal) g r : FVec Ideal S1x128 .f32) (ix2 (0 : Fin 1) d) = pre (fun j => g j (ix3 (0 : Fin 1) (0 : Fin 1) d)) r := by
  have h := fun j : Fin 4 => (show ((shapeCast S1x128 (g j) shapeCasts_S1x1x128_S1x128 : FVec Ideal S1x128 .f32) (ix2 (0 : Fin 1) d) : EReal)
    = g j (ix3 (0 : Fin 1) (0 : Fin 1) d) by pointwise)
  unfold sumRow pre
  match r with
  | 0 | 1 | 2 | _ + 3 => pointwise

/-- A row with a unit axis put in front. -/
theorem row_apply (v : FVec Ideal S1x128 .f32) (a b : Fin 1) (d : Fin 128) :
    (shapeCast S1x1x128 v shapeCasts_S1x128_S1x1x128 : FVec Ideal S1x1x128 .f32) (ix3 a b d) = v (ix2 (0 : Fin 1) d) := by
  pointwise

/-- A row of a block, read from the memory that holds the block. -/
theorem read_row (a : Memref sig .tc .vmem S32x8x128 .f32) (ha : a.IsWhole) (x : Vec Ideal S32x8x128 .f32) (s r : ℕ)
    (hs : s < 32) (hr : r < 8) (d : Fin 128) :
    View.readAt (Elt Ideal) a.view (rowBox s r hs hr).toLoadRect (ha.unread x) (ix3 (0 : Fin 1) (0 : Fin 1) d)
      = x (ix3 (⟨s, hs⟩ : Fin 32) (⟨r, hr⟩ : Fin 8) d) := by
  refine (show _ = x _ from congrFun (ha.read_unread x) _).trans (congrArg x ?_)
  funext i; apply Fin.ext
  fin_cases i
  · show s + 1 * 0 = s; rfl
  · show r + 1 * 0 = r; rfl
  · show 0 + 1 * d.val = d.val; omega

/-- What the scratch holds: the running sums of the decays. -/
theorem scratch_apply (c : Dev nD) (arg3 : Memref sig .tc .vmem S32x8x128 .f32) (harg3 : arg3.IsWhole) (g : Vec Ideal S32x8x128 .f32)
    (s : Fin 32) (r : Fin 8) (d : Fin 128) :
    View.canon (kernelRun0_A.sl.HS0_256 (F := Ideal) c arg3 harg3 g) (ix3 s r d) = pre (tokens g s d) r.val := by
  rw [scratch_eq]
  refine View.canon_ofFn_unit_eq_of_forall _ _ _ _ _ _ ?_ ?_
  · refine ⟨⟨(31 - s.val) * 8 + (7 - r.val), by omega⟩, fun a => ?_⟩
    fin_cases a
    · show 31 - ((31 - s.val) * 8 + (7 - r.val)) / 8 ≤ s.val ∧ s.val < 31 - ((31 - s.val) * 8 + (7 - r.val)) / 8 + 1
      omega
    · show 7 - ((31 - s.val) * 8 + (7 - r.val)) % 8 ≤ r.val ∧ r.val < 7 - ((31 - s.val) * 8 + (7 - r.val)) % 8 + 1
      omega
    · show 0 ≤ d.val ∧ d.val < 0 + 128
      omega
  · intro k y h
    have h0 : s.val = 31 - k.val / 8 + (y 0).val := h 0
    have h1 : r.val = 7 - k.val % 8 + (y 1).val := h 1
    have h2 : d.val = 0 + (y 2).val := h 2
    change S1x1x128.Idx at y
    idx_vars y
    refine (row_apply _ y0 y1 y2).trans ((sumRow_apply _ _ y2).trans ?_)
    have i0 : y0.val < 1 := y0.isLt
    have i1 : y1.val < 1 := y1.isLt
    have e2 : y2 = d := Fin.ext (by have : d.val = 0 + y2.val := h2; omega)
    have e1 : 7 - k.val % 8 = r.val := by have : r.val = 7 - k.val % 8 + y1.val := h1; omega
    have e0 : 31 - k.val / 8 = s.val := by have : s.val = 31 - k.val / 8 + y0.val := h0; omega
    rw [e1, e2]
    refine congrArg (fun f => pre f r.val) (funext fun j => ?_)
    refine (read_row arg3 harg3 g _ _ _ _ d).trans ?_
    unfold tokens
    exact congrArg g (by congr 1; exact Fin.ext e0)

/-- One more key, at an index. -/
theorem addKey_apply (b q : FVec Ideal S8x128 .f32) (j : BitVec 32) (bj kj vj : Vec Ideal S1x1x128 .f32) (o : FVec Ideal S8x128 .f32)
    (t : Fin 8) (d : Fin 128) :
    (addKey (F := Ideal) b q j bj kj vj o : FVec Ideal S8x128 .f32) (ix2 t d) = o (ix2 t d)
      + Scalar.select (IntOp.cmpi .sge (BitVec.ofNat 32 t.val) j)
          (∑ k : Fin 128, q (ix2 t k) * kj (ix3 (0 : Fin 1) (0 : Fin 1) k)
            * Ideal.exp (min (b (ix2 t k) - bj (ix3 (0 : Fin 1) (0 : Fin 1) k)) 0)) 0
        * vj (ix3 (0 : Fin 1) (0 : Fin 1) d) := by
  pointwise [addKey, rowNo]

/-- What the queries find in the old state, at an index. -/
theorem oldPart_apply (b q : FVec Ideal S8x128 .f32) (s0 : Vec Ideal S1x1x128x128 .f32) (t : Fin 8) (d : Fin 128) :
    (oldPart (F := Ideal) b q s0 : FVec Ideal S8x128 .f32) (ix2 t d)
      = ∑ k : Fin 128, q (ix2 t k) * Ideal.exp (b (ix2 t k)) * s0 (ix4 (0 : Fin 1) (0 : Fin 1) k d) := by
  pointwise [oldPart]

/-- The norm and the gate, at an index. -/
theorem normed_apply (o : FVec Ideal S8x128 .f32) (glin : Vec Ideal S1x128 .f32) (gl : Vec Ideal S1x8x128 .f32) (t : Fin 8) (d : Fin 128) :
    (normed (F := Ideal) o glin gl : FVec Ideal S1x8x128 .f32) (ix3 (0 : Fin 1) t d)
      = o (ix2 t d) * Ideal.rsqrt (Ideal.div (∑ k : Fin 128, o (ix2 t k) * o (ix2 t k)) (FloatOps.ofBits (F := Ideal) .f32 0x43000000#32)
          + FloatOps.ofBits (F := Ideal) .f32 0x358637BD#32)
        * glin (ix2 (0 : Fin 1) d) * gl (ix3 (0 : Fin 1) t d) := by
  pointwise [normed]

/-- What the tokens add to the state, at an index. -/
theorem update_apply (b : Vec Ideal S1x8x128 .f32) (bl : Vec Ideal S1x1x128 .f32) (k v : Vec Ideal S1x8x128 .f32) (a d : Fin 128) :
    (update (F := Ideal) b bl k v : FVec Ideal S128x128 .f32) (ix2 a d)
      = ∑ r : Fin 8, Scalar.select (IntOp.cmpi .slt (BitVec.ofNat 32 r.val) 4#32) (k (ix3 (0 : Fin 1) r a)) 0
          * Ideal.exp (bl (ix3 (0 : Fin 1) (0 : Fin 1) a) - b (ix3 (0 : Fin 1) r a)) * v (ix3 (0 : Fin 1) r d) := by
  pointwise [update, spread, rowNo]

/-- A factor of decay less itself is zero, where its logarithm is not positive. -/
theorem exp_sub_self (x : EReal) (h : x ≤ 0) : Ideal.exp x - Ideal.exp x = 0 := by
  induction x with
  | bot => show (0 : EReal) - 0 = 0; exact sub_zero 0
  | top => exact absurd h (by decide)
  | coe r =>
    show ((Real.exp r : ℝ) : EReal) - ((Real.exp r : ℝ) : EReal) = 0
    rw [← EReal.coe_sub, sub_self, EReal.coe_zero]

/-- The decay of a whole chunk, where its logarithm is not positive. -/
theorem fade_apply (bl : Vec Ideal S1x1x128 .f32) (a d : Fin 128) (h : bl (ix3 (0 : Fin 1) (0 : Fin 1) a) ≤ (0 : EReal)) :
    (fade (F := Ideal) bl : FVec Ideal S128x128 .f32) (ix2 a d) = Ideal.exp (bl (ix3 (0 : Fin 1) (0 : Fin 1) a)) := by
  pointwise [fade, kept, putRow, spread, rowNo]
  rw [exp_sub_self _ h, Fin.sum_univ_eight]
  simp only [sub_zero]
  simp [IntOp.cmpi, Scalar.select]

/-- The running sums fall when no decay is positive. -/
theorem pre_le (g : Fin 4 → EReal) (hg : ∀ j, g j ≤ 0) (j t : Fin 4) (h : j ≤ t) : pre g t.val ≤ pre g j.val := by
  have e : ∀ x y : EReal, y ≤ 0 → x + y ≤ x := fun x y hy => add_le_of_nonpos_right hy
  have a1 : pre g 1 ≤ pre g 0 := e _ _ (hg 1)
  have a2 : pre g 2 ≤ pre g 1 := e _ _ (hg 2)
  have a3 : pre g 3 ≤ pre g 2 := e _ _ (hg 3)
  fin_cases j <;> fin_cases t <;> first
    | exact absurd h (by decide) | exact le_refl _ | assumption | exact a2.trans a1 | exact a3.trans a2 | exact a3.trans (a2.trans a1)

/-- The sum is not positive where no decay is. -/
theorem pre_nonpos (g : Fin 4 → EReal) (hg : ∀ j, g j ≤ 0) (t : Fin 4) : pre g t.val ≤ 0 :=
  (pre_le g hg 0 t (Fin.zero_le _)).trans (hg 0)

/-- The decay between two tokens needs no bound, where no decay is positive. -/
theorem min_pre (g : Fin 4 → EReal) (hg : ∀ j, g j ≤ 0) (j t : Fin 4) (h : j ≤ t) :
    min (pre g t.val - pre g j.val) 0 = pre g t.val - pre g j.val :=
  min_eq_left (EReal.sub_nonpos.mpr (pre_le g hg j t h))

/-- A chunk's output before the norm, from its queries, keys, values, decays and old state. -/
def chunk (q k v : Fin 4 → Fin 128 → EReal) (g : Fin 128 → Fin 4 → EReal) (S : Fin 128 → Fin 128 → EReal) (t : Fin 4) (d : Fin 128) : EReal :=
  (∑ a, q t a * Ideal.exp (pre (g a) t.val) * S a d)
    + ∑ j : Fin 4, (∑ a, q t a * k j a * Ideal.exp (if j ≤ t then pre (g a) t.val - pre (g a) j.val else ⊥)) * v j d

/-- The state after a chunk. -/
def next (k v : Fin 4 → Fin 128 → EReal) (g : Fin 128 → Fin 4 → EReal) (S : Fin 128 → Fin 128 → EReal) (a d : Fin 128) : EReal :=
  Ideal.exp (pre (g a) 3) * S a d + ∑ j : Fin 4, k j a * Ideal.exp (pre (g a) 3 - pre (g a) j.val) * v j d

/-- A row of a head, normalised over its features and weighted. -/
def unit (o w z : Fin 128 → EReal) (d : Fin 128) : EReal :=
  o d * Ideal.rsqrt (Ideal.div (∑ k : Fin 128, o k * o k) (FloatOps.ofBits (F := Ideal) .f32 0x43000000#32)
    + FloatOps.ofBits (F := Ideal) .f32 0x358637BD#32) * w d * z d

/-- Token `t` sees token `j`. -/
theorem sees : ∀ t j : Fin 4, IntOp.cmpi .sge (BitVec.ofNat 32 t.val) (BitVec.ofNat 32 j.val) = if j ≤ t then 1#1 else 0#1 := by
  decide +kernel

/-- The weight of a key: masked after the sum or in the exponent. -/
theorem key_term (q k : Fin 128 → EReal) (g : Fin 128 → Fin 4 → EReal) (hg : ∀ a j, g a j ≤ 0) (t j : Fin 4) :
    Scalar.select (IntOp.cmpi .sge (BitVec.ofNat 32 t.val) (BitVec.ofNat 32 j.val))
      (∑ a, q a * k a * Ideal.exp (min (pre (g a) t.val - pre (g a) j.val) 0)) 0
      = ∑ a, q a * k a * Ideal.exp (if j ≤ t then pre (g a) t.val - pre (g a) j.val else ⊥) := by
  rw [sees]
  by_cases h : j ≤ t
  · simp only [if_pos h]
    refine (show _ = ∑ a, q a * k a * Ideal.exp (min (pre (g a) t.val - pre (g a) j.val) 0) from rfl).trans
      (Finset.sum_congr rfl fun a _ => ?_)
    rw [min_pre (g a) (hg a) j t h]
  · simp only [if_neg h]
    refine (show _ = (0 : EReal) from rfl).trans (Finset.sum_eq_zero fun a _ => ?_).symm
    show q a * k a * (0 : EReal) = 0
    exact mul_zero _

section
variable (q k v : Fin 4 → Fin 128 → EReal) (g : Fin 128 → Fin 4 → EReal) (hg : ∀ a j, g a j ≤ 0) (S : Fin 128 → Fin 128 → EReal)
include hg

/-- The kernel's output before the norm, at a row that holds a token. -/
theorem mixed_apply (b qb : Vec Ideal S1x8x128 .f32) (bj kj vj : Fin 4 → Vec Ideal S1x1x128 .f32) (s0 : Vec Ideal S1x1x128x128 .f32)
    (hb : ∀ (t : Fin 8) a, b (ix3 (0 : Fin 1) t a) = pre (g a) t.val)
    (hq : ∀ (t : Fin 4) a, qb (ix3 (0 : Fin 1) (⟨t.val, by omega⟩ : Fin 8) a) = q t a)
    (hbj : ∀ j a, bj j (ix3 (0 : Fin 1) (0 : Fin 1) a) = pre (g a) j.val)
    (hk : ∀ j a, kj j (ix3 (0 : Fin 1) (0 : Fin 1) a) = k j a)
    (hv : ∀ j a, vj j (ix3 (0 : Fin 1) (0 : Fin 1) a) = v j a)
    (hS : ∀ a d, s0 (ix4 (0 : Fin 1) (0 : Fin 1) a d) = S a d) (t : Fin 4) (d : Fin 128) :
    (mixed (F := Ideal) b qb bj kj vj s0 : FVec Ideal S8x128 .f32) (ix2 (⟨t.val, by omega⟩ : Fin 8) d) = chunk q k v g S t d := by
  have eb : ∀ (r : Fin 8) a, (shapeCast S8x128 b shapeCasts_S1x8x128_S8x128 : FVec Ideal S8x128 .f32) (ix2 r a) = b (ix3 (0 : Fin 1) r a) := by
    intro r a; pointwise
  have eq : ∀ (r : Fin 8) a, (shapeCast S8x128 qb shapeCasts_S1x8x128_S8x128 : FVec Ideal S8x128 .f32) (ix2 r a) = qb (ix3 (0 : Fin 1) r a) := by
    intro r a; pointwise
  have term := fun j : Fin 4 => key_term (q t) (k j) g hg t j
  unfold mixed
  simp only [addKey_apply, oldPart_apply, eb, eq, hb, hq, hbj, hk, hv, hS]
  have t0 := term 0
  have t1 := term 1
  have t2 := term 2
  have t3 := term 3
  unfold chunk
  rw [Fin.sum_univ_four, ← t0, ← t1, ← t2, ← t3]
  simp only [← add_assoc]
  rfl

/-- The kernel's new state. -/
theorem state_apply (b : Vec Ideal S1x8x128 .f32) (bl : Vec Ideal S1x1x128 .f32) (kb vb : Vec Ideal S1x8x128 .f32) (s0 : Vec Ideal S1x1x128x128 .f32)
    (hb : ∀ (t : Fin 8) a, b (ix3 (0 : Fin 1) t a) = pre (g a) t.val)
    (hbl : ∀ a, bl (ix3 (0 : Fin 1) (0 : Fin 1) a) = pre (g a) 3)
    (hk : ∀ (t : Fin 4) a, kb (ix3 (0 : Fin 1) (⟨t.val, by omega⟩ : Fin 8) a) = k t a)
    (hv : ∀ (t : Fin 4) a, vb (ix3 (0 : Fin 1) (⟨t.val, by omega⟩ : Fin 8) a) = v t a)
    (hS : ∀ a d, s0 (ix4 (0 : Fin 1) (0 : Fin 1) a d) = S a d) (a d : Fin 128) :
    (state (F := Ideal) b bl kb vb s0 : FVec Ideal S1x1x128x128 .f32) (ix4 (0 : Fin 1) (0 : Fin 1) a d) = next k v g S a d := by
  have e : (state (F := Ideal) b bl kb vb s0 : FVec Ideal S1x1x128x128 .f32) (ix4 (0 : Fin 1) (0 : Fin 1) a d)
      = s0 (ix4 (0 : Fin 1) (0 : Fin 1) a d) * (fade (F := Ideal) bl : FVec Ideal S128x128 .f32) (ix2 a d)
        + (update (F := Ideal) b bl kb vb : FVec Ideal S128x128 .f32) (ix2 a d) := by
    unfold state
    generalize (fade (F := Ideal) bl : FVec Ideal S128x128 .f32) = f
    generalize (update (F := Ideal) b bl kb vb : FVec Ideal S128x128 .f32) = u
    pointwise
  rw [e, fade_apply bl a d (by rw [hbl]; exact pre_nonpos (g a) (hg a) 3), update_apply, hbl, hS, mul_comm, Fin.sum_univ_eight]
  unfold next
  rw [Fin.sum_univ_four, ← hk 0, ← hk 1, ← hk 2, ← hk 3, ← hv 0, ← hv 1, ← hv 2, ← hv 3]
  simp only [hb]
  simp [IntOp.cmpi, Scalar.select]

end

end Cert.SampleValue
-- ==== Proof.SampleArrays.lean ====
/- The recurrence of the sample tokens: the arrays that the kernel leaves. -/
module

public import proofs.«01_k».proof.Proof.SampleValue

@[expose] public section

set_option maxRecDepth 16384

noncomputable section

namespace Cert.SampleArrays

open Idealize.ShloMosaic Idealize.ShloMosaic.TcCoe Idealize.SL.Sem
open Cert.KernelIdeal Cert.KernelIdeal.Gen Cert.SampleBody Cert.SampleValue

/-- A sequence of a block, read from the memory that holds the block. -/
theorem read_seq (a : Memref sig .tc .vmem S32x8x128 .f32) (ha : a.IsWhole) (x : Vec Ideal S32x8x128 .f32) (s : ℕ) (hs : s < 32)
    (r : Fin 8) (d : Fin 128) :
    View.readAt (Elt Ideal) a.view (seqBox s hs).toLoadRect (ha.unread x) (ix3 (0 : Fin 1) r d) = x (ix3 (⟨s, hs⟩ : Fin 32) r d) := by
  refine (show _ = x _ from congrFun (ha.read_unread x) _).trans (congrArg x ?_)
  funext i; apply Fin.ext
  fin_cases i
  · show s + 1 * 0 = s; rfl
  · show 0 + 1 * r.val = r.val; omega
  · show 0 + 1 * d.val = d.val; omega

/-- A sequence's state, read from the memory that holds the states. -/
theorem read_state (a : Memref sig .tc .vmem S32x1x128x128 .f32) (ha : a.IsWhole) (x : Vec Ideal S32x1x128x128 .f32) (s : ℕ) (hs : s < 32)
    (k d : Fin 128) :
    View.readAt (Elt Ideal) a.view (stateBox s hs).toLoadRect (ha.unread x) (ix4 (0 : Fin 1) (0 : Fin 1) k d)
      = x (ix4 (⟨s, hs⟩ : Fin 32) (0 : Fin 1) k d) := by
  refine (show _ = x _ from congrFun (ha.read_unread x) _).trans (congrArg x ?_)
  funext i; apply Fin.ext
  fin_cases i
  · show s + 1 * 0 = s; rfl
  · show 0 + 1 * 0 = 0; rfl
  · show 0 + 1 * k.val = k.val; omega
  · show 0 + 1 * d.val = d.val; omega

/-- The norm's weights, read from the memory that holds them. -/
theorem read_weights (a : Memref sig .tc .vmem S1x128 .f32) (ha : a.IsWhole) (x : Vec Ideal S1x128 .f32) (d : Fin 128) :
    View.readAt (Elt Ideal) a.view (Rect.unit ![0, 0] S1x128.size inb_S1x128_S1x128_0_0).toLoadRect (ha.unread x) (ix2 (0 : Fin 1) d)
      = x (ix2 (0 : Fin 1) d) := by
  refine (show _ = x _ from congrFun (ha.read_unread x) _).trans (congrArg x ?_)
  funext i; apply Fin.ext
  fin_cases i
  · show 0 + 1 * 0 = 0; rfl
  · show 0 + 1 * d.val = d.val; omega

/-- A sequence's running sums, read from the scratch. -/
theorem sums_seq (c : Dev nD) (arg3 : Memref sig .tc .vmem S32x8x128 .f32) (harg3 : arg3.IsWhole) (g : Vec Ideal S32x8x128 .f32)
    (arg11 : Memref sig .tc .vmem S32x8x128 .f32) (s : ℕ) (hs : s < 32) (r : Fin 8) (d : Fin 128) :
    arg11.view.readCov (kernelRun0_A.sl.HS0_256 (F := Ideal) c arg3 harg3 g) (seqBox s hs).toLoadRect (ix3 (0 : Fin 1) r d)
      = pre (tokens g ⟨s, hs⟩ d) r.val := by
  rw [View.readCov_eq_canon', ← scratch_apply c arg3 harg3 g ⟨s, hs⟩ r d]
  refine congrArg (View.canon _) ?_
  funext i; apply Fin.ext
  fin_cases i
  · show s + 1 * 0 = s; rfl
  · show 0 + 1 * r.val = r.val; omega
  · show 0 + 1 * d.val = d.val; omega

/-- One row of a sequence's running sums, read from the scratch. -/
theorem sums_row (c : Dev nD) (arg3 : Memref sig .tc .vmem S32x8x128 .f32) (harg3 : arg3.IsWhole) (g : Vec Ideal S32x8x128 .f32)
    (arg11 : Memref sig .tc .vmem S32x8x128 .f32) (s r : ℕ) (hs : s < 32) (hr : r < 8) (d : Fin 128) :
    arg11.view.readCov (kernelRun0_A.sl.HS0_256 (F := Ideal) c arg3 harg3 g) (rowBox s r hs hr).toLoadRect (ix3 (0 : Fin 1) (0 : Fin 1) d)
      = pre (tokens g ⟨s, hs⟩ d) r := by
  rw [View.readCov_eq_canon', ← scratch_apply c arg3 harg3 g ⟨s, hs⟩ ⟨r, hr⟩ d]
  refine congrArg (View.canon _) ?_
  funext i; apply Fin.ext
  fin_cases i
  · show s + 1 * 0 = s; rfl
  · show r + 1 * 0 = r; rfl
  · show 0 + 1 * d.val = d.val; omega

/-- The rows of a sequence that hold tokens. -/
def rows (x : Vec Ideal S32x8x128 .f32) (s : Fin 32) (t : Fin 4) (d : Fin 128) : EReal := x (ix3 s (⟨t.val, by omega⟩ : Fin 8) d)

/-- The output's block at a row that holds a token. -/
theorem out_block (c : Dev nD) (i : grid0.Coords) (arg2 : Memref sig .tc .vmem S32x8x128 .f32) (harg2 : arg2.IsWhole) (arg3 : Memref sig .tc .vmem S32x8x128 .f32) (harg3 : arg3.IsWhole) (arg4 : Memref sig .tc .vmem S32x8x128 .f32) (harg4 : arg4.IsWhole) (arg5 : Memref sig .tc .vmem S32x8x128 .f32) (harg5 : arg5.IsWhole) (arg6 : Memref sig .tc .vmem S32x8x128 .f32) (harg6 : arg6.IsWhole) (arg7 : Memref sig .tc .vmem S32x1x128x128 .f32) (harg7 : arg7.IsWhole) (arg8 : Memref sig .tc .vmem S1x128 .f32) (harg8 : arg8.IsWhole) (arg9 : Memref sig .tc .vmem S32x8x128 .f32) (harg9 : arg9.IsWhole) (arg10 : Memref sig .tc .vmem S32x1x128x128 .f32) (harg10 : arg10.IsWhole) (arg11 : Memref sig .tc .vmem S32x8x128 .f32) (harg11 : arg11.IsWhole)
    (x0 x1 x2 x3 x4 : Vec Ideal S32x8x128 .f32) (x5 : Vec Ideal S32x1x128x128 .f32) (x6 : Vec Ideal S1x128 .f32) (hg : ∀ s d j, tokens x1 s d j ≤ 0) (s : Fin 32) (t : Fin 4) (d : Fin 128) :
    out0_A_7 (F := Ideal) c i arg2 harg2 arg3 harg3 arg4 harg4 arg5 harg5 arg6 harg6 arg7 harg7 arg8 harg8 arg9 harg9 arg10 harg10 arg11 harg11 x0 x1 x2 x3 x4 x5 x6 (ix3 s (⟨t.val, by omega⟩ : Fin 8) d)
      = unit (chunk (rows x0 s) (rows x2 s) (rows x3 s) (tokens x1 s) (fun a d => x5 (ix4 s (0 : Fin 1) a d)) t)
          (fun d => x6 (ix2 (0 : Fin 1) d)) (rows x4 s t) d := by
  unfold out0_A_7
  rw [View.read_writes_junk_eq_canon, out_eq]
  refine View.canon_ofFn_unit_eq_of_forall _ _ _ _ _ _ ?_ ?_
  · refine ⟨⟨31 - s.val, by omega⟩, fun a => ?_⟩
    fin_cases a
    · show 31 - (31 - s.val) ≤ s.val ∧ s.val < 31 - (31 - s.val) + 1
      omega
    · show 0 ≤ t.val ∧ t.val < 0 + 8
      omega
    · show 0 ≤ d.val ∧ d.val < 0 + 128
      omega
  · intro k y h
    have h0 : s.val = 31 - k.val + (y 0).val := h 0
    have h1 : t.val = 0 + (y 1).val := h 1
    have h2 : d.val = 0 + (y 2).val := h 2
    change S1x8x128.Idx at y
    have i0 : (y 0).val < 1 := (y 0).isLt
    have ey : y = ix3 (0 : Fin 1) (⟨t.val, by omega⟩ : Fin 8) d := by
      funext a; apply Fin.ext
      fin_cases a
      · show (y 0).val = 0; omega
      · show (y 1).val = t.val; omega
      · show (y 2).val = d.val; omega
    have hk : 31 - k.val < 32 := Nat.lt_of_le_of_lt (Nat.sub_le _ _) (by decide)
    obtain rfl : s = ⟨31 - k.val, hk⟩ := Fin.ext (by show s.val = 31 - k.val; omega)
    rw [ey]
    refine (normed_apply _ _ _ _ d).trans ?_
    have e := mixed_apply (rows x0 ⟨31 - k.val, hk⟩) (rows x2 ⟨31 - k.val, hk⟩) (rows x3 ⟨31 - k.val, hk⟩) (tokens x1 ⟨31 - k.val, hk⟩) (hg ⟨31 - k.val, hk⟩) (fun a d => x5 (ix4 ⟨31 - k.val, hk⟩ (0 : Fin 1) a d))
      (arg11.view.readCov (kernelRun0_A.sl.HS0_256 c arg3 harg3 x1) (seqBox (31 - k.val) (by omega)).toLoadRect)
      (View.readAt (Elt Ideal) arg2.view (seqBox (31 - k.val) (by omega)).toLoadRect (harg2.unread x0))
      (fun j => arg11.view.readCov (kernelRun0_A.sl.HS0_256 c arg3 harg3 x1) (rowBox (31 - k.val) j.val (by omega) (by omega)).toLoadRect)
      (fun j => View.readAt (Elt Ideal) arg4.view (rowBox (31 - k.val) j.val (by omega) (by omega)).toLoadRect (harg4.unread x2))
      (fun j => View.readAt (Elt Ideal) arg5.view (rowBox (31 - k.val) j.val (by omega) (by omega)).toLoadRect (harg5.unread x3))
      (View.readAt (Elt Ideal) arg7.view (stateBox (31 - k.val) (by omega)).toLoadRect (harg7.unread x5))
      (fun r a => sums_seq c arg3 harg3 x1 arg11 _ _ r a)
      (fun r a => read_seq arg2 harg2 x0 _ _ _ a)
      (fun j a => sums_row c arg3 harg3 x1 arg11 _ _ _ _ a)
      (fun j a => read_row arg4 harg4 x2 _ _ _ _ a)
      (fun j a => read_row arg5 harg5 x3 _ _ _ _ a)
      (fun a d => read_state arg7 harg7 x5 _ _ a d) t
    have e8 := read_weights arg8 harg8 x6 d
    have e6 := read_seq arg6 harg6 x4 (31 - k.val) (by omega) (⟨t.val, by omega⟩ : Fin 8) d
    rw [e8, e6]
    simp only [e]
    rfl

/-- The states' block. -/
theorem state_block (c : Dev nD) (i : grid0.Coords) (arg2 : Memref sig .tc .vmem S32x8x128 .f32) (harg2 : arg2.IsWhole) (arg3 : Memref sig .tc .vmem S32x8x128 .f32) (harg3 : arg3.IsWhole) (arg4 : Memref sig .tc .vmem S32x8x128 .f32) (harg4 : arg4.IsWhole) (arg5 : Memref sig .tc .vmem S32x8x128 .f32) (harg5 : arg5.IsWhole) (arg6 : Memref sig .tc .vmem S32x8x128 .f32) (harg6 : arg6.IsWhole) (arg7 : Memref sig .tc .vmem S32x1x128x128 .f32) (harg7 : arg7.IsWhole) (arg8 : Memref sig .tc .vmem S1x128 .f32) (harg8 : arg8.IsWhole) (arg9 : Memref sig .tc .vmem S32x8x128 .f32) (harg9 : arg9.IsWhole) (arg10 : Memref sig .tc .vmem S32x1x128x128 .f32) (harg10 : arg10.IsWhole) (arg11 : Memref sig .tc .vmem S32x8x128 .f32) (harg11 : arg11.IsWhole)
    (x0 x1 x2 x3 x4 : Vec Ideal S32x8x128 .f32) (x5 : Vec Ideal S32x1x128x128 .f32) (x6 : Vec Ideal S1x128 .f32) (hg : ∀ s d j, tokens x1 s d j ≤ 0) (s : Fin 32) (a d : Fin 128) :
    out0_A_8 (F := Ideal) c i arg2 harg2 arg3 harg3 arg4 harg4 arg5 harg5 arg6 harg6 arg7 harg7 arg8 harg8 arg9 harg9 arg10 harg10 arg11 harg11 x0 x1 x2 x3 x4 x5 x6 (ix4 s (0 : Fin 1) a d)
      = next (rows x2 s) (rows x3 s) (tokens x1 s) (fun a d => x5 (ix4 s (0 : Fin 1) a d)) a d := by
  unfold out0_A_8
  rw [View.read_writes_junk_eq_canon, states_eq]
  refine View.canon_ofFn_unit_eq_of_forall _ _ _ _ _ _ ?_ ?_
  · refine ⟨⟨31 - s.val, by omega⟩, fun b => ?_⟩
    fin_cases b
    · show 31 - (31 - s.val) ≤ s.val ∧ s.val < 31 - (31 - s.val) + 1
      omega
    · show 0 ≤ 0 ∧ 0 < 0 + 1
      omega
    · show 0 ≤ a.val ∧ a.val < 0 + 128
      omega
    · show 0 ≤ d.val ∧ d.val < 0 + 128
      omega
  · intro k y h
    have h0 : s.val = 31 - k.val + (y 0).val := h 0
    have h2 : a.val = 0 + (y 2).val := h 2
    have h3 : d.val = 0 + (y 3).val := h 3
    change S1x1x128x128.Idx at y
    have i0 : (y 0).val < 1 := (y 0).isLt
    have i1 : (y 1).val < 1 := (y 1).isLt
    have ey : y = ix4 (0 : Fin 1) (0 : Fin 1) a d := by
      funext b; apply Fin.ext
      fin_cases b
      · show (y 0).val = 0; omega
      · show (y 1).val = 0; omega
      · show (y 2).val = a.val; omega
      · show (y 3).val = d.val; omega
    have hk : 31 - k.val < 32 := Nat.lt_of_le_of_lt (Nat.sub_le _ _) (by decide)
    obtain rfl : s = ⟨31 - k.val, hk⟩ := Fin.ext (by show s.val = 31 - k.val; omega)
    rw [ey]
    exact state_apply (rows x2 ⟨31 - k.val, hk⟩) (rows x3 ⟨31 - k.val, hk⟩) (tokens x1 ⟨31 - k.val, hk⟩) (hg ⟨31 - k.val, hk⟩) (fun a d => x5 (ix4 ⟨31 - k.val, hk⟩ (0 : Fin 1) a d))
      (arg11.view.readCov (kernelRun0_A.sl.HS0_256 c arg3 harg3 x1) (seqBox (31 - k.val) (by omega)).toLoadRect)
      (arg11.view.readCov (kernelRun0_A.sl.HS0_256 c arg3 harg3 x1) (rowBox (31 - k.val) 7 (by omega) (by omega)).toLoadRect)
      (View.readAt (Elt Ideal) arg4.view (seqBox (31 - k.val) (by omega)).toLoadRect (harg4.unread x2))
      (View.readAt (Elt Ideal) arg5.view (seqBox (31 - k.val) (by omega)).toLoadRect (harg5.unread x3))
      (View.readAt (Elt Ideal) arg7.view (stateBox (31 - k.val) (by omega)).toLoadRect (harg7.unread x5))
      (fun r a => sums_seq c arg3 harg3 x1 arg11 _ _ r a)
      (fun a => sums_row c arg3 harg3 x1 arg11 _ _ _ _ a)
      (fun r a => read_seq arg4 harg4 x2 _ _ _ a)
      (fun r a => read_seq arg5 harg5 x3 _ _ _ a)
      (fun a d => read_state arg7 harg7 x5 _ _ a d) a d

variable (m : (ℓ : Loc nD τ sig) → Buf (Elt Ideal) ℓ)

/-- Where the windows of grid point `t` lie: 32 sequences and one head a point. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4]
    ∧ win0_4.index t = ![t.val / 4, 0, t.val % 4] ∧ win0_5.index t = ![t.val / 4, t.val % 4, 0, 0] ∧ win0_6.index t = ![0, 0]
    ∧ win0_7.index t = ![t.val / 4, 0, t.val % 4] ∧ win0_8.index t = ![t.val / 4, t.val % 4, 0, 0] :=
  (by decide +kernel : ∀ t : Fin grid0.N, _)

/-- Row `r` of sequence `n` at feature `d` of head `h`. -/
def at3 (A : Vec Ideal S128x8x512 .f32) (n h : ℕ) (hn : n < 128) (hh : h < 4) (r : Fin 8) (d : Fin 128) : EReal :=
  A (ix3 (⟨n, hn⟩ : Fin 128) r (⟨h * 128 + d.val, by omega⟩ : Fin 512))

/-- A block of an activation: the rows of 32 sequences at one head. -/
theorem read_block (t : Fin cfg0.N) (s : Fin 32) (r : Fin 8) (d : Fin 128) (h0 : _) (h1 : _) (c : Dev nD) :
    (iblk m c 0 t (ix3 s r d) = at3 (m (c.tc.loc main_arg0)) (t.val / 4 * 32 + s.val) (t.val % 4) h0 h1 r d)
    ∧ (iblk m c 1 t (ix3 s r d) = at3 (m (c.tc.loc main_arg1)) (t.val / 4 * 32 + s.val) (t.val % 4) h0 h1 r d)
    ∧ (iblk m c 2 t (ix3 s r d) = at3 (m (c.tc.loc main_arg2)) (t.val / 4 * 32 + s.val) (t.val % 4) h0 h1 r d)
    ∧ (iblk m c 3 t (ix3 s r d) = at3 (m (c.tc.loc main_arg3)) (t.val / 4 * 32 + s.val) (t.val % 4) h0 h1 r d)
    ∧ (iblk m c 4 t (ix3 s r d) = at3 (m (c.tc.loc main_arg4)) (t.val / 4 * 32 + s.val) (t.val % 4) h0 h1 r d) := by
  have ht : t.val < 16 := t.isLt
  refine ⟨?_, ?_, ?_, ?_, ?_⟩ <;> unfold at3 <;> blk_ext! [iblk, V, idx t]

/-- A block of the states. -/
theorem read_states (t : Fin cfg0.N) (s : Fin 32) (a d : Fin 128) (h0 : t.val / 4 * 32 + s.val < 128) (h1 : t.val % 4 < 4) (c : Dev nD) :
    iblk m c 5 t (ix4 s (0 : Fin 1) a d) = m (c.tc.loc main_arg5) (ix4 (⟨t.val / 4 * 32 + s.val, h0⟩ : Fin 128) (⟨t.val % 4, h1⟩ : Fin 4) a d) := by
  have ht : t.val < 16 := t.isLt
  blk_ext! [iblk, V, idx t]

/-- The norm's weights are read whole. -/
theorem read_scale (t : Fin cfg0.N) (d : Fin 128) (c : Dev nD) :
    iblk m c 6 t (ix2 (0 : Fin 1) d) = m (c.tc.loc main_arg6) (ix2 (0 : Fin 1) d) := by
  blk_ext! [iblk, V, idx t]

end Cert.SampleArrays
-- ==== Proof.SampleReference.lean ====
/- The recurrence of the sample tokens: the reference at an index, over the extended reals. -/
module

public import proofs.«01_k».proof.Proof.SampleValue
public import proofs.«01_k».proof.Proof.Gen.ReferenceIdeal.Run
public import proofs.«01_k».proof.Proof.Gen.ReferenceIdeal.Read

@[expose] public section

set_option maxRecDepth 16384

noncomputable section

namespace Cert.SampleReference

open Idealize.ShloMosaic Idealize.ShloMosaic.TcCoe Idealize.SL.Sem
open Cert.ReferenceIdeal Cert.ReferenceIdeal.Gen Cert.ReferenceIdeal.Read Cert.SampleValue

/-- One cell of the window that ends at row `t`: row `t + j - 3`, or zero before the first row. -/
theorem cell (x : FVec Ideal S128x4x4x128 .f32) (n : Fin 128) (h t : Fin 4) (d : Fin 128) (j : Fin 4) (w : Fin 4 → ℕ)
    (hw : ∀ a, w a = (![0, 0, j.val, 0] : Fin 4 → ℕ) a) :
    ((if h1 : ∀ a : Fin 4, (![0, 0, 3, 0] : Fin 4 → ℕ) a ≤ ((ix4 n h t d : S128x4x4x128.Idx) a).val * (![1, 1, 1, 1] : Fin 4 → ℕ) a + w a
        ∧ ((ix4 n h t d : S128x4x4x128.Idx) a).val * (![1, 1, 1, 1] : Fin 4 → ℕ) a + w a - (![0, 0, 3, 0] : Fin 4 → ℕ) a
          < (![128, 4, 4, 128] : Fin 4 → ℕ) a then
      x (fun a => ⟨((ix4 n h t d : S128x4x4x128.Idx) a).val * (![1, 1, 1, 1] : Fin 4 → ℕ) a + w a - (![0, 0, 3, 0] : Fin 4 → ℕ) a, (h1 a).2⟩)
      else 0 : EReal)) = if 3 ≤ t.val + j.val then x (ix4 n h (⟨(t.val + j.val - 3) % 4, Nat.mod_lt _ (by decide)⟩ : Fin 4) d) else 0 := by
  have w0 : w 0 = 0 := hw 0
  have w1 : w 1 = 0 := hw 1
  have w2 : w 2 = j.val := hw 2
  have w3 : w 3 = 0 := hw 3
  by_cases hc : 3 ≤ t.val + j.val
  · rw [dif_pos, if_pos hc]
    · refine congrArg x (funext fun a => Fin.ext ?_)
      fin_cases a
      · show n.val * 1 + w 0 - 0 = n.val; omega
      · show h.val * 1 + w 1 - 0 = h.val; omega
      · show t.val * 1 + w 2 - 3 = (t.val + j.val - 3) % 4; omega
      · show d.val * 1 + w 3 - 0 = d.val; omega
    · intro a
      fin_cases a
      · show 0 ≤ n.val * 1 + w 0 ∧ n.val * 1 + w 0 - 0 < 128; omega
      · show 0 ≤ h.val * 1 + w 1 ∧ h.val * 1 + w 1 - 0 < 4; omega
      · show 3 ≤ t.val * 1 + w 2 ∧ t.val * 1 + w 2 - 3 < 4; omega
      · show 0 ≤ d.val * 1 + w 3 ∧ d.val * 1 + w 3 - 0 < 128; omega
  · rw [dif_neg, if_neg hc]
    intro h1
    have h2 : 3 ≤ t.val * 1 + w 2 := (h1 2).1
    omega

/-- The running sum over the tokens. -/
theorem cumsum (x : FVec Ideal S128x4x4x128 .f32) (z : FVec Ideal S_ .f32) (hz : ∀ i, z i = 0) (n : Fin 128) (h t : Fin 4) (d : Fin 128) :
    (Host.reduceWindowAdd (F := Ideal) ![1, 1, 4, 1] ![1, 1, 1, 1] ![0, 0, 3, 0] ![0, 0, 0, 0] x z
      reduceWindows_S128x4x4x128_S128x4x4x128_w1s1p0_0_w1s1p0_0_w4s1p3_0_w1s1p0_0 h_S_ : FVec Ideal S128x4x4x128 .f32) (ix4 n h t d)
      = pre (fun j => x (ix4 n h j d)) t.val := by
  simp only [Host.reduceWindowAdd, Ideal.hostReduceWindowAdd_def, Ideal.hostReduceWindowAdd, Host.reduceWindow]
  have hl : List.finRange (Shape.numel ⟨4, ![1, 1, 4, 1]⟩) = [⟨0, by decide⟩, ⟨1, by decide⟩, ⟨2, by decide⟩, ⟨3, by decide⟩] := by decide
  have e : ∀ (j : Fin 4) a, ((Shape.rowMajor ⟨4, ![1, 1, 4, 1]⟩).symm ⟨j.val, j.isLt⟩ a).val = (![0, 0, j.val, 0] : Fin 4 → Nat) a := by decide
  have e0 := e 0
  have e1 := e 1
  have e2 := e 2
  have e3 := e 3
  rw [hl]
  simp only [List.foldl_cons, List.foldl_nil, hz, zero_add]
  refine (congrArg₂ (· + ·) (congrArg₂ (· + ·) (congrArg₂ (· + ·) (cell x n h t d 0 _ e0) (cell x n h t d 1 _ e1)) (cell x n h t d 2 _ e2))
    (cell x n h t d 3 _ e3)).trans ?_
  fin_cases t <;> simp [pre] <;> rfl

/-- Token `t` of sequence `n` at feature `d` of head `h`. -/
def tok (A : FVec Ideal S128x8x512 .f32) (n : Fin 128) (h : Fin 4) (t : Fin 4) (d : Fin 128) : EReal :=
  A (ix3 n (⟨t.val, by omega⟩ : Fin 8) (⟨h.val * 128 + d.val, by omega⟩ : Fin 512))

section
variable (A0 A1 A2 A3 A4 : FVec Ideal S128x8x512 .f32) (A5 : FVec Ideal S128x4x128x128 .f32) (A6 : FVec Ideal S1x128 .f32)
  (n : Fin 128) (h t : Fin 4) (d : Fin 128)

/-- The queries, head by head. -/
theorem val2 : val_main_v2 (F := Ideal) A0 (ix4 n h t d) = tok A0 n h t d := by
  unfold tok
  pointwise [val_main_v0, val_main_v1, val_main_v2]

/-- The decays, head by head. -/
theorem val5 : val_main_v5 (F := Ideal) A1 (ix4 n h t d) = tok A1 n h t d := by
  unfold tok
  pointwise [val_main_v3, val_main_v4, val_main_v5]

/-- The keys, head by head. -/
theorem val8 : val_main_v8 (F := Ideal) A2 (ix4 n h t d) = tok A2 n h t d := by
  unfold tok
  pointwise [val_main_v6, val_main_v7, val_main_v8]

/-- The values, head by head. -/
theorem val11 : val_main_v11 (F := Ideal) A3 (ix4 n h t d) = tok A3 n h t d := by
  unfold tok
  pointwise [val_main_v9, val_main_v10, val_main_v11]

/-- The gates, head by head. -/
theorem val14 : val_main_v14 (F := Ideal) A4 (ix4 n h t d) = tok A4 n h t d := by
  unfold tok
  pointwise [val_main_v12, val_main_v13, val_main_v14]

/-- The running sums of the decays. -/
theorem val15 : val_main_v15 (F := Ideal) A1 (ix4 n h t d) = pre (fun j => tok A1 n h j d) t.val := by
  unfold val_main_v15
  refine (cumsum _ _ (fun i => by pointwise [val_main_call0_call0_v0, val_main_call0_call0_cst]) n h t d).trans ?_
  exact congrArg (fun f => pre f t.val) (funext fun j => val5 A1 n h j d)

/-- What the queries find in the old state. -/
theorem val18 : val_main_v18 (F := Ideal) A0 A1 A5 (ix4 n h t d)
    = ∑ a, tok A0 n h t a * Ideal.exp (pre (fun j => tok A1 n h j a) t.val) * A5 (ix4 n h a d) := by
  pointwise [val_main_v18, val_main_v17, val_main_v16]
  simp only [val2, val15]

/-- The decay between two tokens: none is seen before its turn. -/
theorem val28 (j : Fin 4) : val_main_v28 (F := Ideal) A1 (ix5 n h t j d)
    = Ideal.exp (if j ≤ t then pre (fun j => tok A1 n h j d) t.val - pre (fun j => tok A1 n h j d) j.val else ⊥) := by
  pointwise [val_main_v28, val_main_v27, val_main_v26, val_main_v25, val_main_v24, val_main_v23, val_main_v22, val_main_v21, val_main_v20, val_main_v19, val_main_c,
    val_main_call1_v0, val_main_call1_c, val_main_call1_v1, val_main_call1_v2, val_main_call1_v3, val_main_call1_v4, val_main_call1_c_0, val_main_call1_v5,
    val_main_cst, val_main_call2_v0, val_main_call2_v1, val_main_call2_v2]
  simp only [val15]
  have hb : (id (constant S_ FTy.f32 4286578688#32 : FVec Ideal S_ .f32) ix0 : EReal) = ⊥ := by
    show Ideal.ofBits .f32 4286578688#32 = ⊥
    simp [Ideal.ofBits, Ideal.ieee]
  rw [hb]
  congr 1
  have hs : ∀ t j : Fin 4, Scalar.select (IntOp.cmpi CmpIPredicate.sge (IntOp.addi (BitVec.ofNat 32 t.val) 0#32) (BitVec.ofNat 32 j.val)) 1#1 0#1
      = if j ≤ t then 1#1 else 0#1 := by decide +kernel
  rw [hs]
  split <;> rfl

/-- What the queries find in the keys of the tokens so far. -/
theorem val36 : val_main_v36 (F := Ideal) A0 A1 A2 A3 (ix4 n h t d)
    = ∑ j : Fin 4, (∑ a, tok A0 n h t a * tok A2 n h j a * Ideal.exp (if j ≤ t then pre (fun i => tok A1 n h i a) t.val
      - pre (fun i => tok A1 n h i a) j.val else ⊥)) * tok A3 n h j d := by
  pointwise [val_main_v36, val_main_v35, val_main_v34, val_main_v33, val_main_v32, val_main_v31, val_main_v30, val_main_v29, val_main_cst_0]
  simp only [val2, val8, val11, val28]

/-- The reference's output before the norm. -/
theorem val49 : val_main_v49 (F := Ideal) A0 A1 A2 A3 A5 (ix4 n h t d)
    = chunk (tok A0 n h) (tok A2 n h) (tok A3 n h) (fun a j => tok A1 n h j a) (fun a d => A5 (ix4 n h a d)) t d := by
  pointwise [val_main_v49]
  rw [val18, val36]
  rfl

/-- The reference's new state. -/
theorem val48 (a : Fin 128) : val_main_v48 (F := Ideal) A1 A2 A3 A5 (ix4 n h a d)
    = next (tok A2 n h) (tok A3 n h) (fun a j => tok A1 n h j a) (fun a d => A5 (ix4 n h a d)) a d := by
  pointwise [val_main_v48, val_main_v47, val_main_v46, val_main_v45, val_main_v44, val_main_v43, val_main_v42, val_main_v41, val_main_v40, val_main_v39, val_main_v38, val_main_v37]
  simp only [val8, val11, val15]
  rfl

/-- The reference's output at a row that holds a token. -/
theorem val67 : val_main_v67 (F := Ideal) A0 A1 A2 A3 A4 A5 A6 (ix3 n (⟨t.val, by omega⟩ : Fin 8) (⟨h.val * 128 + d.val, by omega⟩ : Fin 512))
    = unit (chunk (tok A0 n h) (tok A2 n h) (tok A3 n h) (fun a j => tok A1 n h j a) (fun a d => A5 (ix4 n h a d)) t)
        (fun d => A6 (ix2 (0 : Fin 1) d)) (tok A4 n h t) d := by
  pointwise [val_main_v67, val_main_v66, val_main_v65, val_main_v64, val_main_v63, val_main_v62, val_main_v61, val_main_v60, val_main_v59, val_main_v58, val_main_v57,
    val_main_v56, val_main_v55, val_main_v54, val_main_v53, val_main_v52, val_main_v51, val_main_v50, val_main_cst_1, val_main_cst_2, val_main_cst_3, val_main_c_4, val_main_call3_v0]
  simp only [val49, val14]
  rw [dif_pos (show h.val * 128 + d.val < 512 by omega)]
  rfl

end

end Cert.SampleReference
-- ==== Proof.Recurrence.lean ====
/- The recurrence of the sample tokens: the program computes the layer's mathematics. -/
module

public import proofs.«01_k».proof.Defs
public import proofs.«01_k».proof.Proof.SampleArrays
public import proofs.«01_k».proof.Proof.SampleReference
public import proofs.«01_k».proof.Proof.Gen.KernelIdeal.Value
public import proofs.«01_k».proof.Proof.Gen.On_sample_rows
public import proofs.«01_k».proof.Proof.Gen.Pre_decays

@[expose] public section

set_option maxRecDepth 16384

noncomputable section

namespace Cert.Recurrence

open Idealize.ShloMosaic Idealize.ShloMosaic.TcCoe Idealize.SL.Sem

/-- A row number below four, compared as a word. -/
theorem row_word : ∀ n : Fin 8, IntOp.cmpi .slt (BitVec.ofNat 32 n.val) 4#32 = 1#1 → n.val < 4 := by
  decide +kernel

/-- The rows `sample_rows` marks are the first four of each sequence. -/
theorem sample_row (a0 a1 a2 a3 a4 : FVec Ideal On_sample_rows.S128x8x512 .f32) (a5 : FVec Ideal On_sample_rows.S128x4x128x128 .f32) (a6 : FVec Ideal On_sample_rows.S1x128 .f32)
    (i : (⟨3, ![128, 8, 512]⟩ : Shape).Idx) (h : (On_sample_rows.fn (F := Ideal) a0 a1 a2 a3 a4 a5 a6).1 i = 1#1) :
    (i 1).val < 4 := by
  refine row_word (i 1) ?_
  rw [← h]
  symm
  pointwise [On_sample_rows.fn]

/-- Every entry is at most zero. -/
def NonPos (a : FVec Ideal Pre_decays.S128x8x512 .f32) : Prop := ∀ i, a i ≤ 0

/-- Where `decays` holds every decay is at most zero. -/
theorem decay_nonpos (a0 a1 a2 a3 a4 : FVec Ideal Pre_decays.S128x8x512 .f32) (a5 : FVec Ideal Pre_decays.S128x4x128x128 .f32) (a6 : FVec Ideal Pre_decays.S1x128 .f32)
    (h : Pre_decays.fn (F := Ideal) a0 a1 a2 a3 a4 a5 a6 = fun _ => 1#1) : NonPos a1 := by
  intro i
  have hi := congrFun h i
  have hv : Pre_decays.fn (F := Ideal) a0 a1 a2 a3 a4 a5 a6 i = FloatOps.cmpf (F := Ideal) .ole (a1 i) (FloatOps.ofBits .f32 0#32) := by
    pointwise [Pre_decays.fn]
  rw [hv] at hi
  by_contra hc
  simp [FloatOps.cmpf, Ideal.cmp, hc] at hi

section
open Cert.KernelIdeal Cert.KernelIdeal.Gen Cert.SampleValue Cert.SampleArrays Cert.SampleReference

variable (m : (ℓ : Loc nD τ sig) → Buf (Elt Ideal) ℓ)

/-- A sequence of a block, as the tokens of the whole array. -/
theorem rows_block (c : Dev nD) (t : Fin cfg0.N) (s : Fin 32) (h0 : t.val / 4 * 32 + s.val < 128) (h1 : t.val % 4 < 4) :
    (rows (iblk m c 0 t) s = tok (m (c.tc.loc main_arg0)) ⟨_, h0⟩ ⟨_, h1⟩)
    ∧ (tokens (iblk m c 1 t) s = fun a j => tok (m (c.tc.loc main_arg1)) ⟨_, h0⟩ ⟨_, h1⟩ j a)
    ∧ (rows (iblk m c 2 t) s = tok (m (c.tc.loc main_arg2)) ⟨_, h0⟩ ⟨_, h1⟩)
    ∧ (rows (iblk m c 3 t) s = tok (m (c.tc.loc main_arg3)) ⟨_, h0⟩ ⟨_, h1⟩)
    ∧ (rows (iblk m c 4 t) s = tok (m (c.tc.loc main_arg4)) ⟨_, h0⟩ ⟨_, h1⟩) :=
  ⟨funext fun j => funext fun d => (read_block m t s ⟨j.val, by omega⟩ d h0 h1 c).1,
    funext fun d => funext fun j => (read_block m t s ⟨j.val, by omega⟩ d h0 h1 c).2.1,
    funext fun j => funext fun d => (read_block m t s ⟨j.val, by omega⟩ d h0 h1 c).2.2.1,
    funext fun j => funext fun d => (read_block m t s ⟨j.val, by omega⟩ d h0 h1 c).2.2.2.1,
    funext fun j => funext fun d => (read_block m t s ⟨j.val, by omega⟩ d h0 h1 c).2.2.2.2⟩

/-- The decays of a block are at most zero. -/
theorem tokens_nonpos (c : Dev nD) (hg : NonPos (m (c.tc.loc main_arg1))) (t : Fin cfg0.N) (s : Fin 32) (d : Fin 128) (j : Fin 4) :
    tokens (iblk m c 1 t) s d j ≤ 0 := by
  have ht : t.val < 16 := t.isLt
  rw [(rows_block m c t s (by omega) (by omega)).2.1]
  exact hg _

open Cert.ReferenceIdeal.Read in
/-- The outputs' array is the reference's on the rows that hold tokens. -/
theorem outputs (c : Dev nD) (hg : NonPos (m (c.tc.loc main_arg1))) (i : S128x8x512.Idx) : (i 1).val < 4 →
    (dats m 0 c).arrAt 7 cfg0.N i = val_main_v67 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) i := by
  refine (dats m 0 c).arrAt_forall_of_covers 7 (fun (i : S128x8x512.Idx) v => (i 1).val < 4 → v
    = val_main_v67 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) i) (by decide +kernel) (fun t hf y => ?_) i
  blk_simp
  rw [after0_7]
  unfold outsAt0
  change S32x8x128.Idx at y
  idx_vars y
  have ht : t.val < 16 := t.isLt
  have he : ((View.whole main_v0_0).slice (win0_7.rect t)).emb (ix3 y0 y1 y2)
      = (ix3 ⟨t.val / 4 * 32 + y0.val, by omega⟩ y1 ⟨t.val % 4 * 128 + y2.val, by omega⟩ : S128x8x512.Idx) := by
    blk_ext [idx t]
  rw [he]
  intro hr
  rw [show win0_7.index t 1 = 0 from congrFun (idx t).2.2.2.2.2.2.2.1 1] at hr
  obtain ⟨r, rfl⟩ : ∃ r : Fin 4, (⟨r.val, Nat.lt_trans r.isLt (by decide)⟩ : Fin 8) = y1 := ⟨⟨y1.val, by omega⟩, rfl⟩
  have h0 : t.val / 4 * 32 + y0.val < 128 := by omega
  have h1 : t.val % 4 < 4 := by omega
  have hv := val67 (m (c.tc.loc main_arg0)) (m (c.tc.loc main_arg1)) (m (c.tc.loc main_arg2)) (m (c.tc.loc main_arg3)) (m (c.tc.loc main_arg4)) (m (c.tc.loc main_arg5)) (m (c.tc.loc main_arg6)) ⟨_, h0⟩ ⟨_, h1⟩ r y2
  obtain ⟨b0, b1, b2, b3, b4⟩ := rows_block m c t y0 h0 h1
  have hk := out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (tokens_nonpos m c hg t) y0 r y2
  rw [b0, b1, b2, b3, b4, funext fun a => funext fun d => read_states m t y0 a d h0 h1 c, funext fun d => read_scale m t d c] at hk
  exact hk.trans hv.symm

open Cert.ReferenceIdeal.Read in
/-- The states' array is the reference's. -/
theorem states (c : Dev nD) (hg : NonPos (m (c.tc.loc main_arg1))) (i : S128x4x128x128.Idx) :
    (dats m 0 c).arrAt 8 cfg0.N i = val_main_v48 (F := Ideal) (m (c.tc.loc main_arg1)) (m (c.tc.loc main_arg2)) (m (c.tc.loc main_arg3)) (m (c.tc.loc main_arg5)) i := by
  refine (dats m 0 c).arrAt_forall_of_covers 8 (fun (i : S128x4x128x128.Idx) v => v
    = val_main_v48 (F := Ideal) (m (c.tc.loc main_arg1)) (m (c.tc.loc main_arg2)) (m (c.tc.loc main_arg3)) (m (c.tc.loc main_arg5)) i) (by decide +kernel) (fun t hf y => ?_) i
  blk_simp
  rw [after0_8]
  unfold outsAt0
  change S32x1x128x128.Idx at y
  idx_vars y
  have ht : t.val < 16 := t.isLt
  have h0 : t.val / 4 * 32 + y0.val < 128 := by omega
  have h1 : t.val % 4 < 4 := by omega
  have he : ((View.whole main_v0_1).slice (win0_8.rect t)).emb (ix4 y0 y1 y2 y3)
      = (ix4 ⟨t.val / 4 * 32 + y0.val, h0⟩ ⟨t.val % 4, h1⟩ y2 y3 : S128x4x128x128.Idx) := by
    blk_ext [idx t]
  rw [he]
  obtain rfl : y1 = (0 : Fin 1) := Fin.fin_one_eq_zero y1
  have hv := val48 (m (c.tc.loc main_arg1)) (m (c.tc.loc main_arg2)) (m (c.tc.loc main_arg3)) (m (c.tc.loc main_arg5)) ⟨_, h0⟩ ⟨_, h1⟩ y3 y2
  obtain ⟨b0, b1, b2, b3, b4⟩ := rows_block m c t y0 h0 h1
  have hk := state_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (tokens_nonpos m c hg t) y0 y2 y3
  rw [b1, b2, b3, funext fun a => funext fun d => read_states m t y0 a d h0 h1 c] at hk
  exact hk.trans hv.symm

end

/-- Where no decay exceeds zero, the recurrence of the sampled tokens leaves the layer's outputs on the rows that hold tokens, and the layer's new states. -/
theorem sample : Cert.algebraic_KernelIdeal_ReferenceIdeal_on_sample_rows_pre_decays := by
  intro m g m' g' hp hm
  refine ⟨fun c => Cert.ReferenceIdeal.Read.val_main_v67 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)),
    fun c => Cert.ReferenceIdeal.Read.val_main_v48 (F := Ideal) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg5)), ?_, ?_⟩
  · refine (θ_run _ _ _).mono (fun r h c => ?_) (Cert.KernelIdeal.Value.run_blocks m g)
    obtain ⟨h0, h1, kept⟩ := h c
    obtain ⟨a0, a1, a2, a3, a4, a5, a6⟩ := hm c
    have hg := decay_nonpos (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (hp c)
    beta_reduce
    rw [a0, a1, a2, a3, a4, a5, a6]
    exact ⟨fun i hi => (congrFun h0 i).trans (outputs m c hg i (sample_row (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) i hi)),
      fun i _ => (congrFun h1 i).trans (states m c hg i), kept⟩
  · refine (θ_run _ _ _).mono (fun r h c => ?_) (Cert.ReferenceIdeal.Value.run m' g')
    obtain ⟨h0, h1, kept⟩ := h c
    exact ⟨fun i _ => congrFun (h0.trans (Cert.ReferenceIdeal.Read.val_main_v67_eq m' c)) i,
      fun i _ => congrFun (h1.trans (Cert.ReferenceIdeal.Read.val_main_v48_eq _ _ _ _)) i, kept⟩

end Cert.Recurrence

end
-- ==== Proof.RoutingRounds.lean ====
/- The choice of three blocks by score: three rounds that take the greatest score left, and a stable sort, choose the same blocks. -/
module

public import Idealize.ShloMosaic.Lib.SortFacts
public import Idealize.ShloMosaic.Lib.SortPrefix
public import Mathlib.Data.EReal.Basic
public import Mathlib.Order.Interval.Finset.Fin

@[expose] public section

noncomputable section

namespace Cert.RoutingRounds

open Idealize.ShloMosaic

/-- Block `j` is chosen before block `n`: it scores more, or it scores the same and comes first. -/
def Before (g : Fin 16 → EReal) (j n : Fin 16) : Prop := g n < g j ∨ (g j = g n ∧ j < n)

open Classical in
/-- How many blocks are chosen before a block. -/
def rank (g : Fin 16 → EReal) (n : Fin 16) : ℕ := (Finset.univ.filter fun j => Before g j n).card

/-- No block is chosen before itself. -/
theorem before_irrefl (g : Fin 16 → EReal) (n : Fin 16) : ¬ Before g n n := by
  rintro (h | ⟨_, h⟩)
  · exact lt_irrefl _ h
  · exact lt_irrefl _ h

/-- The order of choice is transitive. -/
theorem before_trans {g : Fin 16 → EReal} {i j n : Fin 16} (h : Before g i j) (h' : Before g j n) : Before g i n := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two blocks, one is chosen before the other. -/
theorem before_total (g : Fin 16 → EReal) {j n : Fin 16} (h : j ≠ n) : Before g j n ∨ Before g n j := by
  rcases lt_trichotomy (g j) (g n) with e | e | e
  · exact .inr (.inl e)
  · rcases lt_or_gt_of_ne h with l | l
    · exact .inl (.inr ⟨e, l⟩)
    · exact .inr (.inr ⟨e.symm, l⟩)
  · exact .inl (.inl e)

/-- A block chosen before another has a smaller rank. -/
theorem rank_lt {g : Fin 16 → EReal} {j n : Fin 16} (h : Before g j n) : rank g j < rank g n := by
  classical
  refine Finset.card_lt_card ⟨fun i hi => ?_, fun hs => ?_⟩
  · simp only [Finset.mem_filter, Finset.mem_univ, true_and] at hi ⊢
    exact before_trans hi h
  · have := hs (Finset.mem_filter.2 ⟨Finset.mem_univ j, h⟩)
    exact before_irrefl g j (Finset.mem_filter.1 this).2

/-- A block of a smaller rank is chosen before one of a greater. -/
theorem before_of_rank_lt {g : Fin 16 → EReal} {j n : Fin 16} (h : rank g j < rank g n) : Before g j n := by
  rcases before_total g (j := j) (n := n) (fun e => by rw [e] at h; exact lt_irrefl _ h) with b | b
  · exact b
  · exact absurd (rank_lt b) (by omega)

/-- Two blocks have different ranks. -/
theorem rank_injective (g : Fin 16 → EReal) : Function.Injective (rank g) := fun j n e => by
  by_contra h
  rcases before_total g h with b | b <;> exact absurd (rank_lt b) (by omega)

/-- The scores with the first `r` choices taken out. -/
def left (g : Fin 16 → EReal) (r : ℕ) (j : Fin 16) : EReal := if rank g j < r then ⊥ else g j

/-- The number of the first block with the greatest score, found by taking the least number among those blocks. -/
def firstMax (h : Fin 16 → EReal) : EReal :=
  Finset.univ.inf fun j : Fin 16 => if h j = Finset.univ.sup h then ((j.val : ℝ) : EReal) else ((16 : ℝ) : EReal)

/-- A block's number is that number exactly when it has the greatest score and no block before it has. -/
theorem eq_firstMax_iff (h : Fin 16 → EReal) (n : Fin 16) :
    ((n.val : ℝ) : EReal) = firstMax h ↔ h n = Finset.univ.sup h ∧ ∀ j < n, h j ≠ Finset.univ.sup h := by
  unfold firstMax
  constructor
  · intro e
    obtain ⟨i, -, hi⟩ := Finset.exists_mem_eq_inf Finset.univ Finset.univ_nonempty
      (fun j : Fin 16 => if h j = Finset.univ.sup h then ((j.val : ℝ) : EReal) else ((16 : ℝ) : EReal))
    have e' := e.trans hi
    by_cases c : h i = Finset.univ.sup h
    · simp only [c, if_true] at e'
      have ein : n = i := by
        apply Fin.ext
        exact_mod_cast EReal.coe_injective e'
      subst ein
      refine ⟨c, fun j hj cj => ?_⟩
      have l := Finset.inf_le (f := fun j : Fin 16 => if h j = Finset.univ.sup h then ((j.val : ℝ) : EReal) else ((16 : ℝ) : EReal)) (Finset.mem_univ j)
      rw [← e] at l
      simp only [cj, if_true] at l
      have l' : n.val ≤ j.val := by exact_mod_cast EReal.coe_le_coe_iff.1 l
      exact absurd hj (not_lt.2 l')
    · simp only [c, if_false] at e'
      have : n.val = 16 := by exact_mod_cast EReal.coe_injective e'
      omega
  · rintro ⟨c, hn⟩
    apply le_antisymm
    · refine Finset.le_inf fun j _ => ?_
      split_ifs with cj
      · have : n ≤ j := not_lt.1 fun l => hn j l cj
        exact EReal.coe_le_coe_iff.2 (by exact_mod_cast this)
      · exact EReal.coe_le_coe_iff.2 (by have := n.isLt; exact_mod_cast this.le)
    · refine (Finset.inf_le (Finset.mem_univ n)).trans ?_
      rw [if_pos c]

/-- The block of rank `r` is the one a round takes once the first `r` are out. -/
theorem picked_of_rank {g : Fin 16 → EReal} {n : Fin 16} (hn : g n ≠ ⊥) {r : ℕ} (hr : rank g n = r) :
    ((n.val : ℝ) : EReal) = firstMax (left g r) := by
  have en : left g r n = g n := if_neg (by omega)
  have top : Finset.univ.sup (left g r) = g n := by
    apply le_antisymm
    · refine Finset.sup_le fun j _ => ?_
      unfold left
      split_ifs with c
      · exact bot_le
      · by_contra l
        exact c (hr ▸ rank_lt (.inl (not_le.1 l)))
    · exact en ▸ Finset.le_sup (f := left g r) (Finset.mem_univ n)
  refine (eq_firstMax_iff _ _).2 ⟨en.trans top.symm, fun j hj e => ?_⟩
  rw [top] at e
  unfold left at e
  split_ifs at e with c
  · exact hn e.symm
  · exact c (hr ▸ rank_lt (.inr ⟨e, hj⟩))

/-- A block that a round takes once the first `r` are out has a rank of at most `r`. -/
theorem rank_of_picked {g : Fin 16 → EReal} {n : Fin 16} {r : ℕ} (h : ((n.val : ℝ) : EReal) = firstMax (left g r)) :
    rank g n ≤ r := by
  classical
  by_contra hr
  obtain ⟨e, hf⟩ := (eq_firstMax_iff _ _).1 h
  have en : left g r n = g n := if_neg (by omega)
  have : ∃ j, Before g j n ∧ ¬ rank g j < r := by
    by_contra hno
    push Not at hno
    have hc : rank g n ≤ r := by
      unfold rank
      rw [← Finset.card_image_of_injective _ (rank_injective g), ← Finset.card_range r]
      refine Finset.card_le_card fun x hx => ?_
      obtain ⟨j, hj, rfl⟩ := Finset.mem_image.1 hx
      exact Finset.mem_range.2 (hno j (Finset.mem_filter.1 hj).2)
    exact hr hc
  obtain ⟨j, hb, hj⟩ := this
  have ej : left g r j = g j := if_neg hj
  rcases hb with l | ⟨q, l⟩
  · have := Finset.le_sup (f := left g r) (Finset.mem_univ j)
    rw [← e, ej, en] at this
    exact absurd l (not_lt.2 this)
  · exact hf j l (by rw [ej, q, ← en, e])

/-- Taking out the block of a round gives the scores of the next. -/
theorem left_succ (g : Fin 16 → EReal) (r : ℕ) (j : Fin 16) [Decidable (((j.val : ℝ) : EReal) = firstMax (left g r))] :
    (if ((j.val : ℝ) : EReal) = firstMax (left g r) then ⊥ else left g r j) = left g (r + 1) j := by
  by_cases hj : g j = ⊥
  · have : ∀ s, left g s j = ⊥ := fun s => by unfold left; split_ifs <;> [rfl; exact hj]
    rw [this, this, ite_self]
  · split_ifs with c
    · exact (if_pos (Nat.lt_succ_of_le (rank_of_picked c))).symm
    · have : rank g j ≠ r := fun e => c (picked_of_rank hj e)
      unfold left
      exact if_congr (by omega) rfl rfl

/-- A block with a score is taken within three rounds exactly when its rank is below three. -/
theorem picked_iff {g : Fin 16 → EReal} {n : Fin 16} (hn : g n ≠ ⊥) :
    (((n.val : ℝ) : EReal) = firstMax (left g 0) ∨ ((n.val : ℝ) : EReal) = firstMax (left g 1)
      ∨ ((n.val : ℝ) : EReal) = firstMax (left g 2)) ↔ rank g n < 3 := by
  constructor
  · rintro (h | h | h) <;> have := rank_of_picked h <;> omega
  · intro h
    have : rank g n = 0 ∨ rank g n = 1 ∨ rank g n = 2 := by omega
    rcases this with h | h | h
    · exact .inl (picked_of_rank hn h)
    · exact .inr (.inl (picked_of_rank hn h))
    · exact .inr (.inr (picked_of_rank hn h))

/-- A stable sort asks its order only about an element and one that came earlier. -/
theorem stableSort_congr_of_lt {m : ℕ} (R R' : Fin m → Fin m → Bool) (h : ∀ a b, a < b → R b a = R' b a) (l : List (Fin m))
    (hl : l.Pairwise (· < ·)) : stableSort R l = stableSort R' l := by
  induction l with
  | nil => rfl
  | cons a l ih =>
    have hc := List.pairwise_cons.1 hl
    unfold stableSort
    rw [ih hc.2]
    exact insertBefore_congr R R' a _ fun b hb => h a b (hc.1 b ((perm_stableSort R' l).mem_iff.1 hb))

/-- So two orders that agree there sort alike. -/
theorem sortedFrom_congr_of_lt {m : ℕ} (R R' : Fin m → Fin m → Bool) (h : ∀ a b, a < b → R b a = R' b a) :
    sortedFrom R = sortedFrom R' := by
  have e : sortPositions m R = sortPositions m R' := stableSort_congr_of_lt R R' h _ (List.pairwise_lt_finRange m)
  funext k
  unfold sortedFrom
  simp only [List.get_eq_getElem, e, Fin.val_cast]

/-- Sorted by a strict order, the element at place `k` has `k` elements before it. -/
theorem card_before_sorted {m : ℕ} (B : Fin m → Fin m → Bool) (hB : StrictTotalBefore B) (k : Fin m) :
    (Finset.univ.filter fun j => B j (sortedFrom B k) = true).card = k.val := by
  have hord : ∀ i j : Fin m, i < j → B (sortedFrom B i) (sortedFrom B j) = true := by
    intro i j hij
    have hno := sortedFrom_noInversion B B hB.asymm (fun _ _ h => h) hB.negTrans i j hij
    refine (hB.total _ _ fun e => absurd (sortedFrom_injective B e) hij.ne).resolve_right ?_
    rw [hno]; decide
  have : (Finset.univ.filter fun j => B j (sortedFrom B k) = true)
      = (Finset.univ.filter fun i : Fin m => i < k).image (sortedFrom B) := by
    ext j
    simp only [Finset.mem_filter, Finset.mem_univ, true_and, Finset.mem_image]
    constructor
    · intro h
      obtain ⟨i, rfl⟩ := sortedFrom_surjective B j
      refine ⟨i, ?_, rfl⟩
      rcases lt_trichotomy i k with l | l | l
      · exact l
      · rw [l, hB.irrefl] at h; exact absurd h (by decide)
      · rw [hB.asymm _ _ (hord _ _ l)] at h; exact absurd h (by decide)
    · rintro ⟨i, hi, rfl⟩
      exact hord _ _ hi
  rw [this, Finset.card_image_of_injective _ (sortedFrom_injective B), show (Finset.univ.filter fun i : Fin m => i < k) = Finset.Iio k by
    ext i; simp, Fin.card_Iio]

open Classical in
/-- Sorted by score, greatest first and stably, the block at place `k` has rank `k`. -/
theorem rank_sorted (g : Fin 16 → EReal) (R : Fin 16 → Fin 16 → Bool) (hR : ∀ j n, R j n = true ↔ g n < g j) (k : Fin 16) :
    rank g (sortedFrom R k) = k.val := by
  have hs : sortedFrom R = sortedFrom fun j n => decide (Before g j n) := by
    refine sortedFrom_congr_of_lt _ _ fun a b hab => ?_
    rw [Bool.eq_iff_iff, hR, decide_eq_true_iff]
    exact ⟨.inl, fun h => h.resolve_right fun q => absurd hab (not_lt.2 q.2.le)⟩
  have hB : StrictTotalBefore fun j n => decide (Before g j n) :=
    ⟨fun a => by simp [before_irrefl], fun a b c h h' => by
      rw [decide_eq_true_iff] at h h' ⊢; exact before_trans h h', fun a b h => by
      rw [decide_eq_true_iff, decide_eq_true_iff]; exact before_total g h⟩
  rw [hs]
  refine Eq.trans ?_ (card_before_sorted _ hB k)
  unfold rank
  refine congrArg Finset.card (Finset.filter_congr fun j _ => ?_)
  rw [decide_eq_true_iff]

/-- A block is among the first three of that sort exactly when its rank is below three. -/
theorem sorted_iff (g : Fin 16 → EReal) (R : Fin 16 → Fin 16 → Bool) (hR : ∀ j n, R j n = true ↔ g n < g j) (n : Fin 16) :
    (∃ k : Fin 16, k.val < 3 ∧ sortedFrom R k = n) ↔ rank g n < 3 := by
  constructor
  · rintro ⟨k, hk, rfl⟩
    rw [rank_sorted g R hR]; exact hk
  · intro h
    obtain ⟨k, rfl⟩ := sortedFrom_surjective R n
    exact ⟨k, by rwa [rank_sorted g R hR] at h, rfl⟩

end Cert.RoutingRounds

end
-- ==== Proof.RoutingBlock.lean ====
/- The routing of the prompts: what one head of the kernel's block computes. -/
module

public import proofs.«01_k».proof.Proof.RoutingRounds
public import proofs.«01_k».proof.Proof.Gen.Kernel6Ideal.Value
public import Idealize.ShloMosaic.Lib.Pipeline.ValueKit
public import Idealize.ShloMosaic.Lib.Pointwise
public import Idealize.ShloMosaic.Lib.ValueIdx

@[expose] public section

set_option maxRecDepth 16384

noncomputable section

namespace Cert.RoutingBlock

open Idealize.ShloMosaic Idealize.ShloMosaic.TcCoe Idealize.SL.Sem
open Cert.Kernel6Ideal Cert.Kernel6Ideal.Gen Cert.RoutingRounds

variable {F : FTy → Type} [FloatOps F]

/-- The block a round takes in each column: the first with the greatest score left. -/
def pick (idx g : FVec F S16x4096 .f32) : IVec S16x4096 1 :=
  cmpf .oeq idx (broadcastTo S16x4096 (shapeCast S1x4096 (multiReduction .minimumf [0] S4096
    (select (cmpf .oeq g (broadcastTo S16x4096 (shapeCast S1x4096 (multiReduction .maximumf [0] S4096 g 0xFF800000#32 reduces_S16x4096_S4096 (.inl rfl) rfl) shapeCasts_S4096_S1x4096) broadcasts_S1x4096_S16x4096)) idx
      (broadcast S16x4096 (Scalar.ofBits .f32 0x41800000#32)))
    0x7F800000#32 reduces_S16x4096_S4096 (.inl rfl) rfl) shapeCasts_S4096_S1x4096) broadcasts_S1x4096_S16x4096)

/-- The scores once that block is out. -/
def drop (idx g : FVec F S16x4096 .f32) : FVec F S16x4096 .f32 :=
  select (pick idx g) (broadcast S16x4096 (Scalar.ofBits .f32 0xFF800000#32)) g

/-- The blocks that a column keeps: the past ones taken in three rounds, and its own. -/
def keep (rows own : IVec S16x4096 32) (g : FVec F S16x4096 .f32) : IVec S16x4096 1 :=
  ori (andi (ori (ori (ori (broadcast S16x4096 0#1) (pick (sitofp .f32 rows) g)) (pick (sitofp .f32 rows) (drop (sitofp .f32 rows) g)))
    (pick (sitofp .f32 rows) (drop (sitofp .f32 rows) (drop (sitofp .f32 rows) g)))) (cmpi .slt rows own)) (cmpi .eq rows own)

/-- The scores of a head: the products of its lanes, on the past blocks. -/
def scores (lo hi : BitVec 32) (q : FVec F S128x4096 .f32) (lanes : IVec S1x128 32) (means : Vec F S16x128 .f32) (rows own : IVec S16x4096 32) : FVec F S16x4096 .f32 :=
  select (cmpi .slt rows own)
    (matmul dot_S16x128_S128x4096_S16x4096_1_0_0_1_n_n (some .fp32)
      (select (broadcastTo S16x128 (shapeCast S1x128 (andi (cmpi .sge lanes (broadcast S1x128 lo)) (cmpi .slt lanes (broadcast S1x128 hi))) shapeCasts_S1x128_S1x128) broadcasts_S1x128_S16x128) means
        (broadcast S16x128 (Scalar.ofBits .f32 0x00000000#32))) q (constant S16x4096 .f32 0x00000000#32))
    (broadcast S16x4096 (Scalar.ofBits .f32 0xFF800000#32))

/-- The first head's blocks. -/
theorem first_eq (q : FVec F S128x4096 .f32) (lanes : IVec S1x128 32) (means : Vec F S16x128 .f32) (rows own : IVec S16x4096 32) :
    k0_pay24 q rows own (k0_pay23 lanes means) = keep rows own (scores 0#32 64#32 q lanes means rows own) := rfl

/-- The second head's block of the output. -/
theorem second_eq (q : FVec F S128x4096 .f32) (lanes : IVec S1x128 32) (means : Vec F S16x128 .f32) (rows own : IVec S16x4096 32) :
    k0_pay1 rows own (k0_pay26 rows own) (k0_pay28 rows) (k0_pay30 q lanes means rows own) (k0_pay31 q lanes means rows own) (k0_pay32 q lanes means rows own)
      = k0_pay25 (keep rows own (scores 64#32 128#32 q lanes means rows own)) := rfl

/-- The numbers of the blocks. -/
def rows16 : IVec S16x4096 32 := iota .tc S16x4096 32 [0] iota_S16x4096_d0_w32

/-- A block's number as a float. -/
theorem number (n : Fin 16) : (FloatOps.sitofp (F := Ideal) .f32 (BitVec.ofNat 32 n.val) : EReal) = ((n.val : ℝ) : EReal) := by
  have : (BitVec.ofNat 32 n.val).toInt = (n.val : ℤ) := by revert n; decide
  show (((BitVec.ofNat 32 n.val).toInt : ℝ) : EReal) = _
  rw [this]; norm_cast

/-- The word of minus infinity. -/
theorem low : Ideal.ofBits .f32 0xFF800000#32 = ⊥ := by
  show Ideal.ofBits .f32 4286578688#32 = ⊥; simp [Ideal.ofBits, Ideal.ieee]

/-- The word of plus infinity. -/
theorem high : Ideal.ofBits .f32 0x7F800000#32 = ⊤ := by
  show Ideal.ofBits .f32 2139095040#32 = ⊤; simp [Ideal.ofBits, Ideal.ieee]

/-- The word of sixteen. -/
theorem sixteen : Ideal.ofBits .f32 0x41800000#32 = ((16 : ℝ) : EReal) := by
  show Ideal.ofBits .f32 1098907648#32 = _; simp [Ideal.ofBits, Ideal.ieee]; rw [← EReal.coe_mul]; norm_num

/-- A round takes the block that the scores of the column choose. -/
theorem pick_apply (h : Fin 16 → EReal) (g : FVec Ideal S16x4096 .f32) (c : Fin 4096) (hg : ∀ j, g (ix2 j c) = h j) (n : Fin 16) :
    pick (F := Ideal) (sitofp .f32 rows16) g (ix2 n c) = BitVec.ofBool (decide (((n.val : ℝ) : EReal) = firstMax h)) := by
  unfold pick rows16
  pointwise
  have e0 : Ideal.ofBits .f32 2139095040#32 = ⊤ := high
  have e1 : Ideal.ofBits .f32 4286578688#32 = ⊥ := low
  have e2 : Ideal.ofBits .f32 1098907648#32 = ((16 : ℝ) : EReal) := sixteen
  simp only [hg, number, e0, e1, e2]
  rfl

/-- A round leaves the scores that it did not take. -/
theorem drop_apply (h : Fin 16 → EReal) (r : ℕ) (g : FVec Ideal S16x4096 .f32) (c : Fin 4096) (hg : ∀ j, g (ix2 j c) = left h r j) (n : Fin 16) :
    drop (F := Ideal) (sitofp .f32 rows16) g (ix2 n c) = left h (r + 1) n := by
  classical
  rw [← left_succ h r n]
  unfold drop
  show Scalar.select (pick (F := Ideal) (sitofp .f32 rows16) g (ix2 n c)) (Ideal.ofBits .f32 0xFF800000#32) (g (ix2 n c)) = _
  rw [pick_apply (left h r) g c hg n, low, hg]
  by_cases e : ((n.val : ℝ) : EReal) = firstMax (left h r)
  · rw [if_pos e, decide_eq_true e]; rfl
  · rw [if_neg e, decide_eq_false e]; rfl

/-- A block comes before another as numbers do. -/
theorem past_word (n o : Fin 16) : IntOp.cmpi .slt (BitVec.ofNat 32 n.val) (BitVec.ofNat 32 o.val) = BitVec.ofBool (decide (n < o)) := by
  revert n o; decide

/-- Two blocks are the same as numbers are. -/
theorem own_word (n o : Fin 16) : IntOp.cmpi .eq (BitVec.ofNat 32 n.val) (BitVec.ofNat 32 o.val) = BitVec.ofBool (decide (n = o)) := by
  revert n o; decide

open Classical in
/-- A column keeps its own block and, of the past ones, those of the three least ranks. -/
theorem keep_apply (h : Fin 16 → EReal) (own : IVec S16x4096 32) (g : FVec Ideal S16x4096 .f32) (c : Fin 4096) (o : Fin 16)
    (ho : ∀ j, own (ix2 j c) = BitVec.ofNat 32 o.val) (hg : ∀ j, g (ix2 j c) = h j) (hn : ∀ j, j < o → h j ≠ ⊥) (n : Fin 16) :
    keep (F := Ideal) rows16 own g (ix2 n c) = BitVec.ofBool (decide ((rank h n < 3 ∧ n < o) ∨ n = o)) := by
  have h0 : ∀ j, g (ix2 j c) = left h 0 j := fun j => by rw [hg]; exact (if_neg (Nat.not_lt_zero _)).symm
  have h1 := drop_apply h 0 g c h0
  have h2 := drop_apply h 1 (drop (sitofp .f32 rows16) g) c h1
  have p0 := pick_apply _ _ c h0 n
  have p1 := pick_apply _ _ c h1 n
  have p2 := pick_apply _ _ c h2 n
  have hr : rows16 (ix2 n c) = BitVec.ofNat 32 n.val := by unfold rows16; pointwise
  have hlt : IntOp.cmpi .slt (BitVec.ofNat 32 n.val) (BitVec.ofNat 32 o.val) = BitVec.ofBool (decide (n < o)) := past_word n o
  have heq : IntOp.cmpi .eq (BitVec.ofNat 32 n.val) (BitVec.ofNat 32 o.val) = BitVec.ofBool (decide (n = o)) := own_word n o
  show IntOp.ori (IntOp.andi (IntOp.ori (IntOp.ori (IntOp.ori 0#1 (pick (F := Ideal) (sitofp .f32 rows16) g (ix2 n c)))
    (pick (F := Ideal) (sitofp .f32 rows16) (drop (sitofp .f32 rows16) g) (ix2 n c)))
    (pick (F := Ideal) (sitofp .f32 rows16) (drop (sitofp .f32 rows16) (drop (sitofp .f32 rows16) g)) (ix2 n c)))
    (IntOp.cmpi .slt (rows16 (ix2 n c)) (own (ix2 n c)))) (IntOp.cmpi .eq (rows16 (ix2 n c)) (own (ix2 n c))) = _
  rw [p0, p1, p2, hr, ho, hlt, heq]
  have join : ∀ a b d l e : Bool, IntOp.ori (IntOp.andi (IntOp.ori (IntOp.ori (IntOp.ori 0#1 (BitVec.ofBool a)) (BitVec.ofBool b)) (BitVec.ofBool d)) (BitVec.ofBool l))
      (BitVec.ofBool e) = BitVec.ofBool (((a || b || d) && l) || e) := by decide
  rw [join]
  refine congrArg BitVec.ofBool ?_
  by_cases e : n < o
  · rw [Bool.eq_iff_iff]
    simp only [← picked_iff (hn n e), Bool.or_eq_true, Bool.and_eq_true, decide_eq_true_eq, or_assoc]
  · simp [e]

/-- The mean of a block's keys, a lane at a time. -/
def meanRow (x : Vec F S1x256x128 .f32) : FVec F S1x128 .f32 :=
  shapeCast S1x128 (mulf (shapeCast S1x128 (multiReduction .add [0] S128 (shapeCast S256x128 x shapeCasts_S1x256x128_S256x128) 0x00000000#32 reduces_S256x128_S128 (.inl rfl) rfl) shapeCasts_S128_S1x128)
    (broadcast S1x128 (Scalar.ofBits .f32 0x3B800000#32))) shapeCasts_S1x128_S1x128

/-- A block of keys lies inside the prompt's. -/
theorem inKeys (j : ℕ) (hj : j < 16) : ∀ a, (![0, 256 * j, 0] : Fin 3 → ℕ) a + S1x256x128.size a ≤ S1x4096x128.size a := by
  intro a; fin_cases a
  · show 0 + 1 ≤ 1; omega
  · show 256 * j + 256 ≤ 4096; omega
  · show 0 + 128 ≤ 128; omega

/-- A row lies inside the block of means. -/
theorem inMeans (j : ℕ) (hj : j < 16) : ∀ a, (![j, 0] : Fin 2 → ℕ) a + S1x128.size a ≤ S16x128.size a := by
  intro a; fin_cases a
  · show j + 1 ≤ 16; omega
  · show 0 + 128 ≤ 128; omega

/-- A head's rows lie inside the output's block. -/
theorem inOut (k : ℕ) (hk : k < 2) : ∀ a, (![0, 0, 16 * k, 0] : Fin 4 → ℕ) a + S1x1x16x4096.size a ≤ S1x1x32x4096.size a := by
  intro a; fin_cases a
  · show 0 + 1 ≤ 1; omega
  · show 0 + 1 ≤ 1; omega
  · show 16 * k + 16 ≤ 32; omega
  · show 0 + 4096 ≤ 4096; omega

/-- A block of keys. -/
def keyBox (j : ℕ) (hj : j < 16) : Rect S1x4096x128 := Rect.unit ![0, 256 * j, 0] S1x256x128.size (inKeys j hj)

/-- The rows of means that the scratch is written with, the last first. -/
theorem scratch_eq (c : Dev nD) (arg3 : Memref sig .tc .vmem S1x4096x128 .f32) (harg3 : arg3.IsWhole) (x1 : Vec F S1x4096x128 .f32) :
    kernelRun0_A.sl.HS0_16 c arg3 harg3 x1 = List.ofFn fun k : Fin 16 =>
      (⟨Rect.unit ![15 - k.val, 0] S1x128.size (inMeans _ (by omega)),
        meanRow (View.readAt (Elt F) arg3.view (keyBox (15 - k.val) (by omega)).toLoadRect (harg3.unread x1))⟩ :
        View.Piece (Elt F) S16x128 .f32) := by
  sl_kernel_rfl

/-- The pieces of the output, the last head first. -/
theorem out_eq (c : Dev nD) (i : grid0.Coords) (arg2 : Memref sig .tc .vmem S1x128x4096 .f32) (harg2 : arg2.IsWhole) (arg3 : Memref sig .tc .vmem S1x4096x128 .f32) (harg3 : arg3.IsWhole) (arg4 : Memref sig .tc .vmem S1x1x32x4096 .f32) (harg4 : arg4.IsWhole) (arg5 : Memref sig .tc .vmem S16x128 .f32) (harg5 : arg5.IsWhole)
    (x0 : Vec F S1x128x4096 .f32) (x1 : Vec F S1x4096x128 .f32) :
    (kernelRun0_A c i arg2 harg2 arg3 harg3 arg4 harg4 arg5 harg5 x0 x1).1 = List.ofFn fun k : Fin 2 =>
      (⟨Rect.unit ![0, 0, 16 * (1 - k.val), 0] S1x1x16x4096.size (inOut _ (by omega)),
        k0_pay25 (keep rows16 k0_pay22 (scores (BitVec.ofNat 32 (64 * (1 - k.val))) (BitVec.ofNat 32 (64 * (1 - k.val) + 64))
          (k0_pay2 (View.readAt (Elt F) arg2.view (Rect.unit ![0, 0, 0] S1x128x4096.size inb_S1x128x4096_S1x128x4096_0_0_0).toLoadRect (harg2.unread x0)))
          (iota .tc S1x128 32 [1] iota_S1x128_d1_w32)
          (arg5.view.readCov (kernelRun0_A.sl.HS0_16 c arg3 harg3 x1) (Rect.unit ![0, 0] S16x128.size inb_S16x128_S16x128_0_0).toLoadRect) rows16 k0_pay22))⟩ :
        View.Piece (Elt F) S1x1x32x4096 .f32) := by
  sl_kernel_rfl

/-- The lanes of a head. -/
theorem lane_word (k : Fin 2) (x : Fin 128) :
    IntOp.andi (IntOp.cmpi .sge (BitVec.ofNat 32 x.val) (BitVec.ofNat 32 (64 * k.val))) (IntOp.cmpi .slt (BitVec.ofNat 32 x.val) (BitVec.ofNat 32 (64 * k.val + 64)))
      = BitVec.ofBool (decide (x.val / 64 = k.val)) := by
  revert x k; decide

/-- A sum over the lanes of one head. -/
theorem lane_sum (k : Fin 2) (f : Fin 128 → EReal) :
    (∑ x : Fin 128, if x.val / 64 = k.val then f x else 0) = ∑ d : Fin 64, f ⟨64 * k.val + d.val, by omega⟩ := by
  rw [← (finProdFinEquiv (m := 2) (n := 64)).sum_comp, Fintype.sum_prod_type, Finset.sum_eq_single k]
  · refine Finset.sum_congr rfl fun d _ => ?_
    have e : (finProdFinEquiv (k, d) : Fin (2 * 64)) = ⟨64 * k.val + d.val, by omega⟩ := Fin.ext (Nat.add_comm _ _)
    rw [e, if_pos (by show (64 * k.val + d.val) / 64 = k.val; omega)]
  · intro b _ hb
    refine Finset.sum_eq_zero fun d _ => if_neg ?_
    intro e
    refine hb (Fin.ext ?_)
    have e' : (d.val + 64 * b.val) / 64 = k.val := e
    omega
  · exact fun h => absurd (Finset.mem_univ k) h

/-- A choice by the truth of a statement. -/
theorem select_decide (p : Prop) [Decidable p] (x y : EReal) : Scalar.select (BitVec.ofBool (decide p)) x y = if p then x else y := by
  by_cases e : p
  · rw [if_pos e, decide_eq_true e]; rfl
  · rw [if_neg e, decide_eq_false e]; rfl

/-- A lane's score on a head: the sum over the head's lanes. -/
theorem scores_apply (k : Fin 2) (q : FVec Ideal S128x4096 .f32) (means : Vec Ideal S16x128 .f32) (own : IVec S16x4096 32) (c : Fin 4096) (o : Fin 16)
    (ho : ∀ j, own (ix2 j c) = BitVec.ofNat 32 o.val) (j : Fin 16) :
    scores (F := Ideal) (BitVec.ofNat 32 (64 * k.val)) (BitVec.ofNat 32 (64 * k.val + 64)) q (iota .tc S1x128 32 [1] iota_S1x128_d1_w32) means rows16 own (ix2 j c)
      = if j < o then ∑ d : Fin 64, means (ix2 j ⟨64 * k.val + d.val, by omega⟩) * q (ix2 ⟨64 * k.val + d.val, by omega⟩ c) else ⊥ := by
  have hr : rows16 (ix2 j c) = BitVec.ofNat 32 j.val := by unfold rows16; pointwise
  unfold scores
  pointwise
  rw [hr, ho, past_word]
  simp only [lane_word]
  refine (select_decide _ _ _).trans ?_
  rw [show Ideal.ofBits .f32 4286578688#32 = ⊥ from low, ← lane_sum k fun x => means (ix2 j x) * q (ix2 x c)]
  refine congrArg (fun z => if j < o then z else ⊥) (Finset.sum_congr rfl fun x _ => select_decide _ _ _)

/-- A row of means at a lane. -/
theorem meanRow_apply (x : Vec Ideal S1x256x128 .f32) (l : Fin 128) :
    meanRow (F := Ideal) x (ix2 (0 : Fin 1) l) = (∑ t : Fin 256, x (ix3 (0 : Fin 1) t l)) * Ideal.ofBits .f32 0x3B800000#32 := by
  unfold meanRow
  pointwise

/-- A small word as an integer. -/
theorem word_int (n : ℕ) (h : n < 4096) : (BitVec.ofNat 32 n).toInt = (n : ℤ) := by
  rw [BitVec.toInt_eq_toNat_of_lt (by rw [BitVec.toNat_ofNat]; omega), BitVec.toNat_ofNat, Nat.mod_eq_of_lt (by omega)]

/-- The block of a column. -/
theorem own_apply (j : Fin 16) (c : Fin 4096) : k0_pay22 (ix2 j c) = BitVec.ofNat 32 (c.val / 256) := by
  unfold k0_pay22
  pointwise
  have hc := c.isLt
  have h1 : (BitVec.ofNat 32 c.val).toInt = (c.val : ℤ) := word_int _ (by omega)
  have h2 : (BitVec.ofNat 32 (c.val / 256)).toInt = ((c.val / 256 : ℕ) : ℤ) := word_int _ (by omega)
  apply BitVec.eq_of_toInt_eq
  rw [IntOp.shrsi, if_pos (by decide), BitVec.toInt_sshiftRight', Int.shiftRight_eq_div_pow, h1, h2]
  norm_num

/-- The values kept and refused. -/
theorem written_apply (p : IVec S16x4096 1) (j : Fin 16) (c : Fin 4096) :
    k0_pay25 (F := Ideal) p (ix4 (0 : Fin 1) (0 : Fin 1) j c) = Scalar.select (p (ix2 j c)) (Ideal.ofBits .f32 0x00000000#32) (Ideal.ofBits .f32 0xF1C9F2CA#32) := by
  unfold k0_pay25
  pointwise

/-- The columns of queries, read from the memory that holds them. -/
theorem read_queries (a : Memref sig .tc .vmem S1x128x4096 .f32) (ha : a.IsWhole) (x : Vec Ideal S1x128x4096 .f32) (l : Fin 128) (c : Fin 4096) :
    k0_pay2 (F := Ideal) (View.readAt (Elt Ideal) a.view (Rect.unit ![0, 0, 0] S1x128x4096.size inb_S1x128x4096_S1x128x4096_0_0_0).toLoadRect (ha.unread x)) (ix2 l c)
      = x (ix3 (0 : Fin 1) l c) := by
  unfold k0_pay2
  pointwise
  refine (show _ = x _ from congrFun (ha.read_unread x) _).trans (congrArg x ?_)
  funext i; apply Fin.ext
  fin_cases i
  · show 0 + 1 * 0 = 0; rfl
  · show 0 + 1 * l.val = l.val; omega
  · show 0 + 1 * c.val = c.val; omega

/-- A block of keys, read from the memory that holds the prompt's. -/
theorem read_keys (a : Memref sig .tc .vmem S1x4096x128 .f32) (ha : a.IsWhole) (x : Vec Ideal S1x4096x128 .f32) (j : ℕ) (hj : j < 16) (t : Fin 256) (l : Fin 128) :
    View.readAt (Elt Ideal) a.view (keyBox j hj).toLoadRect (ha.unread x) (ix3 (0 : Fin 1) t l)
      = x (ix3 (0 : Fin 1) (⟨256 * j + t.val, by omega⟩ : Fin 4096) l) := by
  refine (show _ = x _ from congrFun (ha.read_unread x) _).trans (congrArg x ?_)
  funext i; apply Fin.ext
  fin_cases i
  · show 0 + 1 * 0 = 0; rfl
  · show 256 * j + 1 * t.val = 256 * j + t.val; omega
  · show 0 + 1 * l.val = l.val; omega

/-- The mean of a block of keys at a lane, as the kernel takes it. -/
def meanOf (x : Vec Ideal S1x4096x128 .f32) (j : Fin 16) (l : Fin 128) : EReal :=
  (∑ t : Fin 256, x (ix3 (0 : Fin 1) (⟨256 * j.val + t.val, by omega⟩ : Fin 4096) l)) * Ideal.ofBits .f32 0x3B800000#32

/-- The scratch holds the means. -/
theorem scratch_apply (c : Dev nD) (arg3 : Memref sig .tc .vmem S1x4096x128 .f32) (harg3 : arg3.IsWhole) (x1 : Vec Ideal S1x4096x128 .f32) (j : Fin 16) (l : Fin 128) :
    View.canon (kernelRun0_A.sl.HS0_16 (F := Ideal) c arg3 harg3 x1) (ix2 j l) = meanOf x1 j l := by
  rw [scratch_eq]
  refine View.canon_ofFn_unit_eq_of_forall _ _ _ _ _ _ ?_ ?_
  · refine ⟨⟨15 - j.val, by omega⟩, fun a => ?_⟩
    fin_cases a
    · show 15 - (15 - j.val) ≤ j.val ∧ j.val < 15 - (15 - j.val) + 1
      omega
    · show 0 ≤ l.val ∧ l.val < 0 + 128
      omega
  · intro k y h
    have h0 : j.val = 15 - k.val + (y 0).val := h 0
    have h1 : l.val = 0 + (y 1).val := h 1
    change S1x128.Idx at y
    have i0 : (y 0).val < 1 := (y 0).isLt
    have ey : y = ix2 (0 : Fin 1) l := by
      funext a; apply Fin.ext
      fin_cases a
      · show (y 0).val = 0; omega
      · show (y 1).val = l.val; omega
    have hk : 15 - k.val < 16 := Nat.lt_of_le_of_lt (Nat.sub_le _ _) (by decide)
    have ej : j = ⟨15 - k.val, hk⟩ := Fin.ext (by show j.val = 15 - k.val; omega)
    rw [ey, ej]
    refine (meanRow_apply _ l).trans ?_
    exact congrArg (· * _) (Finset.sum_congr rfl fun t _ => read_keys arg3 harg3 x1 (15 - k.val) hk t l)

/-- The means, read from the scratch. -/
theorem read_means (c : Dev nD) (arg3 : Memref sig .tc .vmem S1x4096x128 .f32) (harg3 : arg3.IsWhole) (x1 : Vec Ideal S1x4096x128 .f32)
    (arg5 : Memref sig .tc .vmem S16x128 .f32) (j : Fin 16) (l : Fin 128) :
    arg5.view.readCov (kernelRun0_A.sl.HS0_16 (F := Ideal) c arg3 harg3 x1) (Rect.unit ![0, 0] S16x128.size inb_S16x128_S16x128_0_0).toLoadRect (ix2 j l)
      = meanOf x1 j l := by
  rw [View.readCov_eq_canon', ← scratch_apply c arg3 harg3 x1 j l]
  refine congrArg (View.canon _) ?_
  funext i; apply Fin.ext
  fin_cases i
  · show 0 + 1 * j.val = j.val; omega
  · show 0 + 1 * l.val = l.val; omega

/-- The score of a block for a column of a head; a block not past has none. -/
def score (x0 : Vec Ideal S1x128x4096 .f32) (x1 : Vec Ideal S1x4096x128 .f32) (k : Fin 2) (c : Fin 4096) (j : Fin 16) : EReal :=
  if j.val < c.val / 256 then ∑ d : Fin 64, meanOf x1 j ⟨64 * k.val + d.val, by omega⟩ * x0 (ix3 (0 : Fin 1) (⟨64 * k.val + d.val, by omega⟩ : Fin 128) c) else ⊥

open Classical in
/-- The output's block: zero at the blocks a column reads, the large negative number at the others. -/
theorem out_block (c : Dev nD) (i : grid0.Coords) (arg2 : Memref sig .tc .vmem S1x128x4096 .f32) (harg2 : arg2.IsWhole) (arg3 : Memref sig .tc .vmem S1x4096x128 .f32) (harg3 : arg3.IsWhole) (arg4 : Memref sig .tc .vmem S1x1x32x4096 .f32) (harg4 : arg4.IsWhole) (arg5 : Memref sig .tc .vmem S16x128 .f32) (harg5 : arg5.IsWhole)
    (x0 : Vec Ideal S1x128x4096 .f32) (x1 : Vec Ideal S1x4096x128 .f32) (k : Fin 2) (n : Fin 16) (p : Fin 4096)
    (hn : ∀ j : Fin 16, j.val < p.val / 256 → score x0 x1 k p j ≠ ⊥) :
    out0_A_2 (F := Ideal) c i arg2 harg2 arg3 harg3 arg4 harg4 arg5 harg5 x0 x1 (ix4 (0 : Fin 1) (0 : Fin 1) (⟨16 * k.val + n.val, by omega⟩ : Fin 32) p)
      = if (rank (score x0 x1 k p) n < 3 ∧ n.val < p.val / 256) ∨ n.val = p.val / 256 then Ideal.ofBits .f32 0x00000000#32 else Ideal.ofBits .f32 0xF1C9F2CA#32 := by
  unfold out0_A_2
  rw [View.read_writes_junk_eq_canon, out_eq]
  refine View.canon_ofFn_unit_eq_of_forall _ _ _ _ _ _ ?_ ?_
  · refine ⟨⟨1 - k.val, by omega⟩, fun a => ?_⟩
    fin_cases a
    · show 0 ≤ 0 ∧ 0 < 0 + 1
      omega
    · show 0 ≤ 0 ∧ 0 < 0 + 1
      omega
    · show 16 * (1 - (1 - k.val)) ≤ 16 * k.val + n.val ∧ 16 * k.val + n.val < 16 * (1 - (1 - k.val)) + 16
      omega
    · show 0 ≤ p.val ∧ p.val < 0 + 4096
      omega
  · intro w y h
    have h2 : 16 * k.val + n.val = 16 * (1 - w.val) + (y 2).val := h 2
    have h3 : p.val = 0 + (y 3).val := h 3
    change S1x1x16x4096.Idx at y
    have i0 : (y 0).val < 1 := (y 0).isLt
    have i1 : (y 1).val < 1 := (y 1).isLt
    have i2 : (y 2).val < 16 := (y 2).isLt
    have ey : y = ix4 (0 : Fin 1) (0 : Fin 1) n p := by
      funext a; apply Fin.ext
      fin_cases a
      · show (y 0).val = 0; omega
      · show (y 1).val = 0; omega
      · show (y 2).val = n.val; omega
      · show (y 3).val = p.val; omega
    have ek : 1 - w.val = k.val := by omega
    have hp : p.val / 256 < 16 := by omega
    have ho : ∀ j : Fin 16, k0_pay22 (ix2 j p) = BitVec.ofNat 32 (⟨p.val / 256, hp⟩ : Fin 16).val := fun j => own_apply j p
    rw [ey]
    refine (written_apply _ n p).trans ?_
    rw [keep_apply (score x0 x1 k p) k0_pay22 _ p ⟨p.val / 256, hp⟩ ho ?_ (fun j hj => hn j hj) n]
    · refine (select_decide _ _ _).trans (if_congr ?_ rfl rfl)
      rw [Fin.lt_def, Fin.ext_iff]
    · intro j
      rw [ek]
      refine (scores_apply k _ _ k0_pay22 p ⟨p.val / 256, hp⟩ ho j).trans (if_congr Iff.rfl (Finset.sum_congr rfl fun d _ => ?_) rfl)
      exact congrArg₂ (· * ·) (read_means c arg3 harg3 x1 arg5 j _) (read_queries arg2 harg2 x0 _ p)

end Cert.RoutingBlock

end
-- ==== Proof.RoutingReference.lean ====
/- The routing of the prompts' tokens to blocks of keys: the value of the reference. -/
module

public import proofs.«01_k».proof.Proof.RoutingBlock
public import proofs.«01_k».proof.Proof.Gen.Reference6Ideal.Read
public import Idealize.ShloMosaic.Lib.Pointwise

@[expose] public section

set_option maxRecDepth 16384

noncomputable section

namespace Cert.RoutingReference

open Idealize.ShloMosaic Idealize.ShloMosaic.TcCoe Idealize.SL.Sem Idealize.ShloMosaic.StableHlo
open Cert.Reference6Ideal Cert.Reference6Ideal.Gen Cert.Reference6Ideal.Read
open Cert.RoutingRounds Cert.RoutingBlock

variable (x0 : FVec Ideal S4x512x4096 .f32) (x1 : FVec Ideal S4x4096x512 .f32)

/-- The queries of a head. -/
theorem val2 (b : Fin 4) (h : Fin 8) (c : Fin 4096) (d : Fin 64) :
    val_main_v2 (F := Ideal) x0 (ix4 b h c d) = x0 (ix3 b (⟨h.val * 64 + d.val, by omega⟩ : Fin 512) c) := by
  unfold val_main_v2 val_main_v1 val_main_v0
  pointwise

/-- The mean of a block of a head's keys. -/
theorem val7 (b : Fin 4) (h : Fin 8) (n : Fin 16) (d : Fin 64) :
    val_main_v7 (F := Ideal) x1 (ix4 b h n d)
      = Ideal.div (∑ t : Fin 256, x1 (ix3 b (⟨n.val * 256 + t.val, by omega⟩ : Fin 4096) (⟨h.val * 64 + d.val, by omega⟩ : Fin 512))) (Ideal.ofBits .f32 0x43800000#32) := by
  unfold val_main_v7 val_main_v6 val_main_cst_0 val_main_v5 val_main_cst val_main_v4 val_main_v3
  pointwise

/-- The quotient by 256, rounded down, as a word. -/
theorem floor_word : ∀ c : Fin 4096,
    Scalar.select (IntOp.andi (IntOp.cmpi .ne (if BitVec.ofNat 32 c.val = 0 then 0 else if (BitVec.ofNat 32 c.val).msb then -1 else 1)
        (if (256#32) = 0 then 0 else if (256#32).msb then -1 else (1 : BitVec 32)))
      (IntOp.cmpi .ne (IntOp.remsi .host (BitVec.ofNat 32 c.val) 256#32) 0#32))
      (IntOp.subi (IntOp.divsi .host (BitVec.ofNat 32 c.val) 256#32) 1#32) (IntOp.divsi .host (BitVec.ofNat 32 c.val) 256#32)
      = BitVec.ofNat 32 (c.val / 256) := by
  decide +kernel

/-- The block of a column. -/
theorem val9 (c : Fin 4096) : val_main_v9 (F := Ideal) (ix1 c) = BitVec.ofNat 32 (c.val / 256) := by
  have h2 : val_main_call0_v2 (F := Ideal) (ix1 c) = IntOp.divsi .host (BitVec.ofNat 32 c.val) 256#32 := by
    unfold val_main_call0_v2 val_main_call0_v1 val_main_v8 val_main_call0_v0 val_main_c
    pointwise
    rfl
  rw [← floor_word c, ← h2]
  unfold val_main_v9 val_main_call0_v11 val_main_call0_v10 val_main_call0_v6 val_main_call0_v8 val_main_call0_v13 val_main_call0_v12 val_main_call0_v9 val_main_call0_v7 val_main_call0_v5 val_main_call0_v4 val_main_call0_v3 val_main_call0_v0 val_main_c val_main_v8 val_main_call0_c val_main_call0_c_0
  pointwise
  rfl

/-- The scores on the past blocks. -/
theorem val17 (b : Fin 4) (h : Fin 8) (c : Fin 4096) (n : Fin 16) :
    val_main_v17 (F := Ideal) x0 x1 (ix4 b h c n) = if n.val < c.val / 256 then ∑ d : Fin 64, val_main_v2 (F := Ideal) x0 (ix4 b h c d) * val_main_v7 (F := Ideal) x1 (ix4 b h n d) else ⊥ := by
  unfold val_main_v17 val_main_call1_v1 val_main_call1_v2 val_main_call1_v0 val_main_cst_1 val_main_v16 val_main_v15 val_main_v14 val_main_v13 val_main_v12 val_main_v10 val_main_v11
  pointwise
  have hc : c.val / 256 < 16 := by omega
  rw [val9, past_word n ⟨c.val / 256, hc⟩]
  refine (select_decide _ _ _).trans (if_congr Iff.rfl rfl low)

/-- The sort puts before a score the greater ones. -/
def greater (g : Fin 16 → EReal) (j n : Fin 16) : Bool := FloatOps.cmpfTotal (F := Ideal) (φ := .f32) .gt (g j) (g n) == 1#1

/-- The sort's order on scores. -/
theorem greater_iff (g : Fin 16 → EReal) (j n : Fin 16) : greater g j n = true ↔ g n < g j := by
  unfold greater
  show (BitVec.ofBool (decide (g n < g j)) == 1#1) = true ↔ _
  by_cases e : g n < g j <;> simp [e]

/-- An index with its last part replaced. -/
theorem along_last (b : Fin 4) (h : Fin 8) (c : Fin 4096) (k n : Fin 16) :
    Shape.Idx.along (s := S4x8x4096x16) (ix4 b h c k) 3 n = ix4 b h c n := by
  funext a
  unfold Shape.Idx.along
  fin_cases a <;> simp [Function.update] <;> rfl

/-- The sort of the scores of a column, and what it carries along. -/
theorem sorted_apply (y : FVec Ideal S4x8x4096x16 .f32) (z : IVec S4x8x4096x16 32) (b : Fin 4) (h : Fin 8) (c : Fin 4096) (k : Fin 16) :
    (Host.sort2 S4x8x4096x16 3 (fun l r => FloatOps.cmpfTotal (F := Ideal) (φ := .f32) .gt l.1 r.1) y z).1 (ix4 b h c k)
        = y (ix4 b h c (sortedFrom (greater fun n => y (ix4 b h c n)) k))
      ∧ (Host.sort2 S4x8x4096x16 3 (fun l r => FloatOps.cmpfTotal (F := Ideal) (φ := .f32) .gt l.1 r.1) y z).2 (ix4 b h c k)
        = z (ix4 b h c (sortedFrom (greater fun n => y (ix4 b h c n)) k)) := by
  have hR : (fun j n : Fin 16 => FloatOps.cmpfTotal (F := Ideal) (φ := .f32) .gt (y (Shape.Idx.along (s := S4x8x4096x16) (ix4 b h c k) 3 j))
      (y (Shape.Idx.along (s := S4x8x4096x16) (ix4 b h c k) 3 n)) == 1#1) = greater fun n => y (ix4 b h c n) := by
    funext j n
    rw [along_last, along_last]; rfl
  rw [← along_last b h c k (sortedFrom _ k), ← hR]
  unfold Host.sort2
  rw [dif_pos (by decide)]
  exact ⟨rfl, rfl⟩

/-- The scores that the sort puts first. -/
theorem values_apply (b : Fin 4) (h : Fin 8) (c : Fin 4096) (k : Fin 3) :
    val_main_values (F := Ideal) x0 x1 (ix4 b h c k)
      = val_main_v17 (F := Ideal) x0 x1 (ix4 b h c (sortedFrom (greater fun n => val_main_v17 (F := Ideal) x0 x1 (ix4 b h c n)) ⟨k.val, by omega⟩)) := by
  unfold val_main_values
  generalize val_main_v17 (F := Ideal) x0 x1 = y
  unfold Host.topK
  pointwise
  exact (sorted_apply y _ b h c ⟨k.val, by omega⟩).1

/-- The number of a block, at an index. -/
theorem number_apply (b : Fin 4) (h : Fin 8) (c : Fin 4096) (n : Fin 16) :
    (fun i : S4x8x4096x16.Idx => BitVec.ofNat 32 (i 3).val) (ix4 b h c n) = BitVec.ofNat 32 n.val := rfl

/-- The blocks that the sort puts first. -/
theorem indices_apply (b : Fin 4) (h : Fin 8) (c : Fin 4096) (k : Fin 3) :
    val_main_indices (F := Ideal) x0 x1 (ix4 b h c k)
      = BitVec.ofNat 32 (sortedFrom (greater fun n => val_main_v17 (F := Ideal) x0 x1 (ix4 b h c n)) ⟨k.val, by omega⟩).val := by
  unfold val_main_indices
  generalize val_main_v17 (F := Ideal) x0 x1 = y
  unfold Host.topK
  pointwise
  exact (sorted_apply y _ b h c ⟨k.val, by omega⟩).2.trans (number_apply b h c _)

/-- Whether one of three words holds. -/
theorem any_word (p : Fin 3 → Prop) [DecidablePred p] :
    Finset.fold IntOp.ori (0#1) (fun k => BitVec.ofBool (decide (p k))) Finset.univ = BitVec.ofBool (decide (∃ k, p k)) := by
  rw [show Finset.fold IntOp.ori (0#1) (fun k => BitVec.ofBool (decide (p k))) Finset.univ
    = IntOp.ori (BitVec.ofBool (decide (p 0))) (IntOp.ori (BitVec.ofBool (decide (p 1))) (IntOp.ori (BitVec.ofBool (decide (p 2))) 0#1)) from rfl]
  by_cases h0 : p 0 <;> by_cases h1 : p 1 <;> by_cases h2 : p 2 <;> simp [Fin.exists_fin_succ, h0, h1, h2, IntOp.ori]

/-- Whether both of two words hold. -/
theorem both_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Whether one of two words holds. -/
theorem either_word (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

open Classical in
/-- The blocks chosen: those of the three greatest scores, where the score is finite. -/
theorem val29 (b : Fin 4) (h : Fin 8) (c : Fin 4096) (n : Fin 16) (g : Fin 16 → EReal) (hg : ∀ j, val_main_v17 (F := Ideal) x0 x1 (ix4 b h c j) = g j) :
    val_main_v29 (F := Ideal) x0 x1 (ix4 b h c n) = BitVec.ofBool (decide (rank g n < 3 ∧ FloatOps.absf (F := Ideal) (φ := .f32) (g n) < (⊤ : EReal))) := by
  have eg : (fun n => val_main_v17 (F := Ideal) x0 x1 (ix4 b h c n)) = g := funext hg
  have hk : ∀ k : Fin 3, IntOp.andi (IntOp.cmpi .eq (val_main_indices (F := Ideal) x0 x1 (ix4 b h c k)) (BitVec.ofNat 32 n.val))
        (BitVec.ofBool (decide (FloatOps.absf (F := Ideal) (φ := .f32) (val_main_values (F := Ideal) x0 x1 (ix4 b h c k)) < Ideal.ofBits .f32 2139095040#32)))
      = BitVec.ofBool (decide (sortedFrom (greater g) ⟨k.val, by omega⟩ = n ∧ FloatOps.absf (F := Ideal) (φ := .f32) (g (sortedFrom (greater g) ⟨k.val, by omega⟩)) < (⊤ : EReal))) := by
    intro k
    rw [values_apply, indices_apply, eg, hg, own_word, both_word, show Ideal.ofBits .f32 2139095040#32 = ⊤ from high]
  unfold val_main_v29 val_main_v28 val_main_v27 val_main_v26 val_main_v25 val_main_v24 val_main_v23 val_main_v22 val_main_v21 val_main_v20 val_main_v19 val_main_v18 val_main_cst_2 val_main_c_3 val_main_v10
  pointwise
  refine (Finset.fold_congr fun k _ => hk k).trans ((any_word _).trans ?_)
  refine congrArg BitVec.ofBool (decide_eq_decide.2 ?_)
  rw [← sorted_iff g (greater g) (greater_iff g) n]
  constructor
  · rintro ⟨k, rfl, hf⟩
    exact ⟨⟨⟨k.val, by omega⟩, k.isLt, rfl⟩, hf⟩
  · rintro ⟨⟨k, hk3, rfl⟩, hf⟩
    exact ⟨⟨k.val, hk3⟩, rfl, hf⟩

/-- The reference's result. -/
theorem val40 (b : Fin 4) (g : Fin 4) (k : Fin 2) (n : Fin 16) (c : Fin 4096) :
    val_main_v40 (F := Ideal) x0 x1 (ix4 b g (⟨16 * k.val + n.val, by omega⟩ : Fin 32) c)
      = Scalar.select (IntOp.ori (val_main_v29 (F := Ideal) x0 x1 (ix4 b (⟨2 * g.val + k.val, by omega⟩ : Fin 8) c n)) (IntOp.cmpi .eq (BitVec.ofNat 32 n.val) (val_main_v9 (F := Ideal) (ix1 c))))
         (Ideal.ofBits .f32 0x00000000#32) (Ideal.ofBits .f32 0xF1C9F2CA#32) := by
  unfold val_main_v40 val_main_v39 val_main_v38 val_main_call2_v0 val_main_call2_v1 val_main_cst_4 val_main_cst_5 val_main_v37 val_main_v36 val_main_v35 val_main_v34 val_main_v33 val_main_v32 val_main_v31 val_main_v30 val_main_v10
  pointwise
  rw [show (⟨g.val * 2 + (16 * k.val + n.val) / 16, by omega⟩ : Fin 8) = ⟨2 * g.val + k.val, by omega⟩ from Fin.ext (by show g.val * 2 + (16 * k.val + n.val) / 16 = 2 * g.val + k.val; omega)]

end Cert.RoutingReference

end
-- ==== Proof.Routing.lean ====
/- The routing of the prompts' tokens to blocks of keys: the program computes the layer's mathematics. -/
module

public import proofs.«01_k».proof.Defs
public import proofs.«01_k».proof.Proof.RoutingBlock
public import proofs.«01_k».proof.Proof.RoutingReference
public import proofs.«01_k».proof.Proof.Gen.Kernel6Ideal.Value
public import proofs.«01_k».proof.Proof.Gen.Reference6Ideal.Run
public import proofs.«01_k».proof.Proof.Gen.Pre_finite

@[expose] public section

set_option maxRecDepth 16384

noncomputable section

namespace Cert.Routing

open Idealize.ShloMosaic Idealize.ShloMosaic.TcCoe Idealize.SL.Sem
open Cert.RoutingRounds Cert.RoutingBlock

/-- A real number among the extended reals. -/
def IsReal (x : EReal) : Prop := ∃ r : ℝ, x = (r : EReal)

/-- A product of real numbers is one. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers is one. -/
theorem isReal_sum {n : ℕ} {f : Fin n → EReal} (h : ∀ k, IsReal (f k)) : IsReal (∑ k, f k) :=
  Finset.sum_induction f IsReal (fun _ _ ⟨a, ha⟩ ⟨b, hb⟩ => ⟨a + b, by rw [ha, hb, EReal.coe_add]⟩) ⟨0, rfl⟩ fun k _ => h k

/-- The size of a real number is below infinity; that of minus infinity is not. -/
theorem size_lt (x : EReal) : FloatOps.absf (F := Ideal) (φ := .f32) x < (⊤ : EReal) ↔ IsReal x := by
  show max x (-x) < ⊤ ↔ _
  induction x with
  | bot => simp [IsReal]
  | top => simp [IsReal]
  | coe a =>
    refine ⟨fun _ => ⟨a, rfl⟩, fun _ => max_lt (EReal.coe_lt_top a) ?_⟩
    rw [← EReal.coe_neg]; exact EReal.coe_lt_top _

/-- The word of a two hundred and fifty-sixth. -/
theorem inverse : Ideal.ofBits .f32 0x3B800000#32 = ((1 / 256 : ℝ) : EReal) := by
  show Ideal.ofBits .f32 998244352#32 = _; simp [Ideal.ofBits, Ideal.ieee]; rw [← EReal.coe_mul]; norm_num

/-- The word of two hundred and fifty-six. -/
theorem length : Ideal.ofBits .f32 0x43800000#32 = ((256 : ℝ) : EReal) := by
  show Ideal.ofBits .f32 1132462080#32 = _; simp [Ideal.ofBits, Ideal.ieee]; rw [← EReal.coe_mul]; norm_num

/-- Every entry of the queries is a real number, -/
def RealQueries (a : FVec Ideal Pre_finite.S4x512x4096 .f32) : Prop := ∀ i, IsReal (a i)
/-- and every entry of the keys. -/
def RealKeys (a : FVec Ideal Pre_finite.S4x4096x512 .f32) : Prop := ∀ i, IsReal (a i)

/-- Where `finite` holds the queries and the keys are real numbers. -/
theorem real_of_finite (a0 : FVec Ideal Pre_finite.S4x512x4096 .f32) (a1 : FVec Ideal Pre_finite.S4x4096x512 .f32)
    (h : Pre_finite.fn (F := Ideal) a0 a1 = fun _ => 1#1) : RealQueries a0 ∧ RealKeys a1 := by
  have hv : ∀ (b : Fin 4) (l : Fin 512) (t : Fin 4096), IsReal (a0 (ix3 b l t)) ∧ IsReal (a1 (ix3 b t l)) := by
    intro b l t
    have hi := congrFun h (ix3 b l t)
    have hv : Pre_finite.fn (F := Ideal) a0 a1 (ix3 b l t) = IntOp.andi
        (BitVec.ofBool (decide (FloatOps.absf (F := Ideal) (φ := .f32) (a0 (ix3 b l t)) < Ideal.ofBits .f32 0x7F800000#32)))
        (BitVec.ofBool (decide (FloatOps.absf (F := Ideal) (φ := .f32) (a1 (ix3 b t l)) < Ideal.ofBits .f32 0x7F800000#32))) := by
      pointwise [Pre_finite.fn]
    rw [hv, RoutingReference.both_word, high] at hi
    by_contra hc
    rw [decide_eq_false fun e => hc ⟨(size_lt _).1 e.1, (size_lt _).1 e.2⟩] at hi
    exact absurd hi (by decide)
  constructor
  · intro i
    idx_vars i
    exact (hv i0 i1 i2).1
  · intro i
    idx_vars i
    exact (hv i0 i2 i1).2

section
open Cert.Kernel6Ideal Cert.Kernel6Ideal.Gen Cert.Reference6Ideal.Read

variable (m : (ℓ : Loc nD τ sig) → Buf (Elt Ideal) ℓ)

/-- The blocks of the step `t`: the prompt `t / 4`, the pair of heads `t % 4`. -/
theorem idx : ∀ t : Fin cfg0.N, win0_0.index t = ![t.val / 4, t.val % 4, 0] ∧ win0_1.index t = ![t.val / 4, 0, t.val % 4]
    ∧ win0_2.index t = ![t.val / 4, t.val % 4, 0, 0] := by
  decide +kernel

/-- A block of the queries. -/
theorem read_q (t : Fin cfg0.N) (l : Fin 128) (p : Fin 4096) (h0 : t.val / 4 < 4) (h1 : t.val % 4 * 128 + l.val < 512) (c : Dev nD) :
    iblk m c 0 t (ix3 (0 : Fin 1) l p) = m (c.tc.loc main_arg0) (ix3 (⟨t.val / 4, h0⟩ : Fin 4) (⟨t.val % 4 * 128 + l.val, h1⟩ : Fin 512) p) := by
  have ht : t.val < 16 := t.isLt
  blk_ext! [iblk, V, idx t]

/-- A block of the keys. -/
theorem read_k (t : Fin cfg0.N) (p : Fin 4096) (l : Fin 128) (h0 : t.val / 4 < 4) (h1 : t.val % 4 * 128 + l.val < 512) (c : Dev nD) :
    iblk m c 1 t (ix3 (0 : Fin 1) p l) = m (c.tc.loc main_arg1) (ix3 (⟨t.val / 4, h0⟩ : Fin 4) p (⟨t.val % 4 * 128 + l.val, h1⟩ : Fin 512)) := by
  have ht : t.val < 16 := t.isLt
  blk_ext! [iblk, V, idx t]

/-- A mean as the kernel takes it is the reference's. -/
theorem mean_eq (t : Fin cfg0.N) (j : Fin 16) (k : Fin 2) (d : Fin 64) (h0 : t.val / 4 < 4) (h1 : 2 * (t.val % 4) + k.val < 8) (c : Dev nD) :
    meanOf (iblk m c 1 t) j ⟨64 * k.val + d.val, by omega⟩
      = val_main_v7 (F := Ideal) (m (c.tc.loc main_arg1)) (ix4 (⟨t.val / 4, h0⟩ : Fin 4) (⟨2 * (t.val % 4) + k.val, h1⟩ : Fin 8) j d) := by
  have ht : t.val < 16 := t.isLt
  rw [RoutingReference.val7, length, Ideal.div_coe (by norm_num)]
  unfold meanOf
  rw [inverse]
  refine congrArg (· * _) (Finset.sum_congr rfl fun s _ => ?_)
  rw [read_k m t _ _ h0 (by show t.val % 4 * 128 + (64 * k.val + d.val) < 512; omega) c]
  refine congrArg (m (c.tc.loc main_arg1)) ?_
  funext a; apply Fin.ext
  fin_cases a
  · rfl
  · show 256 * j.val + s.val = j.val * 256 + s.val; omega
  · show t.val % 4 * 128 + (64 * k.val + d.val) = (2 * (t.val % 4) + k.val) * 64 + d.val; omega

/-- The scores are the reference's. -/
theorem score_eq (t : Fin cfg0.N) (k : Fin 2) (p : Fin 4096) (j : Fin 16) (h0 : t.val / 4 < 4) (h1 : 2 * (t.val % 4) + k.val < 8) (c : Dev nD) :
    score (iblk m c 0 t) (iblk m c 1 t) k p j
      = val_main_v17 (F := Ideal) (m (c.tc.loc main_arg0)) (m (c.tc.loc main_arg1)) (ix4 (⟨t.val / 4, h0⟩ : Fin 4) (⟨2 * (t.val % 4) + k.val, h1⟩ : Fin 8) p j) := by
  have ht : t.val < 16 := t.isLt
  rw [RoutingReference.val17]
  unfold score
  refine if_congr Iff.rfl (Finset.sum_congr rfl fun d _ => ?_) rfl
  rw [mean_eq m t j k d h0 h1 c, mul_comm, RoutingReference.val2, read_q m t _ _ h0 (by show t.val % 4 * 128 + (64 * k.val + d.val) < 512; omega) c]
  refine congrArg (fun x : EReal => x * (_ : EReal)) (congrArg (m (c.tc.loc main_arg0)) ?_)
  funext a; apply Fin.ext
  fin_cases a
  · rfl
  · show t.val % 4 * 128 + (64 * k.val + d.val) = (2 * (t.val % 4) + k.val) * 64 + d.val; omega
  · rfl

/-- A past block's score is a real number. -/
theorem score_real (c : Dev nD) (hq : RealQueries (m (c.tc.loc main_arg0))) (hk : RealKeys (m (c.tc.loc main_arg1))) (t : Fin cfg0.N) (k : Fin 2) (p : Fin 4096) (j : Fin 16)
    (hj : j.val < p.val / 256) : IsReal (score (iblk m c 0 t) (iblk m c 1 t) k p j) := by
  have ht : t.val < 16 := t.isLt
  unfold score
  rw [if_pos hj]
  refine isReal_sum fun d => isReal_mul ?_ ?_
  · unfold meanOf
    rw [inverse]
    refine isReal_mul (isReal_sum fun s => ?_) ⟨_, rfl⟩
    rw [read_k m t _ _ (by omega) (by show t.val % 4 * 128 + (64 * k.val + d.val) < 512; omega) c]
    exact hk _
  · rw [read_q m t _ _ (by omega) (by show t.val % 4 * 128 + (64 * k.val + d.val) < 512; omega) c]
    exact hq _

/-- The routing's array is the reference's. -/
theorem routed (c : Dev nD) (hq : RealQueries (m (c.tc.loc main_arg0))) (hk : RealKeys (m (c.tc.loc main_arg1))) (i : S4x4x32x4096.Idx) :
    (dats m 0 c).arrAt 2 cfg0.N i = val_main_v40 (F := Ideal) (m (c.tc.loc main_arg0)) (m (c.tc.loc main_arg1)) i := by
  refine (dats m 0 c).arrAt_forall_of_covers 2 (fun (i : S4x4x32x4096.Idx) v => v
    = val_main_v40 (F := Ideal) (m (c.tc.loc main_arg0)) (m (c.tc.loc main_arg1)) i) (by decide +kernel) (fun t hf y => ?_) i
  blk_simp
  rw [after0_2]
  unfold outsAt0
  change S1x1x32x4096.Idx at y
  idx_vars y
  have ht : t.val < 16 := t.isLt
  have h0 : t.val / 4 < 4 := by omega
  have h1 : t.val % 4 < 4 := by omega
  have he : ((View.whole main_v0).slice (win0_2.rect t)).emb (ix4 y0 y1 y2 y3)
      = (ix4 ⟨t.val / 4, h0⟩ ⟨t.val % 4, h1⟩ y2 y3 : S4x4x32x4096.Idx) := by
    blk_ext [idx t]
  rw [he]
  obtain rfl : y0 = (0 : Fin 1) := Fin.fin_one_eq_zero y0
  obtain rfl : y1 = (0 : Fin 1) := Fin.fin_one_eq_zero y1
  obtain ⟨k, n, rfl⟩ : ∃ (k : Fin 2) (n : Fin 16), (⟨16 * k.val + n.val, by omega⟩ : Fin 32) = y2 :=
    ⟨⟨y2.val / 16, by omega⟩, ⟨y2.val % 16, by omega⟩, Fin.ext (by show 16 * (y2.val / 16) + y2.val % 16 = y2.val; omega)⟩
  have h2 : 2 * (t.val % 4) + k.val < 8 := by omega
  have hn : y3.val / 256 < 16 := by omega
  have hr := score_real m c hq hk t k y3
  have hv := RoutingReference.val40 (m (c.tc.loc main_arg0)) (m (c.tc.loc main_arg1)) ⟨t.val / 4, h0⟩ ⟨t.val % 4, h1⟩ k n y3
  rw [RoutingReference.val29 _ _ ⟨t.val / 4, h0⟩ ⟨2 * (t.val % 4) + k.val, h2⟩ y3 n _ (fun j => (score_eq m t k y3 j h0 h2 c).symm),
    RoutingReference.val9, own_word n ⟨y3.val / 256, hn⟩, RoutingReference.either_word] at hv
  have ho := out_block c (grid0.coords t) (ms0_0 t) (hs0_0 t) (ms0_1 t) (hs0_1 t) (ms0_2 t) (hs0_2 t) scM0_0 (Memref.isWhole_whole _) (iblk m c 0 t) (iblk m c 1 t) k n y3
    (fun j hj => by obtain ⟨r, e⟩ := hr j hj; rw [e]; exact EReal.coe_ne_bot r)
  refine ho.trans (Eq.trans ?_ (hv.trans (select_decide _ _ _)).symm)
  refine if_congr (or_congr (and_congr_right fun _ => ?_) (by rw [Fin.ext_iff])) rfl rfl
  rw [size_lt]
  refine ⟨hr n, fun ⟨r, e⟩ => ?_⟩
  by_contra hp
  rw [score, if_neg hp] at e
  exact EReal.coe_ne_bot r e.symm

end

/-- Where the queries and the keys are finite, the prompts' tokens are routed to the layer's blocks. -/
theorem prompts : Cert.algebraic_Kernel6Ideal_Reference6Ideal_pre_finite := by
  intro m g m' g' hp hm
  refine ⟨fun c => Cert.Reference6Ideal.Read.val_main_v40 (F := Ideal) (m' (c.tc.loc Cert.Reference6Ideal.main_arg0)) (m' (c.tc.loc Cert.Reference6Ideal.main_arg1)), ?_, ?_⟩
  · refine (θ_run _ _ _).mono (fun r h c => ?_) (Cert.Kernel6Ideal.Value.run_blocks m g)
    obtain ⟨h0, kept⟩ := h c
    obtain ⟨a0, a1⟩ := hm c
    obtain ⟨hq, hk⟩ := real_of_finite (m (c.tc.loc Cert.Kernel6Ideal.main_arg0)) (m (c.tc.loc Cert.Kernel6Ideal.main_arg1)) (hp c)
    beta_reduce
    rw [a0, a1]
    exact ⟨h0.trans (funext fun i => routed m c hq hk i), kept⟩
  · refine (θ_run _ _ _).mono (fun r h c => ?_) (Cert.Reference6Ideal.Value.run m' g')
    obtain ⟨h0, kept⟩ := h c
    exact ⟨h0.trans (Cert.Reference6Ideal.Read.val_main_v40_eq m' c), kept⟩

end Cert.Routing

end
-- ==== Proof.Buckets.lean ====
/- The relative-position buckets: the logarithm's quotient, and the distances at which the buckets begin. -/
module

public import Idealize.ShloMosaic.PureOps
public import Idealize.ShloMosaic.Lib.Pointwise
public import Idealize.ShloMosaic.Lib.ValueIdx
public import Mathlib.Analysis.SpecialFunctions.Log.Basic

@[expose] public section

set_option maxRecDepth 16384

noncomputable section

namespace Cert.Buckets

open Idealize.ShloMosaic

/-- The distances at which the buckets begin. -/
def starts : List (ℕ × Fin 32) :=
  [(1, 1), (2, 2), (3, 3), (4, 4), (5, 5), (6, 6), (7, 7), (8, 8), (9, 9), (10, 10), (11, 11), (12, 12), (13, 13), (14, 14), (15, 15), (16, 16), (21, 17), (27, 18), (35, 19), (46, 20), (59, 21), (77, 22), (99, 23), (128, 24), (166, 25), (216, 26), (280, 27), (363, 28), (470, 29), (609, 30), (790, 31)]

/-- The bucket of a distance, by the distances at which the buckets begin. -/
def bucket (n : ℕ) : Fin 32 := starts.foldl (fun b p => if p.1 ≤ n then p.2 else b) 0

/-- The layer's quotient of logarithms, times sixteen. -/
def steps (n : ℕ) : ℝ := Real.log ((n : ℝ) / 16) / Real.log 64 * 16

/-- The quotient reaches a number where the distance's sixteenth power reaches a power of 64. -/
theorem le_floor_steps (n k : ℕ) (hn : 16 ≤ n) : (k : ℤ) ≤ ⌊steps n⌋ ↔ 64 ^ k * 16 ^ 16 ≤ n ^ 16 := by
  have hn' : (0 : ℝ) < (n : ℝ) / 16 := by
    have : (16 : ℝ) ≤ n := by exact_mod_cast hn
    positivity
  have hl : (0 : ℝ) < Real.log 64 := Real.log_pos (by norm_num)
  have e : steps n = Real.log (((n : ℝ) / 16) ^ 16) / Real.log 64 := by
    unfold steps; rw [Real.log_pow]; push_cast; ring
  rw [Int.le_floor, e, le_div_iff₀ hl, Int.cast_natCast, ← Real.log_pow, Real.log_le_log_iff (by positivity) (by positivity),
    div_pow, le_div_iff₀ (by positivity)]
  exact_mod_cast Iff.rfl

/-- A sixteenth power reaches a number from the least base on whose power does. -/
theorem pow_reaches {c n : ℕ} (t : ℕ) (h : (t - 1) ^ 16 < c) (h' : c ≤ t ^ 16) : c ≤ n ^ 16 ↔ t ≤ n := by
  refine ⟨fun e => ?_, fun e => h'.trans (Nat.pow_le_pow_left e 16)⟩
  by_contra hlt
  exact absurd (e.trans (Nat.pow_le_pow_left (show n ≤ t - 1 by omega) 16)) (by omega)

/-- One rung of the buckets: the distance is in its bucket, or before it. -/
theorem rung {t n : ℕ} {e : ℤ} (k : ℕ) {a b : Fin 32} (h : (k : ℤ) ≤ e ↔ t ≤ n) (ha : a.val = 16 + k) (he : e < k + 1 ∨ k = 15)
    (next : e < k → (b.val : ℤ) = min (16 + e) 31) : ((if t ≤ n then a else b : Fin 32).val : ℤ) = min (16 + e) 31 := by
  have := a.isLt
  by_cases c : t ≤ n
  · have := h.mpr c
    rw [if_pos c]; omega
  · have : e < k := by have := mt h.mp c; omega
    rw [if_neg c]; exact next this

/-- From sixteen on, the bucket is sixteen more than the quotient rounded down, and at most the last. -/
theorem bucket_eq (n : ℕ) (hn : 16 ≤ n) (hN : n < 4096) :
    0 ≤ ⌊steps n⌋ ∧ ⌊steps n⌋ < 100 ∧ ((bucket n).val : ℤ) = min (16 + ⌊steps n⌋) 31 := by
  have h0 : ((0 : ℕ) : ℤ) ≤ ⌊steps n⌋ := (le_floor_steps n 0 hn).mpr (by simpa using Nat.pow_le_pow_left hn 16)
  have hh : ¬ ((100 : ℕ) : ℤ) ≤ ⌊steps n⌋ := by
    rw [le_floor_steps n 100 hn, not_le]
    exact (Nat.pow_lt_pow_left hN (by norm_num)).trans (by norm_num)
  have h (k t : ℕ) (lo : (t - 1) ^ 16 < 64 ^ k * 16 ^ 16) (hi : 64 ^ k * 16 ^ 16 ≤ t ^ 16) : (k : ℤ) ≤ ⌊steps n⌋ ↔ t ≤ n :=
    (le_floor_steps n k hn).trans (pow_reaches t lo hi)
  refine ⟨by omega, by omega, ?_⟩
  unfold bucket starts
  simp only [List.foldl_cons, List.foldl_nil]
  refine rung 15 (h 15 790 (by norm_num) (by norm_num)) rfl (Or.inr rfl) fun e15 => ?_
  refine rung 14 (h 14 609 (by norm_num) (by norm_num)) rfl (Or.inl (by push_cast at *; omega)) fun e14 => ?_
  refine rung 13 (h 13 470 (by norm_num) (by norm_num)) rfl (Or.inl (by push_cast at *; omega)) fun e13 => ?_
  refine rung 12 (h 12 363 (by norm_num) (by norm_num)) rfl (Or.inl (by push_cast at *; omega)) fun e12 => ?_
  refine rung 11 (h 11 280 (by norm_num) (by norm_num)) rfl (Or.inl (by push_cast at *; omega)) fun e11 => ?_
  refine rung 10 (h 10 216 (by norm_num) (by norm_num)) rfl (Or.inl (by push_cast at *; omega)) fun e10 => ?_
  refine rung 9 (h 9 166 (by norm_num) (by norm_num)) rfl (Or.inl (by push_cast at *; omega)) fun e9 => ?_
  refine rung 8 (h 8 128 (by norm_num) (by norm_num)) rfl (Or.inl (by push_cast at *; omega)) fun e8 => ?_
  refine rung 7 (h 7 99 (by norm_num) (by norm_num)) rfl (Or.inl (by push_cast at *; omega)) fun e7 => ?_
  refine rung 6 (h 6 77 (by norm_num) (by norm_num)) rfl (Or.inl (by push_cast at *; omega)) fun e6 => ?_
  refine rung 5 (h 5 59 (by norm_num) (by norm_num)) rfl (Or.inl (by push_cast at *; omega)) fun e5 => ?_
  refine rung 4 (h 4 46 (by norm_num) (by norm_num)) rfl (Or.inl (by push_cast at *; omega)) fun e4 => ?_
  refine rung 3 (h 3 35 (by norm_num) (by norm_num)) rfl (Or.inl (by push_cast at *; omega)) fun e3 => ?_
  refine rung 2 (h 2 27 (by norm_num) (by norm_num)) rfl (Or.inl (by push_cast at *; omega)) fun e2 => ?_
  refine rung 1 (h 1 21 (by norm_num) (by norm_num)) rfl (Or.inl (by push_cast at *; omega)) fun e1 => ?_
  refine rung 0 (h 0 16 (by norm_num) (by norm_num)) rfl (Or.inl (by push_cast at *; omega)) fun e0 => ?_
  exact absurd h0 (not_le.mpr e0)

/-- The quotient, rounded toward zero to a word, sixteen more and at most the last bucket. -/
theorem large_word (n : ℕ) (hn : 16 ≤ n) (hN : n < 4096) :
    IntOp.minsi (IntOp.addi 16#32 (Ideal.fptosi 32 ((steps n : ℝ) : EReal))) 31#32 = BitVec.ofNat 32 (bucket n).val := by
  obtain ⟨h0, h1, hb⟩ := bucket_eq n hn hN
  have hr : 0 ≤ steps n := (Int.floor_nonneg).mp h0
  obtain ⟨k, hk⟩ := Int.eq_ofNat_of_zero_le h0
  have hk' : k < 100 := by omega
  have hf : Ideal.fptosi 32 ((steps n : ℝ) : EReal) = BitVec.ofNat 32 k := by
    show BitVec.ofInt 32 (max _ (min _ (if 0 ≤ steps n then ⌊steps n⌋ else ⌈steps n⌉))) = _
    rw [if_pos hr, hk, max_eq_right (by norm_num), min_eq_right (by norm_num; omega)]
    rfl
  have hv : (bucket n).val = min (16 + k) 31 := by omega
  rw [hf, hv]
  have : ∀ k : Fin 100, IntOp.minsi (IntOp.addi 16#32 (BitVec.ofNat 32 k.val)) 31#32 = BitVec.ofNat 32 (min (16 + k.val) 31) := by decide
  exact this ⟨k, hk'⟩

/-- Below sixteen, the bucket is the distance. -/
theorem bucket_small : ∀ n : Fin 16, (bucket n.val).val = n.val := by decide

/-- A choice by the truth of a statement. -/
theorem select_decide {α : Type} (p : Prop) [Decidable p] (x y : α) : Scalar.select (BitVec.ofBool (decide p)) x y = if p then x else y := by
  by_cases e : p
  · rw [if_pos e, decide_eq_true e]; rfl
  · rw [if_neg e, decide_eq_false e]; rfl

/-- A small number as a word. -/
theorem word_int (n : ℕ) (h : n < 4096) : (BitVec.ofNat 32 n).toInt = (n : ℤ) := by
  rw [BitVec.toInt_eq_toNat_of_lt (by rw [BitVec.toNat_ofNat]; omega), BitVec.toNat_ofNat, Nat.mod_eq_of_lt (by omega)]

/-- Small words compare as their numbers do. -/
theorem sge_word (n t : ℕ) (hn : n < 4096) (ht : t < 4096) :
    IntOp.cmpi .sge (BitVec.ofNat 32 n) (BitVec.ofNat 32 t) = BitVec.ofBool (decide (t ≤ n)) := by
  show BitVec.ofBool ((BitVec.ofNat 32 t).sle (BitVec.ofNat 32 n)) = _
  rw [BitVec.sle_eq_decide, word_int n hn, word_int t ht]
  simp

section
variable {F : FTy → Type} [FloatOps F] {s : Shape}

/-- The kernel's choice of an entry for each distance: each bucket that has begun replaces the one before. -/
def ladder (v : IVec s 32) (e : Fin 32 → F .f32) : FVec F s .f32 :=
  starts.foldl (fun acc p => select (cmpi .sge v (broadcast s (BitVec.ofNat 32 p.1))) (broadcast s (e p.2)) acc) (broadcast s (e 0))

/-- The choice is the entry of the distance's bucket. -/
theorem ladder_apply (v : IVec s 32) (e : Fin 32 → F .f32) (i : s.Idx) (n : ℕ) (hn : n < 4096) (hv : v i = BitVec.ofNat 32 n) :
    ladder v e i = e (bucket n) := by
  have h : ∀ (l : List (ℕ × Fin 32)) (a : FVec F s .f32) (b : Fin 32), (∀ p ∈ l, p.1 < 4096) → a i = e b →
      l.foldl (fun acc p => select (cmpi .sge v (broadcast s (BitVec.ofNat 32 p.1))) (broadcast s (e p.2)) acc) a i
        = e (l.foldl (fun b p => if p.1 ≤ n then p.2 else b) b) := by
    intro l
    induction l with
    | nil => exact fun _ _ _ h => h
    | cons p l ih =>
      intro a b hl ha
      refine ih _ _ (fun q hq => hl q (List.mem_cons_of_mem _ hq)) ?_
      show Scalar.select (IntOp.cmpi .sge (v i) (BitVec.ofNat 32 p.1)) (e p.2) (a i) = _
      rw [hv, sge_word n p.1 hn (hl p List.mem_cons_self), select_decide, ha, apply_ite e]
  exact h starts _ 0 (by decide) rfl

end

/-- The greater of a small distance and zero. -/
theorem clamp_word (z : ℤ) (h : -4096 < z) (h' : z < 4096) : IntOp.maxsi (BitVec.ofInt 32 z) 0#32 = BitVec.ofNat 32 z.toNat := by
  have : ∀ k : Fin 8192, IntOp.maxsi (BitVec.ofInt 32 ((k.val : ℤ) - 4096)) 0#32 = BitVec.ofNat 32 ((k.val : ℤ) - 4096).toNat := by decide +kernel
  have e : (((z + 4096).toNat : ℕ) : ℤ) - 4096 = z := by omega
  have := this ⟨(z + 4096).toNat, by omega⟩
  rwa [e] at this

/-- The layer's bucket of a distance, as the layer computes it. -/
def layerBucket (w : BitVec 32) : BitVec 32 :=
  Scalar.select (IntOp.cmpi .slt w 16#32) w
    (IntOp.minsi (IntOp.addi 16#32 (Ideal.fptosi 32 (Ideal.div (Ideal.log (Ideal.div (((IntOp.maxsi w 1#32).toInt : ℝ) : EReal) (Ideal.ofBits .f32 0x41800000#32)))
      (Ideal.log (Ideal.ofBits .f32 0x42800000#32)) * Ideal.ofBits .f32 0x41800000#32))) 31#32)

/-- The word of sixteen. -/
theorem sixteen : Ideal.ofBits .f32 0x41800000#32 = ((16 : ℝ) : EReal) := by
  show Ideal.ofBits .f32 1098907648#32 = _; simp [Ideal.ofBits, Ideal.ieee]; rw [← EReal.coe_mul]; norm_num

/-- The word of sixty-four. -/
theorem sixtyFour : Ideal.ofBits .f32 0x42800000#32 = ((64 : ℝ) : EReal) := by
  show Ideal.ofBits .f32 1115684864#32 = _; simp [Ideal.ofBits, Ideal.ieee]; rw [← EReal.coe_mul]; norm_num

/-- The layer's bucket is the one whose beginning the distance has reached last. -/
theorem layerBucket_eq (n : ℕ) (hn : n < 4096) : layerBucket (BitVec.ofNat 32 n) = BitVec.ofNat 32 (bucket n).val := by
  have hs : IntOp.cmpi .slt (BitVec.ofNat 32 n) 16#32 = BitVec.ofBool (decide (n < 16)) := by
    show BitVec.ofBool ((BitVec.ofNat 32 n).slt (BitVec.ofNat 32 16)) = _
    rw [BitVec.slt_eq_decide, word_int n hn, word_int 16 (by norm_num)]
    simp
  unfold layerBucket
  rw [hs, select_decide]
  split_ifs with h
  · rw [bucket_small ⟨n, h⟩]
  · have h16 : 16 ≤ n := by omega
    have hm : IntOp.maxsi (BitVec.ofNat 32 n) 1#32 = BitVec.ofNat 32 n := by
      show (if (BitVec.ofNat 32 1).slt (BitVec.ofNat 32 n) then _ else _) = _
      rw [BitVec.slt_eq_decide, word_int n hn, word_int 1 (by norm_num), if_pos (by simp; omega)]
    have hl : Real.log 64 ≠ 0 := (Real.log_pos (by norm_num)).ne'
    have hp : ¬ ((n : ℝ) * (1 / 16)) ≤ 0 := by
      have : (16 : ℝ) ≤ n := by exact_mod_cast h16
      rw [not_le]; positivity
    rw [hm, word_int n hn, sixteen, sixtyFour, Int.cast_natCast, Ideal.div_coe (by norm_num), ← EReal.coe_mul, Ideal.log_coe, if_neg hp,
      Ideal.log_coe, if_neg (by norm_num), Ideal.div_coe hl, ← EReal.coe_mul, ← EReal.coe_mul, ← large_word n h16 hn]
    unfold steps
    rw [mul_one_div, mul_one_div]

/-- The difference of two numbers' words. -/
theorem diff_word (a b : ℕ) : IntOp.subi (BitVec.ofNat 32 a) (BitVec.ofNat 32 b) = BitVec.ofInt 32 ((a : ℤ) - b) := by
  show BitVec.ofNat 32 a - BitVec.ofNat 32 b = _
  apply BitVec.eq_of_toNat_eq
  rw [BitVec.toNat_sub, BitVec.toNat_ofNat, BitVec.toNat_ofNat, BitVec.toNat_ofInt]
  omega

/-- A number's word added to an integer's. -/
theorem shift_word (z : ℤ) (b : ℕ) : IntOp.addi (BitVec.ofInt 32 z) (BitVec.ofNat 32 b) = BitVec.ofInt 32 (z + b) := by
  show BitVec.ofInt 32 z + BitVec.ofNat 32 b = _
  apply BitVec.eq_of_toNat_eq
  rw [BitVec.toNat_add, BitVec.toNat_ofNat, BitVec.toNat_ofInt, BitVec.toNat_ofInt]
  omega

/-- The sum of two numbers' words. -/
theorem sum_word (a b : ℕ) : IntOp.addi (BitVec.ofNat 32 a) (BitVec.ofNat 32 b) = BitVec.ofNat 32 (a + b) :=
  (BitVec.ofNat_add a b).symm

/-- An index that is not negative is kept as it is. -/
theorem index_word (a d : ℕ) (h : a < 4096) :
    Scalar.select (IntOp.cmpi .slt (BitVec.ofNat 32 a) 0#32) (IntOp.addi (BitVec.ofNat 32 a) (BitVec.ofNat 32 d)) (BitVec.ofNat 32 a) = BitVec.ofNat 32 a := by
  have : IntOp.cmpi .slt (BitVec.ofNat 32 a) 0#32 = BitVec.ofBool (decide False) := by
    show BitVec.ofBool ((BitVec.ofNat 32 a).slt (BitVec.ofNat 32 0)) = _
    rw [BitVec.slt_eq_decide, word_int a h, word_int 0 (by norm_num)]
    exact congrArg _ (decide_eq_decide.mpr ⟨fun h => absurd h (by omega), False.elim⟩)
  rw [this, select_decide, if_neg id]

/-- An entry of a table of 32 rows and 8 columns, gathered by its row and its column. -/
theorem gather_pair {α : Type} {si t : Shape} (d : GatherDims ⟨2, ![32, 8]⟩ si t) (hc : d.collapsedSliceDims = [0, 1]) (hb : d.operandBatchingDims = [])
    (hm : d.startIndexMap = [0, 1]) (hs : d.sliceSizes = ![1, 1]) (x : (⟨2, ![32, 8]⟩ : Shape).Idx → α) (idx : IVec si 32) (y : t.Idx) (a : Fin 32) (b : Fin 8)
    (ha : ∀ k, k.val = 0 → idx (d.siIdx y k) = BitVec.ofNat 32 a.val) (hb' : ∀ k, k.val = 1 → idx (d.siIdx y k) = BitVec.ofNat 32 b.val) :
    Host.gather d x idx y = x (ValueIdx.ix2 a b) := by
  unfold Host.gather
  congr 1
  funext e
  refine Fin.ext ?_
  show d.start y idx e + d.batchCoord y e + d.offCoord y e = _
  have hin : e ∈ d.collapsedSliceDims := by rw [hc]; fin_cases e <;> decide
  have him : e ∈ d.startIndexMap := by rw [hm]; fin_cases e <;> decide
  rw [d.batchCoord_eq_zero y e (by rw [hb]; exact List.not_mem_nil), d.offCoord_eq_zero y e (fun h => ((d.mem_sKept e).mp h).1 hin)]
  unfold GatherDims.start
  rw [dif_pos him]
  fin_cases e
  · rw [ha _ (by show List.idxOf _ d.startIndexMap = 0; rw [hm]; rfl), word_int _ (by omega), hs]
    show min a.val 31 + 0 + 0 = a.val
    omega
  · rw [hb' _ (by show List.idxOf _ d.startIndexMap = 1; rw [hm]; rfl), word_int _ (by omega), hs]
    show min b.val 7 + 0 + 0 = b.val
    omega

end Cert.Buckets

end
-- ==== Proof.BiasTable.lean ====
/- The relative-position biases: how a kernel reads the table of its head's. -/
module

public import Idealize.ShloMosaic.Lib.Pipeline.ValueKit
public import Idealize.ShloMosaic.Lib.ValueIdx

@[expose] public section

noncomputable section

namespace Cert.BiasTable

open Idealize.ShloMosaic Idealize.ShloMosaic.TcCoe

/-- The table's shape: a row for each bucket, a column for each head. -/
abbrev Table : Shape := ⟨2, ![32, 8]⟩

/-- The shape of one entry. -/
abbrev One : Shape := ⟨2, ![1, 1]⟩

/-- The place of a bucket's bias for a head. -/
def cell (b : Fin 32) (h : ℕ) : Fin 2 → Nat := ![b.val, (Scalar.indexCast (BitVec.ofNat 32 h) : Index).toNat]

/-- A head's word is the head. -/
theorem cell_one : ∀ h : Fin 8, (Scalar.indexCast (BitVec.ofNat 32 h.val) : Index).toNat = h.val := by decide

/-- The place lies in the table. -/
theorem cell_in (b : Fin 32) (h : Fin 8) : ∀ a, cell b h.val a + One.size a ≤ Table.size a := by
  have e := cell_one h
  intro a
  fin_cases a
  · show b.val + 1 ≤ 32
    omega
  · show (Scalar.indexCast (BitVec.ofNat 32 h.val) : Index).toNat + 1 ≤ 8
    omega

section
variable {F : FTy → Type} {sig : RefSig}

/-- A bucket's bias for a head, read from the table. -/
def entry (arg : Memref sig .tc .smem Table .f32) (harg : arg.IsWhole) (x : Vec F Table .f32) (h : Fin 8) (b : Fin 32) : F .f32 :=
  View.readAt (Elt F) arg.view (Rect.unit (s := Table) (cell b h.val) One.size (cell_in b h)).toLoadRect (harg.unread x) (Shape.Idx.first (show 0 < One.numel by decide))

/-- It is the table's entry. -/
theorem entry_eq (arg : Memref sig .tc .smem Table .f32) (harg : arg.IsWhole) (x : Vec F Table .f32) (h : Fin 8) (b : Fin 32) :
    entry arg harg x h b = x (ValueIdx.ix2 b h) := by
  refine (show _ = x _ from congrFun (harg.read_unread x) _).trans (congrArg x ?_)
  funext a; apply Fin.ext
  fin_cases a
  · show b.val + 1 * 0 = b.val; rfl
  · show (Scalar.indexCast (BitVec.ofNat 32 h.val) : Index).toNat + 1 * 0 = h.val
    rw [cell_one]
    rfl

end

end Cert.BiasTable

end
-- ==== Proof.BiasSample.lean ====
/- The samples' relative-position bias: what the kernel's block holds. -/
module

public import proofs.«01_k».proof.Proof.Buckets
public import proofs.«01_k».proof.Proof.BiasTable
public import proofs.«01_k».proof.Proof.Gen.Kernel7Ideal.Value
public import Idealize.ShloMosaic.Lib.Pipeline.ValueKit
public import Idealize.ShloMosaic.Lib.Pointwise
public import Idealize.ShloMosaic.Lib.ValueIdx

@[expose] public section

set_option maxRecDepth 16384

noncomputable section

namespace Cert.BiasSample

open Idealize.ShloMosaic Idealize.ShloMosaic.TcCoe Idealize.SL.Sem
open Cert.Kernel7Ideal Cert.Kernel7Ideal.Gen Cert.Buckets Cert.BiasTable

variable {F : FTy → Type} [FloatOps F]

/-- The step's head. -/
def head (i : grid0.Coords) : Fin 8 := i 0

/-- The output's one piece: the bias of each distance's bucket, where the mask holds. -/
theorem out_eq (c : Dev nD) (i : grid0.Coords) (arg1 : Memref sig .tc .smem S32x8 .f32) (harg1 : arg1.IsWhole) (arg2 : Memref sig .tc .vmem S8x2176 .f32) (harg2 : arg2.IsWhole)
    (x0 : Vec F S32x8 .f32) :
    (kernelRun0_A c i arg1 harg1 arg2 harg2 x0).1 = List.ofFn fun _ : Fin 1 =>
      (⟨Rect.unit ![0, 0] S8x2176.size inb_S8x2176_S8x2176_0_0, select k0_pay3 (ladder k0_pay4 (entry arg1 harg1 x0 (head i))) (broadcast S8x2176 (Scalar.ofBits .f32 0xF1C9F2CA#32))⟩ : View.Piece (Elt F) S8x2176 .f32) := by
  sl_kernel_rfl

/-- A query's distance from a key, clamped at zero, as a word. -/
theorem clamped_apply (r : Fin 8) (k : Fin 2176) : k0_pay4 (ix2 r k) = BitVec.ofNat 32 (2048 + (r.val : ℤ) - k.val).toNat := by
  unfold k0_pay4 k0_pay2
  pointwise
  rw [show (2048#32 : BitVec 32) = BitVec.ofNat 32 2048 from rfl, sum_word, diff_word, clamp_word _ (by omega) (by omega)]
  push_cast
  rfl

/-- The kernel's mask: the key is not after the query, and exists. -/
theorem mask_apply (r : Fin 8) (k : Fin 2176) : k0_pay3 (ix2 r k)
    = IntOp.andi (IntOp.cmpi .sge (BitVec.ofInt 32 (2048 + (r.val : ℤ) - k.val)) 0#32) (IntOp.cmpi .slt (BitVec.ofNat 32 k.val) 2052#32) := by
  unfold k0_pay3 k0_pay2
  pointwise
  rw [show (2048#32 : BitVec 32) = BitVec.ofNat 32 2048 from rfl, sum_word, diff_word]
  push_cast
  rfl

/-- The output's block: the bias of each distance's bucket where the mask holds. -/
theorem out_block (c : Dev nD) (i : grid0.Coords) (arg1 : Memref sig .tc .smem S32x8 .f32) (harg1 : arg1.IsWhole) (arg2 : Memref sig .tc .vmem S8x2176 .f32) (harg2 : arg2.IsWhole)
    (x0 : Vec Ideal S32x8 .f32) (r : Fin 8) (k : Fin 2176) :
    out0_A_1 (F := Ideal) c i arg1 harg1 arg2 harg2 x0 (ix2 r k)
      = Scalar.select (IntOp.andi (IntOp.cmpi .sge (BitVec.ofInt 32 (2048 + (r.val : ℤ) - k.val)) 0#32) (IntOp.cmpi .slt (BitVec.ofNat 32 k.val) 2052#32))
          (x0 (ix2 (bucket (2048 + (r.val : ℤ) - k.val).toNat) (head i))) (Ideal.ofBits .f32 0xF1C9F2CA#32) := by
  unfold out0_A_1
  rw [View.read_writes_junk_eq_canon, out_eq]
  refine View.canon_ofFn_unit_eq_of_forall _ _ _ _ _ _ ?_ ?_
  · refine ⟨0, fun a => ?_⟩
    fin_cases a
    · show 0 ≤ r.val ∧ r.val < 0 + 8
      omega
    · show 0 ≤ k.val ∧ k.val < 0 + 2176
      omega
  · intro w y e
    have e0 : r.val = 0 + (y 0).val := e 0
    have e1 : k.val = 0 + (y 1).val := e 1
    change S8x2176.Idx at y
    have hy : y = ix2 r k := by
      funext a; apply Fin.ext
      fin_cases a
      · show (y 0).val = r.val; omega
      · show (y 1).val = k.val; omega
    rw [hy]
    show Scalar.select (k0_pay3 (ix2 r k)) (ladder k0_pay4 (entry arg1 harg1 x0 (head i)) (ix2 r k)) _ = _
    rw [mask_apply, ladder_apply _ _ _ _ (by omega) (clamped_apply r k), entry_eq arg1 harg1]
    rfl

end Cert.BiasSample

end
-- ==== Proof.BiasSampleReference.lean ====
/- The samples' relative-position bias: what the reference's result holds. -/
module

public import proofs.«01_k».proof.Proof.Buckets
public import proofs.«01_k».proof.Proof.Gen.Reference7Ideal.Read
public import Idealize.ShloMosaic.Lib.Pointwise
public import Idealize.ShloMosaic.Lib.ValueIdx

@[expose] public section

set_option maxRecDepth 16384

noncomputable section

namespace Cert.BiasSampleReference

open Idealize.ShloMosaic Idealize.ShloMosaic.TcCoe Idealize.SL.Sem
open Cert.Reference7Ideal Cert.Reference7Ideal.Gen Cert.Reference7Ideal.Read Cert.Buckets

/-- The distance of a query from a key. -/
theorem val8 (r : Fin 8) (k : Fin 2176) : val_main_v8 (F := Ideal) (ix2 r k) = BitVec.ofInt 32 (2048 + (r.val : ℤ) - k.val) := by
  unfold val_main_v8 val_main_v7 val_main_v6 val_main_v5 val_main_v4 val_main_v3 val_main_v2 val_main_v1 val_main_v0 val_main_c
  pointwise
  rw [show (2048#32 : BitVec 32) = BitVec.ofNat 32 2048 from rfl, sum_word, diff_word]
  push_cast
  rfl

/-- The distance, clamped at zero. -/
theorem val12 (r : Fin 8) (k : Fin 2176) : val_main_v12 (F := Ideal) (ix2 r k) = BitVec.ofNat 32 (2048 + (r.val : ℤ) - k.val).toNat := by
  rw [val_main_v12_apply, val8]
  unfold val_main_v11 val_main_c_0
  pointwise
  exact clamp_word _ (by omega) (by omega)

/-- The bucket of the distance. -/
theorem val31 (r : Fin 8) (k : Fin 2176) : val_main_v31 (F := Ideal) (ix2 r k) = BitVec.ofNat 32 (bucket (2048 + (r.val : ℤ) - k.val).toNat).val := by
  rw [← layerBucket_eq _ (by omega), ← val12]
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_c_1 val_main_c_4 val_main_c_5 val_main_c_6 val_main_cst val_main_cst_2 val_main_cst_3
  pointwise
  rfl

/-- The bucket's index, kept as it is. -/
theorem val36 (r : Fin 8) (k : Fin 2176) : val_main_v36 (F := Ideal) (ix2 r k) = BitVec.ofNat 32 (bucket (2048 + (r.val : ℤ) - k.val).toNat).val := by
  unfold val_main_v36 val_main_v35 val_main_v34 val_main_v33 val_main_v32 val_main_c_7 val_main_c_8
  pointwise
  rw [val31]
  exact index_word _ 32 (by omega)

/-- The head's index, kept as it is. -/
theorem val41 (h : Fin 8) : val_main_v41 (F := Ideal) (ix3 h (0 : Fin 1) (0 : Fin 1)) = BitVec.ofNat 32 h.val := by
  unfold val_main_v41 val_main_v40 val_main_v39 val_main_v38 val_main_v37 val_main_v10 val_main_v9 val_main_c_9 val_main_c_10
  pointwise
  exact index_word _ 8 (by omega)

/-- The row of the gathered entry is the bucket, -/
theorem val46_row (h r : Fin 8) (k : Fin 2176) : val_main_v46 (F := Ideal) (ix4 h r k (0 : Fin 2)) = BitVec.ofNat 32 (bucket (2048 + (r.val : ℤ) - k.val).toNat).val := by
  rw [← val36]
  unfold val_main_v46 val_main_v44 val_main_v42
  pointwise

/-- and its column the head. -/
theorem val46_column (h r : Fin 8) (k : Fin 2176) : val_main_v46 (F := Ideal) (ix4 h r k (1 : Fin 2)) = BitVec.ofNat 32 h.val := by
  rw [← val41]
  unfold val_main_v46 val_main_v45 val_main_v43
  pointwise

/-- The bias of the distance's bucket. -/
theorem val47 (x : (⟨S32x8, .f32⟩ : BufTy).Contents (Elt Ideal)) (h r : Fin 8) (k : Fin 2176) :
    val_main_v47 x (ix3 h r k) = x (ix2 (bucket (2048 + (r.val : ℤ) - k.val).toNat) h) := by
  have hi : ∀ (e : Fin 2) (j : Fin gather_S32x8_S8x8x2176x2_S8x8x2176_n_01_n_n_01_3_11.startIndexMap.length), j.val = e.val →
      gather_S32x8_S8x8x2176x2_S8x8x2176_n_01_n_n_01_3_11.siIdx (ix3 h r k) j = ix4 h r k e := by
    intro e j hj
    funext b; refine Fin.ext ?_
    match b with
    | ⟨0, _⟩ => rfl
    | ⟨1, _⟩ => rfl
    | ⟨2, _⟩ => rfl
    | ⟨3, _⟩ => exact hj
  exact gather_pair _ rfl rfl rfl rfl x _ _ _ h (fun j hj => (congrArg _ (hi 0 j hj)).trans (val46_row h r k)) (fun j hj => (congrArg _ (hi 1 j hj)).trans (val46_column h r k))

/-- The masked bias. -/
theorem val56 (x : (⟨S32x8, .f32⟩ : BufTy).Contents (Elt Ideal)) (h r : Fin 8) (k : Fin 2176) :
    val_main_v56 x (ix2 (⟨8 * h.val + r.val, by omega⟩ : Fin 64) k)
      = Scalar.select (IntOp.andi (IntOp.cmpi .sge (BitVec.ofInt 32 (2048 + (r.val : ℤ) - k.val)) 0#32) (IntOp.cmpi .slt (BitVec.ofNat 32 k.val) 2052#32))
          (x (ix2 (bucket (2048 + (r.val : ℤ) - k.val).toNat) h)) (Ideal.ofBits .f32 0xF1C9F2CA#32) := by
  rw [← val47 x h r k, ← val8 r k]
  unfold val_main_v56 val_main_v55 val_main_call1_v2 val_main_call1_v1 val_main_call1_v0 val_main_v54 val_main_v53 val_main_v52 val_main_v51 val_main_v50 val_main_v49 val_main_v48 val_main_v3 val_main_c_11 val_main_c_12 val_main_cst_13
  pointwise
  rfl

end Cert.BiasSampleReference

end
-- ==== Proof.BiasSampleRun.lean ====
/- The samples' relative-position bias: the program computes the layer's mathematics. -/
module

public import proofs.«01_k».proof.Defs
public import proofs.«01_k».proof.Proof.BiasSample
public import proofs.«01_k».proof.Proof.BiasSampleReference
public import proofs.«01_k».proof.Proof.Gen.Reference7Ideal.Run

@[expose] public section

set_option maxRecDepth 16384

noncomputable section

namespace Cert.Bias

open Idealize.ShloMosaic Idealize.ShloMosaic.TcCoe Idealize.SL.Sem

section
open Cert.Kernel7Ideal Cert.Kernel7Ideal.Gen Cert.Reference7Ideal.Read

variable (m : (ℓ : Loc nD τ sig) → Buf (Elt Ideal) ℓ)

/-- The step's head and its block of the result. -/
theorem sampleIdx : ∀ t : Fin cfg0.N, (grid0.coords t 0).val = t.val ∧ win0_0.index t = ![0, 0] ∧ win0_1.index t = ![t.val, 0] := by
  decide +kernel

/-- The table, read whole. -/
theorem sampleTable (t : Fin cfg0.N) (b : Fin 32) (h : Fin 8) (c : Dev nD) : iblk m c 0 t (ix2 b h) = m (c.tc.loc main_arg0) (ix2 b h) := by
  blk_ext! [iblk, V, sampleIdx t]

/-- The bias's array is the reference's. -/
theorem sampleBias (c : Dev nD) (i : S64x2176.Idx) :
    (dats m 0 c).arrAt 1 cfg0.N i = val_main_v56 (F := Ideal) (m (c.tc.loc main_arg0)) i := by
  refine (dats m 0 c).arrAt_forall_of_covers 1 (fun (i : S64x2176.Idx) v => v
    = val_main_v56 (F := Ideal) (m (c.tc.loc main_arg0)) i) (by decide +kernel) (fun t hf y => ?_) i
  blk_simp
  rw [after0_1]
  unfold outsAt0
  change S8x2176.Idx at y
  idx_vars y
  have ht : t.val < 8 := t.isLt
  have he : ((View.whole main_v0).slice (win0_1.rect t)).emb (ix2 y0 y1) = (ix2 (⟨8 * t.val + y0.val, by omega⟩ : Fin 64) y1 : S64x2176.Idx) := by
    blk_ext [sampleIdx t]
  have hh : BiasSample.head (grid0.coords t) = ⟨t.val, ht⟩ := Fin.ext (sampleIdx t).1
  rw [he, BiasSampleReference.val56 _ ⟨t.val, ht⟩ y0 y1]
  refine (BiasSample.out_block c (grid0.coords t) (ms0_0 t) (hs0_0 t) (ms0_1 t) (hs0_1 t) (iblk m c 0 t) y0 y1).trans ?_
  rw [hh, sampleTable]

end

/-- The call writes the samples' masked bias. -/
theorem sample : Cert.algebraic_Kernel7Ideal_Reference7Ideal := by
  intro m g m' g' _ hm
  refine ⟨fun c => Cert.Reference7Ideal.Read.val_main_v56 (F := Ideal) (m' (c.tc.loc Cert.Reference7Ideal.main_arg0)), ?_, ?_⟩
  · refine (θ_run _ _ _).mono (fun r h c => ?_) (Cert.Kernel7Ideal.Value.run_blocks m g)
    obtain ⟨h0, kept⟩ := h c
    beta_reduce
    rw [hm c]
    exact ⟨h0.trans (funext fun i => sampleBias m c i), kept⟩
  · refine (θ_run _ _ _).mono (fun r h c => ?_) (Cert.Reference7Ideal.Value.run m' g')
    obtain ⟨h0, kept⟩ := h c
    exact ⟨h0.trans (Cert.Reference7Ideal.Read.val_main_v56_eq m' c), kept⟩

end Cert.Bias

end
-- ==== Proof.BiasPrompt.lean ====
/- The prompts' relative-position bias: what the kernel's tiles hold. -/
module

public import proofs.«01_k».proof.Proof.Buckets
public import proofs.«01_k».proof.Proof.BiasTable
public import proofs.«01_k».proof.Proof.Gen.Kernel8Ideal.Value
public import Idealize.ShloMosaic.Lib.Pipeline.ValueKit
public import Idealize.ShloMosaic.Lib.Pointwise
public import Idealize.ShloMosaic.Lib.ValueIdx

@[expose] public section

set_option maxRecDepth 16384

noncomputable section

namespace Cert.BiasPrompt

open Idealize.ShloMosaic Idealize.ShloMosaic.TcCoe Idealize.SL.Sem
open Cert.Kernel8Ideal Cert.Kernel8Ideal.Gen Cert.Buckets Cert.BiasTable

variable {F : FTy → Type} [FloatOps F]

/-- The step's head. -/
def head (i : grid0.Coords) : Fin 8 := i 0

/-- The distances of a tile's row, from 256 below the tile's own. -/
def reach (d : ℕ) : IVec S8x512 32 := addi (broadcast S8x512 (IntOp.subi (BitVec.ofNat 32 (256 * d)) 256#32)) (iota .tc S8x512 32 [1] iota_S8x512_d1_w32)

/-- The bias of each of those distances, in base two and masked. -/
def byDistance (e : Fin 32 → F .f32) (d : ℕ) : FVec F S8x512 .f32 :=
  select (cmpi .sge (reach d) (broadcast S8x512 0#32))
    (mulf (ladder (maxsi (reach d) (broadcast S8x512 0#32)) e) (broadcast S8x512 (Scalar.ofBits .f32 0x3FB8AA3B#32)))
    (broadcast S8x512 (Scalar.ofBits .f32 0xF1C9F2CA#32))

/-- A tile: each row of keys takes the distances from its own place on. -/
def tile (e : Fin 32 → F .f32) (d : ℕ) : FVec F S1x1x256x256 .f32 :=
  shapeCast S1x1x256x256 (extractStridedSlice S256x256 ![0, 256] (dynamicRotate 1 0#32 (some (1, 0)) (broadcastTo S256x512
    (shapeCast S1x512 (extractStridedSlice S1x512 ![0, 0] (byDistance e d) slices_S8x512_o0_0_S1x512) shapeCasts_S1x512_S1x512) broadcasts_S1x512_S256x512)
    rotates_S256x512_d1s1a0) slices_S256x512_o0_256_S256x256) shapeCasts_S256x256_S1x1x256x256

/-- The place of a tile. -/
theorem tile_in (d : ℕ) (hd : d < 6) : ∀ a, (![0, d, 0, 0] : Fin 4 → ℕ) a + S1x1x256x256.size a ≤ S1x6x256x256.size a := by
  intro a
  fin_cases a
  · show 0 + 1 ≤ 1
    omega
  · show d + 1 ≤ 6
    omega
  · show 0 + 256 ≤ 256
    omega
  · show 0 + 256 ≤ 256
    omega

/-- The output's six pieces, the last tile first. -/
theorem out_eq (c : Dev nD) (i : grid0.Coords) (arg1 : Memref sig .tc .smem S32x8 .f32) (harg1 : arg1.IsWhole) (arg2 : Memref sig .tc .vmem S1x6x256x256 .f32) (harg2 : arg2.IsWhole)
    (x0 : Vec F S32x8 .f32) :
    (kernelRun0_A c i arg1 harg1 arg2 harg2 x0).1 = List.ofFn fun k : Fin 6 =>
      (⟨Rect.unit ![0, 5 - k.val, 0, 0] S1x1x256x256.size (tile_in _ (by omega)), tile (entry arg1 harg1 x0 (head i)) (5 - k.val)⟩ : View.Piece (Elt F) S1x6x256x256 .f32) := by
  sl_kernel_rfl

/-- A distance of a tile's row, as a word. -/
theorem reach_apply (d : ℕ) (hd : d < 6) (k : Fin 8) (q : Fin 512) : reach d (ix2 k q) = BitVec.ofInt 32 (256 * (d : ℤ) + q.val - 256) := by
  have h : reach d (ix2 k q) = IntOp.addi (IntOp.subi (BitVec.ofNat 32 (256 * d)) (BitVec.ofNat 32 256)) (BitVec.ofNat 32 q.val) := by
    unfold reach
    pointwise
  rw [h, diff_word, shift_word]
  congr 1
  push_cast
  ring

/-- The bias of a distance of a tile's row. -/
theorem byDistance_apply (e : Fin 32 → Ideal .f32) (d : ℕ) (hd : d < 6) (k : Fin 8) (q : Fin 512) :
    byDistance e d (ix2 k q) = Scalar.select (IntOp.cmpi .sge (BitVec.ofInt 32 (256 * (d : ℤ) + q.val - 256)) 0#32)
      (e (bucket (256 * (d : ℤ) + q.val - 256).toNat) * Ideal.ofBits .f32 0x3FB8AA3B#32) (Ideal.ofBits .f32 0xF1C9F2CA#32) := by
  have hm : maxsi (reach d) (broadcast S8x512 0#32) (ix2 k q) = BitVec.ofNat 32 (256 * (d : ℤ) + q.val - 256).toNat := by
    show IntOp.maxsi (reach d (ix2 k q)) 0#32 = _
    rw [reach_apply d hd, clamp_word _ (by omega) (by omega)]
  show Scalar.select (IntOp.cmpi .sge (reach d (ix2 k q)) 0#32) (ladder (maxsi (reach d) (broadcast S8x512 0#32)) e (ix2 k q) * _) _ = _
  rw [reach_apply d hd, ladder_apply _ _ _ _ (by omega) hm]
  rfl

/-- A tile's entry: the bias of the query's distance from the key. -/
theorem tile_apply (e : Fin 32 → Ideal .f32) (d : ℕ) (hd : d < 6) (r q : Fin 256) :
    tile e d (ix4 (0 : Fin 1) (0 : Fin 1) r q) = Scalar.select (IntOp.cmpi .sge (BitVec.ofInt 32 (256 * (d : ℤ) + q.val - r.val)) 0#32)
      (e (bucket (256 * (d : ℤ) + q.val - r.val).toNat) * Ideal.ofBits .f32 0x3FB8AA3B#32) (Ideal.ofBits .f32 0xF1C9F2CA#32) := by
  have hz : 256 * (d : ℤ) + ((256 + q.val - r.val : ℕ) : ℤ) - 256 = 256 * (d : ℤ) + q.val - r.val := by omega
  have hv := byDistance_apply e d hd 0 ⟨256 + q.val - r.val, by omega⟩
  simp only [hz] at hv
  rw [← hv]
  unfold tile
  pointwise
  exact congrArg (byDistance e d) (congrArg (ix2 (0 : Fin 8)) (Fin.ext (by show (256 + q.val + 512 - r.val % 512) % 512 = 256 + q.val - r.val; omega)))

/-- The output's block: six tiles. -/
theorem out_block (c : Dev nD) (i : grid0.Coords) (arg1 : Memref sig .tc .smem S32x8 .f32) (harg1 : arg1.IsWhole) (arg2 : Memref sig .tc .vmem S1x6x256x256 .f32) (harg2 : arg2.IsWhole)
    (x0 : Vec Ideal S32x8 .f32) (d : Fin 6) (r q : Fin 256) :
    out0_A_1 (F := Ideal) c i arg1 harg1 arg2 harg2 x0 (ix4 (0 : Fin 1) d r q)
      = Scalar.select (IntOp.cmpi .sge (BitVec.ofInt 32 (256 * (d.val : ℤ) + q.val - r.val)) 0#32)
          (x0 (ix2 (bucket (256 * (d.val : ℤ) + q.val - r.val).toNat) (head i)) * Ideal.ofBits .f32 0x3FB8AA3B#32) (Ideal.ofBits .f32 0xF1C9F2CA#32) := by
  refine Eq.trans ?_ ((tile_apply (entry arg1 harg1 x0 (head i)) d.val d.isLt r q).trans (by rw [entry_eq]; rfl))
  unfold out0_A_1
  rw [View.read_writes_junk_eq_canon, out_eq]
  refine View.canon_ofFn_unit_eq_of_forall _ _ _ _ _ _ ?_ ?_
  · refine ⟨⟨5 - d.val, by omega⟩, fun a => ?_⟩
    fin_cases a
    · show 0 ≤ 0 ∧ 0 < 0 + 1
      omega
    · show 5 - (5 - d.val) ≤ d.val ∧ d.val < 5 - (5 - d.val) + 1
      omega
    · show 0 ≤ r.val ∧ r.val < 0 + 256
      omega
    · show 0 ≤ q.val ∧ q.val < 0 + 256
      omega
  · intro w y h
    have h1 : d.val = 5 - w.val + (y 1).val := h 1
    have h2 : r.val = 0 + (y 2).val := h 2
    have h3 : q.val = 0 + (y 3).val := h 3
    change S1x1x256x256.Idx at y
    have i0 : (y 0).val < 1 := (y 0).isLt
    have i1 : (y 1).val < 1 := (y 1).isLt
    have hw : 5 - w.val = d.val := by omega
    have hy : y = ix4 (0 : Fin 1) (0 : Fin 1) r q := by
      funext a; apply Fin.ext
      fin_cases a
      · show (y 0).val = 0; omega
      · show (y 1).val = 0; omega
      · show (y 2).val = r.val; omega
      · show (y 3).val = q.val; omega
    rw [hy]
    show tile _ (5 - w.val) _ = _
    rw [hw]

end Cert.BiasPrompt

end
-- ==== Proof.BiasPromptReference.lean ====
/- The prompts' relative-position bias: what the reference's result holds. -/
module

public import proofs.«01_k».proof.Proof.Buckets
public import proofs.«01_k».proof.Proof.Gen.Reference8Ideal.Read
public import Idealize.ShloMosaic.Lib.Pointwise
public import Idealize.ShloMosaic.Lib.ValueIdx

@[expose] public section

set_option maxRecDepth 16384

noncomputable section

namespace Cert.BiasPromptReference

open Idealize.ShloMosaic Idealize.ShloMosaic.TcCoe Idealize.SL.Sem
open Cert.Reference8Ideal Cert.Reference8Ideal.Gen Cert.Reference8Ideal.Read Cert.Buckets

/-- The distance of a query from a key. -/
theorem val15 (d : Fin 6) (r q : Fin 256) : val_main_v15 (F := Ideal) (ix3 d r q) = BitVec.ofInt 32 (256 * (d.val : ℤ) + q.val - r.val) := by
  have h : val_main_v15 (F := Ideal) (ix3 d r q) = IntOp.subi (IntOp.addi (IntOp.muli (BitVec.ofNat 32 256) (BitVec.ofNat 32 d.val)) (BitVec.ofNat 32 q.val)) (BitVec.ofNat 32 r.val) := by
    unfold val_main_v15 val_main_v14 val_main_v13 val_main_v12 val_main_v11 val_main_v10 val_main_v9 val_main_v8 val_main_v7 val_main_v6 val_main_v5 val_main_v4 val_main_v3 val_main_v2 val_main_v1 val_main_v0 val_main_c
    pointwise
  rw [h, show IntOp.muli (BitVec.ofNat 32 256) (BitVec.ofNat 32 d.val) = BitVec.ofNat 32 (256 * d.val) from (BitVec.ofNat_mul 256 d.val).symm, sum_word, diff_word]
  push_cast
  rfl

/-- The distance, clamped at zero. -/
theorem val19 (d : Fin 6) (r q : Fin 256) : val_main_v19 (F := Ideal) (ix3 d r q) = BitVec.ofNat 32 (256 * (d.val : ℤ) + q.val - r.val).toNat := by
  rw [val_main_v19_apply, val15]
  unfold val_main_v18 val_main_c_0
  pointwise
  exact clamp_word _ (by omega) (by omega)

/-- The bucket of the distance. -/
theorem val38 (d : Fin 6) (r q : Fin 256) : val_main_v38 (F := Ideal) (ix3 d r q) = BitVec.ofNat 32 (bucket (256 * (d.val : ℤ) + q.val - r.val).toNat).val := by
  rw [← layerBucket_eq _ (by omega), ← val19]
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_c_1 val_main_c_4 val_main_c_5 val_main_c_6 val_main_cst val_main_cst_2 val_main_cst_3
  pointwise
  rfl

/-- The bucket's index, kept as it is. -/
theorem val43 (d : Fin 6) (r q : Fin 256) : val_main_v43 (F := Ideal) (ix3 d r q) = BitVec.ofNat 32 (bucket (256 * (d.val : ℤ) + q.val - r.val).toNat).val := by
  unfold val_main_v43 val_main_v42 val_main_v41 val_main_v40 val_main_v39 val_main_c_7 val_main_c_8
  pointwise
  rw [val38]
  exact index_word _ 32 (by omega)

/-- The head's index, kept as it is. -/
theorem val48 (h : Fin 8) : val_main_v48 (F := Ideal) (ix4 h (0 : Fin 1) (0 : Fin 1) (0 : Fin 1)) = BitVec.ofNat 32 h.val := by
  unfold val_main_v48 val_main_v47 val_main_v46 val_main_v45 val_main_v44 val_main_v17 val_main_v16 val_main_c_9 val_main_c_10
  pointwise
  exact index_word _ 8 (by omega)

/-- The row of the gathered entry is the bucket, -/
theorem val53_row (h : Fin 8) (d : Fin 6) (r q : Fin 256) : val_main_v53 (F := Ideal) (ix5 h d r q (0 : Fin 2)) = BitVec.ofNat 32 (bucket (256 * (d.val : ℤ) + q.val - r.val).toNat).val := by
  rw [← val43]
  unfold val_main_v53 val_main_v51 val_main_v49
  pointwise

/-- and its column the head. -/
theorem val53_column (h : Fin 8) (d : Fin 6) (r q : Fin 256) : val_main_v53 (F := Ideal) (ix5 h d r q (1 : Fin 2)) = BitVec.ofNat 32 h.val := by
  rw [← val48]
  unfold val_main_v53 val_main_v52 val_main_v50
  pointwise

/-- The bias of the distance's bucket. -/
theorem val54 (x : (⟨S32x8, .f32⟩ : BufTy).Contents (Elt Ideal)) (h : Fin 8) (d : Fin 6) (r q : Fin 256) :
    val_main_v54 x (ix4 h d r q) = x (ix2 (bucket (256 * (d.val : ℤ) + q.val - r.val).toNat) h) := by
  have hi : ∀ (e : Fin 2) (j : Fin gather_S32x8_S8x6x256x256x2_S8x6x256x256_n_01_n_n_01_4_11.startIndexMap.length), j.val = e.val →
      gather_S32x8_S8x6x256x256x2_S8x6x256x256_n_01_n_n_01_4_11.siIdx (ix4 h d r q) j = ix5 h d r q e := by
    intro e j hj
    funext b; refine Fin.ext ?_
    match b with
    | ⟨0, _⟩ => rfl
    | ⟨1, _⟩ => rfl
    | ⟨2, _⟩ => rfl
    | ⟨3, _⟩ => rfl
    | ⟨4, _⟩ => exact hj
  exact gather_pair _ rfl rfl rfl rfl x _ _ _ h (fun j hj => (congrArg _ (hi 0 j hj)).trans (val53_row h d r q)) (fun j hj => (congrArg _ (hi 1 j hj)).trans (val53_column h d r q))

/-- The bias in base two, masked. -/
theorem val59 (x : (⟨S32x8, .f32⟩ : BufTy).Contents (Elt Ideal)) (h : Fin 8) (d : Fin 6) (r q : Fin 256) :
    val_main_v59 x (ix4 h d r q) = Scalar.select (IntOp.cmpi .sge (BitVec.ofInt 32 (256 * (d.val : ℤ) + q.val - r.val)) 0#32)
      (x (ix2 (bucket (256 * (d.val : ℤ) + q.val - r.val).toNat) h) * Ideal.ofBits .f32 0x3FB8AA3B#32) (Ideal.ofBits .f32 0xF1C9F2CA#32) := by
  rw [← val54 x h d r q, ← val15 d r q]
  unfold val_main_v59 val_main_v58 val_main_v57 val_main_call1_v2 val_main_call1_v1 val_main_call1_v0 val_main_v56 val_main_v55 val_main_c_11 val_main_cst_12 val_main_cst_13
  pointwise
  rfl

end Cert.BiasPromptReference

end
-- ==== Proof.BiasPromptRun.lean ====
/- The prompts' relative-position bias: the program computes the layer's mathematics. -/
module

public import proofs.«01_k».proof.Defs
public import proofs.«01_k».proof.Proof.BiasPrompt
public import proofs.«01_k».proof.Proof.BiasPromptReference
public import proofs.«01_k».proof.Proof.Gen.Reference8Ideal.Run

@[expose] public section

set_option maxRecDepth 16384

noncomputable section

namespace Cert.Bias

open Idealize.ShloMosaic Idealize.ShloMosaic.TcCoe Idealize.SL.Sem

section
open Cert.Kernel8Ideal Cert.Kernel8Ideal.Gen Cert.Reference8Ideal.Read

variable (m : (ℓ : Loc nD τ sig) → Buf (Elt Ideal) ℓ)

/-- The step's head and its block of the result. -/
theorem promptIdx : ∀ t : Fin cfg0.N, (grid0.coords t 0).val = t.val ∧ win0_0.index t = ![0, 0] ∧ win0_1.index t = ![t.val, 0, 0, 0] := by
  decide +kernel

/-- The table, read whole. -/
theorem promptTable (t : Fin cfg0.N) (b : Fin 32) (h : Fin 8) (c : Dev nD) : iblk m c 0 t (ix2 b h) = m (c.tc.loc main_arg0) (ix2 b h) := by
  blk_ext! [iblk, V, promptIdx t]

/-- The bias's array is the reference's. -/
theorem promptBias (c : Dev nD) (i : S8x6x256x256.Idx) :
    (dats m 0 c).arrAt 1 cfg0.N i = val_main_v59 (F := Ideal) (m (c.tc.loc main_arg0)) i := by
  refine (dats m 0 c).arrAt_forall_of_covers 1 (fun (i : S8x6x256x256.Idx) v => v
    = val_main_v59 (F := Ideal) (m (c.tc.loc main_arg0)) i) (by decide +kernel) (fun t hf y => ?_) i
  blk_simp
  rw [after0_1]
  unfold outsAt0
  change S1x6x256x256.Idx at y
  idx_vars y
  have ht : t.val < 8 := t.isLt
  have he : ((View.whole main_v0).slice (win0_1.rect t)).emb (ix4 y0 y1 y2 y3) = (ix4 (⟨t.val, ht⟩ : Fin 8) y1 y2 y3 : S8x6x256x256.Idx) := by
    blk_ext [promptIdx t]
  obtain rfl : y0 = (0 : Fin 1) := Fin.fin_one_eq_zero y0
  have hh : BiasPrompt.head (grid0.coords t) = ⟨t.val, ht⟩ := Fin.ext (promptIdx t).1
  rw [he, BiasPromptReference.val59 _ ⟨t.val, ht⟩ y1 y2 y3]
  refine (BiasPrompt.out_block c (grid0.coords t) (ms0_0 t) (hs0_0 t) (ms0_1 t) (hs0_1 t) (iblk m c 0 t) y1 y2 y3).trans ?_
  rw [hh, promptTable]

end

/-- The call writes the prompts' masked bias, in base two. -/
theorem prompt : Cert.algebraic_Kernel8Ideal_Reference8Ideal := by
  intro m g m' g' _ hm
  refine ⟨fun c => Cert.Reference8Ideal.Read.val_main_v59 (F := Ideal) (m' (c.tc.loc Cert.Reference8Ideal.main_arg0)), ?_, ?_⟩
  · refine (θ_run _ _ _).mono (fun r h c => ?_) (Cert.Kernel8Ideal.Value.run_blocks m g)
    obtain ⟨h0, kept⟩ := h c
    beta_reduce
    rw [hm c]
    exact ⟨h0.trans (funext fun i => promptBias m c i), kept⟩
  · refine (θ_run _ _ _).mono (fun r h c => ?_) (Cert.Reference8Ideal.Value.run m' g')
    obtain ⟨h0, kept⟩ := h c
    exact ⟨h0.trans (Cert.Reference8Ideal.Read.val_main_v59_eq m' c), kept⟩

end Cert.Bias

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.Gen.Kernel
public import proofs.«01_k».proof.Proof.Gen.KernelIdeal
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2Ideal.Frame
public import proofs.«01_k».proof.Proof.Gen.Kernel2
public import proofs.«01_k».proof.Proof.Gen.Kernel2Ideal
public import proofs.«01_k».proof.Proof.Gen.Reference2Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel3Ideal.Frame
public import proofs.«01_k».proof.Proof.Gen.Kernel3
public import proofs.«01_k».proof.Proof.Gen.Kernel3Ideal
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel4Ideal.Frame
public import proofs.«01_k».proof.Proof.Gen.Kernel4
public import proofs.«01_k».proof.Proof.Gen.Kernel4Ideal
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel5Ideal.Frame
public import proofs.«01_k».proof.Proof.Gen.Kernel5
public import proofs.«01_k».proof.Proof.Gen.Kernel5Ideal
public import proofs.«01_k».proof.Proof.Gen.Reference5Ideal
public import proofs.«01_k».proof.Proof.Gen.Pre_decays
public import proofs.«01_k».proof.Proof.Gen.On_sample_rows
public import proofs.«01_k».proof.Proof.Gen.On_token_rows
public import proofs.«01_k».proof.Proof.Gen.On_mixed_rows

public import proofs.«01_k».proof.Proof.Projections
public import proofs.«01_k».proof.Proof.Recurrence
public import proofs.«01_k».proof.Proof.Routing
public import proofs.«01_k».proof.Proof.BiasSampleRun
public import proofs.«01_k».proof.Proof.BiasPromptRun
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel6Ideal.Frame
public import proofs.«01_k».proof.Proof.Gen.Kernel6
public import proofs.«01_k».proof.Proof.Gen.Kernel6Ideal
public import proofs.«01_k».proof.Proof.Gen.Reference6Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import proofs.«01_k».proof.Proof.Gen.Kernel7Ideal.Frame
public import proofs.«01_k».proof.Proof.Gen.Kernel7
public import proofs.«01_k».proof.Proof.Gen.Kernel7Ideal
public import proofs.«01_k».proof.Proof.Gen.Reference7Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Gen.Kernel8Ideal.Frame
public import proofs.«01_k».proof.Proof.Gen.Kernel8
public import proofs.«01_k».proof.Proof.Gen.Kernel8Ideal
public import proofs.«01_k».proof.Proof.Gen.Reference8Ideal
public import proofs.«01_k».proof.Proof.Gen.Pre_finite
public import proofs.«01_k».proof.Defs
public import Idealize.ShloMosaic.Adequacy
public import Idealize.ShloMosaic.Init

@[expose] public section

noncomputable section

namespace Cert.Proof

open Idealize.ShloMosaic Idealize.SL.Sem

/-- Every claim of the certificate: the frames, the ideal programs, and the values. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_decays.Gen.facts, Cert.Pre_finite.Gen.facts, Cert.On_sample_rows.Gen.facts, Cert.On_token_rows.Gen.facts, Cert.On_mixed_rows.Gen.facts,
   fun m ρ _ => Cert.Kernel.Gen.frame m ρ,
   fun m ρ _ => Cert.KernelIdeal.Gen.frame m ρ,
   fun m ρ _ => Cert.KernelIdeal.Gen.frame m ρ,
   fun m ρ _ => (θ_run _ _ _).mono (fun r h => ⟨fun c => (h c).2.2, sem_eq_zero_of_no_sems (by decide) r.2⟩) (Cert.ReferenceIdeal.Value.run m ρ),
   fun m ρ _ => (θ_run _ _ _).mono (fun r h => ⟨fun c => (h c).2.2, sem_eq_zero_of_no_sems (by decide) r.2⟩) (Cert.ReferenceIdeal.Value.run m ρ),
   fun m ρ _ => Cert.Kernel2.Gen.frame m ρ,
   fun m ρ _ => Cert.Kernel2Ideal.Gen.frame m ρ,
   fun m ρ _ => (θ_run _ _ _).mono (fun r h => ⟨fun c => (h c).2.2.2.2.2.2.2.2.2.2, sem_eq_zero_of_no_sems (by decide) r.2⟩) (Cert.Reference2Ideal.Value.run m ρ),
   fun m ρ _ => Cert.Kernel3.Gen.frame m ρ,
   fun m ρ _ => Cert.Kernel3Ideal.Gen.frame m ρ,
   fun m ρ _ => (θ_run _ _ _).mono (fun r h => ⟨fun c => (h c).2.2.2.2.2.2.2.2.2, sem_eq_zero_of_no_sems (by decide) r.2⟩) (Cert.Reference3Ideal.Value.run m ρ),
   fun m ρ _ => Cert.Kernel4.Gen.frame m ρ,
   fun m ρ _ => Cert.Kernel4Ideal.Gen.frame m ρ,
   fun m ρ _ => (θ_run _ _ _).mono (fun r h => ⟨fun c => (h c).2, sem_eq_zero_of_no_sems (by decide) r.2⟩) (Cert.Reference4Ideal.Value.run m ρ),
   fun m ρ _ => Cert.Kernel5.Gen.frame m ρ,
   fun m ρ _ => Cert.Kernel5Ideal.Gen.frame m ρ,
   fun m ρ _ => (θ_run _ _ _).mono (fun r h => ⟨fun c => (h c).2, sem_eq_zero_of_no_sems (by decide) r.2⟩) (Cert.Reference5Ideal.Value.run m ρ),
   fun m ρ _ => Cert.Kernel6.Gen.frame m ρ,
   fun m ρ _ => Cert.Kernel6Ideal.Gen.frame m ρ,
   fun m ρ _ => Cert.Kernel6Ideal.Gen.frame m ρ,
   fun m ρ _ => (θ_run _ _ _).mono (fun r h => ⟨fun c => (h c).2, sem_eq_zero_of_no_sems (by decide) r.2⟩) (Cert.Reference6Ideal.Value.run m ρ),
   fun m ρ _ => (θ_run _ _ _).mono (fun r h => ⟨fun c => (h c).2, sem_eq_zero_of_no_sems (by decide) r.2⟩) (Cert.Reference6Ideal.Value.run m ρ),
   fun m ρ _ => Cert.Kernel7.Gen.frame m ρ,
   fun m ρ _ => Cert.Kernel7Ideal.Gen.frame m ρ,
   fun m ρ _ => (θ_run _ _ _).mono (fun r h => ⟨fun c => (h c).2, sem_eq_zero_of_no_sems (by decide) r.2⟩) (Cert.Reference7Ideal.Value.run m ρ),
   fun m ρ _ => Cert.Kernel8.Gen.frame m ρ,
   fun m ρ _ => Cert.Kernel8Ideal.Gen.frame m ρ,
   fun m ρ _ => (θ_run _ _ _).mono (fun r h => ⟨fun c => (h c).2, sem_eq_zero_of_no_sems (by decide) r.2⟩) (Cert.Reference8Ideal.Value.run m ρ),
   trivial,
   Cert.Recurrence.sample,
   trivial,
   Cert.Projections.inPrompt,
   trivial,
   Cert.Projections.inSample,
   trivial,
   Cert.Projections.outPrompt,
   trivial,
   Cert.Projections.outSample,
   trivial,
   Cert.Routing.prompts,
   trivial,
   Cert.Bias.sample,
   trivial,
   Cert.Bias.prompt⟩

end Cert.Proof

end
